-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44))
      ∧ r.2.sem = fun _ => 0)

def preserves_Kernel_KernelIdeal : Prop :=
  IdealRules.named_const.Statement Cert.KernelIdeal.κ "inv_400" .f32 0x3B23D70A#32 ((1 / 400 : ℝ) : EReal)
  ∧ IdealRules.named_const.Statement Cert.KernelIdeal.κ "inv_1600" .f32 0x3A23D70A#32 ((1 / 1600 : ℝ) : EReal)
  ∧ IdealRules.named_const.Statement Cert.KernelIdeal.κ "inv_6400" .f32 0x3923D70A#32 ((1 / 6400 : ℝ) : EReal)

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)) (v2 : (c : Dev Cert.KernelIdeal.nD) → Buf (Elt Ideal) ((c.tc : Thread Cert.KernelIdeal.nD Cert.KernelIdeal.τ).loc Cert.KernelIdeal.main_v117)) (v3 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_v117) = v2 c
          ∧ r.2.mem ((c.tc : Thread Cert.KernelIdeal.nD Cert.KernelIdeal.τ).loc Cert.KernelIdeal.main_v118) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v598) = v0 c
          ∧ r.2.mem ((c.tc : Thread Cert.ReferenceIdeal.nD Cert.ReferenceIdeal.τ).loc Cert.ReferenceIdeal.main_v599) = v1 c
          ∧ r.2.mem ((c.tc : Thread Cert.ReferenceIdeal.nD Cert.ReferenceIdeal.τ).loc Cert.ReferenceIdeal.main_v639) = v2 c
          ∧ r.2.mem ((c.tc : Thread Cert.ReferenceIdeal.nD Cert.ReferenceIdeal.τ).loc Cert.ReferenceIdeal.main_v640) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44))

def Claim : Prop :=
  ∃ (hKernel : Cert.Kernel.Facts) (hKernelIdeal : Cert.KernelIdeal.Facts) (hReferenceIdeal : Cert.ReferenceIdeal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ preserves_Kernel_KernelIdeal
    ∧ algebraic_KernelIdeal_ReferenceIdeal_pre_finite_operands (hKernelIdeal := hKernelIdeal) (hReferenceIdeal := hReferenceIdeal) (hPre_finite_operands := hPre_finite_operands)
-- ==== Pre_finite_operands.lean ====
abbrev S16x1024x20x20 : Shape := ⟨4, ![16, 1024, 20, 20]⟩
abbrev S16x512x40x40 : Shape := ⟨4, ![16, 512, 40, 40]⟩
abbrev S16x256x80x80 : Shape := ⟨4, ![16, 256, 80, 80]⟩
abbrev S1024x1024x1x1 : Shape := ⟨4, ![1024, 1024, 1, 1]⟩
abbrev S1024 : Shape := ⟨1, ![1024]⟩
abbrev S80x1024x3x3 : Shape := ⟨4, ![80, 1024, 3, 3]⟩
abbrev S80 : Shape := ⟨1, ![80]⟩
abbrev S68x1024x3x3 : Shape := ⟨4, ![68, 1024, 3, 3]⟩
abbrev S68 : Shape := ⟨1, ![68]⟩
abbrev S512x512x1x1 : Shape := ⟨4, ![512, 512, 1, 1]⟩
abbrev S512 : Shape := ⟨1, ![512]⟩
abbrev S80x512x3x3 : Shape := ⟨4, ![80, 512, 3, 3]⟩
abbrev S68x512x3x3 : Shape := ⟨4, ![68, 512, 3, 3]⟩
abbrev S256x256x1x1 : Shape := ⟨4, ![256, 256, 1, 1]⟩
abbrev S256 : Shape := ⟨1, ![256]⟩
abbrev S80x256x3x3 : Shape := ⟨4, ![80, 256, 3, 3]⟩
abbrev S68x256x3x3 : Shape := ⟨4, ![68, 256, 3, 3]⟩
abbrev S_ : Shape := ⟨0, ![]⟩

class Facts : Prop where
  bcast_S_S16x1024x20x20 : S_.BroadcastsInDim S16x1024x20x20 (![] : Fin 0 → Fin S16x1024x20x20.rank)
  reducesTo_S16x1024x20x20_S_d0_1_2_3 : S16x1024x20x20.ReducesTo [0, 1, 2, 3] S_
  h_S_ : 0 < S_.numel
  bcast_S_S16x512x40x40 : S_.BroadcastsInDim S16x512x40x40 (![] : Fin 0 → Fin S16x512x40x40.rank)
  reducesTo_S16x512x40x40_S_d0_1_2_3 : S16x512x40x40.ReducesTo [0, 1, 2, 3] S_
  bcast_S_S16x256x80x80 : S_.BroadcastsInDim S16x256x80x80 (![] : Fin 0 → Fin S16x256x80x80.rank)
  reducesTo_S16x256x80x80_S_d0_1_2_3 : S16x256x80x80.ReducesTo [0, 1, 2, 3] S_
  bcast_S_S1024x1024x1x1 : S_.BroadcastsInDim S1024x1024x1x1 (![] : Fin 0 → Fin S1024x1024x1x1.rank)
  reducesTo_S1024x1024x1x1_S_d0_1_2_3 : S1024x1024x1x1.ReducesTo [0, 1, 2, 3] S_
  bcast_S_S1024 : S_.BroadcastsInDim S1024 (![] : Fin 0 → Fin S1024.rank)
  reducesTo_S1024_S_d0 : S1024.ReducesTo [0] S_
  bcast_S_S512x512x1x1 : S_.BroadcastsInDim S512x512x1x1 (![] : Fin 0 → Fin S512x512x1x1.rank)
  reducesTo_S512x512x1x1_S_d0_1_2_3 : S512x512x1x1.ReducesTo [0, 1, 2, 3] S_
  bcast_S_S512 : S_.BroadcastsInDim S512 (![] : Fin 0 → Fin S512.rank)
  reducesTo_S512_S_d0 : S512.ReducesTo [0] S_
  bcast_S_S256x256x1x1 : S_.BroadcastsInDim S256x256x1x1 (![] : Fin 0 → Fin S256x256x1x1.rank)
  reducesTo_S256x256x1x1_S_d0_1_2_3 : S256x256x1x1.ReducesTo [0, 1, 2, 3] S_
  bcast_S_S256 : S_.BroadcastsInDim S256 (![] : Fin 0 → Fin S256.rank)
  reducesTo_S256_S_d0 : S256.ReducesTo [0] S_

variable [Facts]

def fn_part4 {F : FTy → Type} [FloatOps F] (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v65 : IVec S_ 1) : IVec S_ 1 :=
  let main_v66 : IVec S_ 1 := andi main_v65 main_v31
  let main_v67 : IVec S_ 1 := andi main_v66 main_v35
  let main_v68 : IVec S_ 1 := andi main_v67 main_v39
  let main_v69 : IVec S_ 1 := andi main_v68 main_v43
  let main_v70 : IVec S_ 1 := andi main_v69 main_v47
  let main_v71 : IVec S_ 1 := andi main_v70 main_v51
  let main_v72 : IVec S_ 1 := andi main_v71 main_v55
  let main_v73 : IVec S_ 1 := andi main_v72 main_v59
  main_v73

def fn_part3 {F : FTy → Type} [FloatOps F] (main_arg34 : FVec F S256 .f32) (main_arg38 : FVec F S256x256x1x1 .f32) (main_arg39 : FVec F S256 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S256 .f32 := Host.absf main_arg34
  let main_cst_22 : FVec F S_ .f32 := constant S_ .f32 0x7F800000#32
  let main_v49 : FVec F S256 .f32 := broadcastInDim S256 ![] bcast_S_S256 main_cst_22
  let main_v50 : IVec S256 1 := cmpf .olt main_v48 main_v49
  let main_c_23 : IVec S_ 1 := constantI S_ 1 1#1
  let main_v51 : IVec S_ 1 := (fun x v => Host.reduce IntOp.andi x v reducesTo_S256_S_d0 h_S_) main_v50 main_c_23
  let main_v52 : FVec F S256x256x1x1 .f32 := Host.absf main_arg38
  let main_cst_24 : FVec F S_ .f32 := constant S_ .f32 0x7F800000#32
  let main_v53 : FVec F S256x256x1x1 .f32 := broadcastInDim S256x256x1x1 ![] bcast_S_S256x256x1x1 main_cst_24
  let main_v54 : IVec S256x256x1x1 1 := cmpf .olt main_v52 main_v53
  let main_c_25 : IVec S_ 1 := constantI S_ 1 1#1
  let main_v55 : IVec S_ 1 := (fun x v => Host.reduce IntOp.andi x v reducesTo_S256x256x1x1_S_d0_1_2_3 h_S_) main_v54 main_c_25
  let main_v56 : FVec F S256 .f32 := Host.absf main_arg39
  let main_cst_26 : FVec F S_ .f32 := constant S_ .f32 0x7F800000#32
  let main_v57 : FVec F S256 .f32 := broadcastInDim S256 ![] bcast_S_S256 main_cst_26
  let main_v58 : IVec S256 1 := cmpf .olt main_v56 main_v57
  let main_c_27 : IVec S_ 1 := constantI S_ 1 1#1
  let main_v59 : IVec S_ 1 := (fun x v => Host.reduce IntOp.andi x v reducesTo_S256_S_d0 h_S_) main_v58 main_c_27
  let main_v60 : IVec S_ 1 := andi main_v3 main_v7
  let main_v61 : IVec S_ 1 := andi main_v60 main_v11
  let main_v62 : IVec S_ 1 := andi main_v61 main_v15
  let main_v63 : IVec S_ 1 := andi main_v62 main_v19
  let main_v64 : IVec S_ 1 := andi main_v63 main_v23
  let main_v65 : IVec S_ 1 := andi main_v64 main_v27
  fn_part4 (F := F) main_v31 main_v35 main_v39 main_v43 main_v47 main_v51 main_v55 main_v59 main_v65

def fn_part2 {F : FTy → Type} [FloatOps F] (main_arg20 : FVec F S512 .f32) (main_arg24 : FVec F S512x512x1x1 .f32) (main_arg25 : FVec F S512 .f32) (main_arg33 : FVec F S256x256x1x1 .f32) (main_arg34 : FVec F S256 .f32) (main_arg38 : FVec F S256x256x1x1 .f32) (main_arg39 : FVec F S256 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S512 .f32 := Host.absf main_arg20
  let main_cst_14 : FVec F S_ .f32 := constant S_ .f32 0x7F800000#32
  let main_v33 : FVec F S512 .f32 := broadcastInDim S512 ![] bcast_S_S512 main_cst_14
  let main_v34 : IVec S512 1 := cmpf .olt main_v32 main_v33
  let main_c_15 : IVec S_ 1 := constantI S_ 1 1#1
  let main_v35 : IVec S_ 1 := (fun x v => Host.reduce IntOp.andi x v reducesTo_S512_S_d0 h_S_) main_v34 main_c_15
  let main_v36 : FVec F S512x512x1x1 .f32 := Host.absf main_arg24
  let main_cst_16 : FVec F S_ .f32 := constant S_ .f32 0x7F800000#32
  let main_v37 : FVec F S512x512x1x1 .f32 := broadcastInDim S512x512x1x1 ![] bcast_S_S512x512x1x1 main_cst_16
  let main_v38 : IVec S512x512x1x1 1 := cmpf .olt main_v36 main_v37
  let main_c_17 : IVec S_ 1 := constantI S_ 1 1#1
  let main_v39 : IVec S_ 1 := (fun x v => Host.reduce IntOp.andi x v reducesTo_S512x512x1x1_S_d0_1_2_3 h_S_) main_v38 main_c_17
  let main_v40 : FVec F S512 .f32 := Host.absf main_arg25
  let main_cst_18 : FVec F S_ .f32 := constant S_ .f32 0x7F800000#32
  let main_v41 : FVec F S512 .f32 := broadcastInDim S512 ![] bcast_S_S512 main_cst_18
  let main_v42 : IVec S512 1 := cmpf .olt main_v40 main_v41
  let main_c_19 : IVec S_ 1 := constantI S_ 1 1#1
  let main_v43 : IVec S_ 1 := (fun x v => Host.reduce IntOp.andi x v reducesTo_S512_S_d0 h_S_) main_v42 main_c_19
  let main_v44 : FVec F S256x256x1x1 .f32 := Host.absf main_arg33
  let main_cst_20 : FVec F S_ .f32 := constant S_ .f32 0x7F800000#32
  let main_v45 : FVec F S256x256x1x1 .f32 := broadcastInDim S256x256x1x1 ![] bcast_S_S256x256x1x1 main_cst_20
  let main_v46 : IVec S256x256x1x1 1 := cmpf .olt main_v44 main_v45
  let main_c_21 : IVec S_ 1 := constantI S_ 1 1#1
  let main_v47 : IVec S_ 1 := (fun x v => Host.reduce IntOp.andi x v reducesTo_S256x256x1x1_S_d0_1_2_3 h_S_) main_v46 main_c_21
  fn_part3 (F := F) main_arg34 main_arg38 main_arg39 main_v3 main_v7 main_v11 main_v15 main_v19 main_v23 main_v27 main_v31 main_v35 main_v39 main_v43 main_v47

def fn_part1 {F : FTy → Type} [FloatOps F] (main_arg6 : FVec F S1024 .f32) (main_arg10 : FVec F S1024x1024x1x1 .f32) (main_arg11 : FVec F S1024 .f32) (main_arg19 : FVec F S512x512x1x1 .f32) (main_arg20 : FVec F S512 .f32) (main_arg24 : FVec F S512x512x1x1 .f32) (main_arg25 : FVec F S512 .f32) (main_arg33 : FVec F S256x256x1x1 .f32) (main_arg34 : FVec F S256 .f32) (main_arg38 : FVec F S256x256x1x1 .f32) (main_arg39 : FVec F S256 .f32) (main_v3 : IVec S_ 1) (main_v7 : IVec S_ 1) (main_v11 : IVec S_ 1) (main_v15 : IVec S_ 1) : IVec S_ 1 :=
  let main_v16 : FVec F S1024 .f32 := Host.absf main_arg6
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024x1024x1x1 .f32 := Host.absf main_arg10
  let main_cst_8 : FVec F S_ .f32 := constant S_ .f32 0x7F800000#32
  let main_v21 : FVec F S1024x1024x1x1 .f32 := broadcastInDim S1024x1024x1x1 ![] bcast_S_S1024x1024x1x1 main_cst_8
  let main_v22 : IVec S1024x1024x1x1 1 := cmpf .olt main_v20 main_v21
  let main_c_9 : IVec S_ 1 := constantI S_ 1 1#1
  let main_v23 : IVec S_ 1 := (fun x v => Host.reduce IntOp.andi x v reducesTo_S1024x1024x1x1_S_d0_1_2_3 h_S_) main_v22 main_c_9
  let main_v24 : FVec F S1024 .f32 := Host.absf main_arg11
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : FVec F S512x512x1x1 .f32 := Host.absf main_arg19
  let main_cst_12 : FVec F S_ .f32 := constant S_ .f32 0x7F800000#32
  let main_v29 : FVec F S512x512x1x1 .f32 := broadcastInDim S512x512x1x1 ![] bcast_S_S512x512x1x1 main_cst_12
  let main_v30 : IVec S512x512x1x1 1 := cmpf .olt main_v28 main_v29
  let main_c_13 : IVec S_ 1 := constantI S_ 1 1#1
  let main_v31 : IVec S_ 1 := (fun x v => Host.reduce IntOp.andi x v reducesTo_S512x512x1x1_S_d0_1_2_3 h_S_) main_v30 main_c_13
  fn_part2 (F := F) main_arg20 main_arg24 main_arg25 main_arg33 main_arg34 main_arg38 main_arg39 main_v3 main_v7 main_v11 main_v15 main_v19 main_v23 main_v27 main_v31

def fn {F : FTy → Type} [FloatOps F] (main_arg0 : FVec F S16x1024x20x20 .f32) (main_arg1 : FVec F S16x512x40x40 .f32) (main_arg2 : FVec F S16x256x80x80 .f32) (main_arg3 : FVec F S1024x1024x1x1 .f32) (main_arg4 : FVec F S1024 .f32) (main_arg5 : FVec F S1024x1024x1x1 .f32) (main_arg6 : FVec F S1024 .f32) (main_arg7 : FVec F S1024 .f32) (main_arg8 : FVec F S1024x1024x1x1 .f32) (main_arg9 : FVec F S1024 .f32) (main_arg10 : FVec F S1024x1024x1x1 .f32) (main_arg11 : FVec F S1024 .f32) (main_arg12 : FVec F S1024 .f32) (main_arg13 : FVec F S80x1024x3x3 .f32) (main_arg14 : FVec F S80 .f32) (main_arg15 : FVec F S68x1024x3x3 .f32) (main_arg16 : FVec F S68 .f32) (main_arg17 : FVec F S512x512x1x1 .f32) (main_arg18 : FVec F S512 .f32) (main_arg19 : FVec F S512x512x1x1 .f32) (main_arg20 : FVec F S512 .f32) (main_arg21 : FVec F S512 .f32) (main_arg22 : FVec F S512x512x1x1 .f32) (main_arg23 : FVec F S512 .f32) (main_arg24 : FVec F S512x512x1x1 .f32) (main_arg25 : FVec F S512 .f32) (main_arg26 : FVec F S512 .f32) (main_arg27 : FVec F S80x512x3x3 .f32) (main_arg28 : FVec F S80 .f32) (main_arg29 : FVec F S68x512x3x3 .f32) (main_arg30 : FVec F S68 .f32) (main_arg31 : FVec F S256x256x1x1 .f32) (main_arg32 : FVec F S256 .f32) (main_arg33 : FVec F S256x256x1x1 .f32) (main_arg34 : FVec F S256 .f32) (main_arg35 : FVec F S256 .f32) (main_arg36 : FVec F S256x256x1x1 .f32) (main_arg37 : FVec F S256 .f32) (main_arg38 : FVec F S256x256x1x1 .f32) (main_arg39 : FVec F S256 .f32) (main_arg40 : FVec F S256 .f32) (main_arg41 : FVec F S80x256x3x3 .f32) (main_arg42 : FVec F S80 .f32) (main_arg43 : FVec F S68x256x3x3 .f32) (main_arg44 : FVec F S68 .f32) : IVec S_ 1 :=
  let main_v0 : FVec F S16x1024x20x20 .f32 := Host.absf main_arg0
  let main_cst : FVec F S_ .f32 := constant S_ .f32 0x7F800000#32
  let main_v1 : FVec F S16x1024x20x20 .f32 := broadcastInDim S16x1024x20x20 ![] bcast_S_S16x1024x20x20 main_cst
  let main_v2 : IVec S16x1024x20x20 1 := cmpf .olt main_v0 main_v1
  let main_c : IVec S_ 1 := constantI S_ 1 1#1
  let main_v3 : IVec S_ 1 := (fun x v => Host.reduce IntOp.andi x v reducesTo_S16x1024x20x20_S_d0_1_2_3 h_S_) main_v2 main_c
  let main_v4 : FVec F S16x512x40x40 .f32 := Host.absf main_arg1
  let main_cst_0 : FVec F S_ .f32 := constant S_ .f32 0x7F800000#32
  let main_v5 : FVec F S16x512x40x40 .f32 := broadcastInDim S16x512x40x40 ![] bcast_S_S16x512x40x40 main_cst_0
  let main_v6 : IVec S16x512x40x40 1 := cmpf .olt main_v4 main_v5
  let main_c_1 : IVec S_ 1 := constantI S_ 1 1#1
  let main_v7 : IVec S_ 1 := (fun x v => Host.reduce IntOp.andi x v reducesTo_S16x512x40x40_S_d0_1_2_3 h_S_) main_v6 main_c_1
  let main_v8 : FVec F S16x256x80x80 .f32 := Host.absf main_arg2
  let main_cst_2 : FVec F S_ .f32 := constant S_ .f32 0x7F800000#32
  let main_v9 : FVec F S16x256x80x80 .f32 := broadcastInDim S16x256x80x80 ![] bcast_S_S16x256x80x80 main_cst_2
  let main_v10 : IVec S16x256x80x80 1 := cmpf .olt main_v8 main_v9
  let main_c_3 : IVec S_ 1 := constantI S_ 1 1#1
  let main_v11 : IVec S_ 1 := (fun x v => Host.reduce IntOp.andi x v reducesTo_S16x256x80x80_S_d0_1_2_3 h_S_) main_v10 main_c_3
  let main_v12 : FVec F S1024x1024x1x1 .f32 := Host.absf main_arg5
  let main_cst_4 : FVec F S_ .f32 := constant S_ .f32 0x7F800000#32
  let main_v13 : FVec F S1024x1024x1x1 .f32 := broadcastInDim S1024x1024x1x1 ![] bcast_S_S1024x1024x1x1 main_cst_4
  let main_v14 : IVec S1024x1024x1x1 1 := cmpf .olt main_v12 main_v13
  let main_c_5 : IVec S_ 1 := constantI S_ 1 1#1
  let main_v15 : IVec S_ 1 := (fun x v => Host.reduce IntOp.andi x v reducesTo_S1024x1024x1x1_S_d0_1_2_3 h_S_) main_v14 main_c_5
  fn_part1 (F := F) main_arg6 main_arg10 main_arg11 main_arg19 main_arg20 main_arg24 main_arg25 main_arg33 main_arg34 main_arg38 main_arg39 main_v3 main_v7 main_v11 main_v15
-- ==== Kernel.lean ====
abbrev S16x1024x20x20 : Shape := ⟨4, ![16, 1024, 20, 20]⟩
abbrev S16x512x40x40 : Shape := ⟨4, ![16, 512, 40, 40]⟩
abbrev S16x256x80x80 : Shape := ⟨4, ![16, 256, 80, 80]⟩
abbrev S1024x1024x1x1 : Shape := ⟨4, ![1024, 1024, 1, 1]⟩
abbrev S1024 : Shape := ⟨1, ![1024]⟩
abbrev S80x1024x3x3 : Shape := ⟨4, ![80, 1024, 3, 3]⟩
abbrev S80 : Shape := ⟨1, ![80]⟩
abbrev S68x1024x3x3 : Shape := ⟨4, ![68, 1024, 3, 3]⟩
abbrev S68 : Shape := ⟨1, ![68]⟩
abbrev S512x512x1x1 : Shape := ⟨4, ![512, 512, 1, 1]⟩
abbrev S512 : Shape := ⟨1, ![512]⟩
abbrev S80x512x3x3 : Shape := ⟨4, ![80, 512, 3, 3]⟩
abbrev S68x512x3x3 : Shape := ⟨4, ![68, 512, 3, 3]⟩
abbrev S256x256x1x1 : Shape := ⟨4, ![256, 256, 1, 1]⟩
abbrev S256 : Shape := ⟨1, ![256]⟩
abbrev S80x256x3x3 : Shape := ⟨4, ![80, 256, 3, 3]⟩
abbrev S68x256x3x3 : Shape := ⟨4, ![68, 256, 3, 3]⟩
abbrev S16x1024x400 : Shape := ⟨3, ![16, 1024, 400]⟩
abbrev S1024x1024 : Shape := ⟨2, ![1024, 1024]⟩
abbrev S2048x1024 : Shape := ⟨2, ![2048, 1024]⟩
abbrev S2048 : Shape := ⟨1, ![2048]⟩
abbrev S2048x1 : Shape := ⟨2, ![2048, 1]⟩
abbrev S3x80x3x1024 : Shape := ⟨4, ![3, 80, 3, 1024]⟩
abbrev S3x80x3072 : Shape := ⟨3, ![3, 80, 3072]⟩
abbrev S80x1 : Shape := ⟨2, ![80, 1]⟩
abbrev S3x68x3x1024 : Shape := ⟨4, ![3, 68, 3, 1024]⟩
abbrev S3x68x3072 : Shape := ⟨3, ![3, 68, 3072]⟩
abbrev S68x1 : Shape := ⟨2, ![68, 1]⟩
abbrev S16x80x400 : Shape := ⟨3, ![16, 80, 400]⟩
abbrev S16x4x400 : Shape := ⟨3, ![16, 4, 400]⟩
abbrev S4x1024x400 : Shape := ⟨3, ![4, 1024, 400]⟩
abbrev S4x80x400 : Shape := ⟨3, ![4, 80, 400]⟩
abbrev S4x4x400 : Shape := ⟨3, ![4, 4, 400]⟩
abbrev S1x1024x400 : Shape := ⟨3, ![1, 1024, 400]⟩
abbrev S1024x400 : Shape := ⟨2, ![1024, 400]⟩
abbrev S1024x1 : Shape := ⟨2, ![1024, 1]⟩
abbrev S1024x4 : Shape := ⟨2, ![1024, 4]⟩
abbrev S2048x4 : Shape := ⟨2, ![2048, 4]⟩
abbrev S1x400 : Shape := ⟨2, ![1, 400]⟩
abbrev S17x1 : Shape := ⟨2, ![17, 1]⟩
abbrev S1x2048 : Shape := ⟨2, ![1, 2048]⟩
abbrev S1x1024 : Shape := ⟨2, ![1, 1024]⟩
abbrev S2048x400 : Shape := ⟨2, ![2048, 400]⟩
abbrev S1024x20 : Shape := ⟨2, ![1024, 20]⟩
abbrev S1024x380 : Shape := ⟨2, ![1024, 380]⟩
abbrev S3072x400 : Shape := ⟨2, ![3072, 400]⟩
abbrev S1x80x3072 : Shape := ⟨3, ![1, 80, 3072]⟩
abbrev S80x3072 : Shape := ⟨2, ![80, 3072]⟩
abbrev S80x400 : Shape := ⟨2, ![80, 400]⟩
abbrev S1x68x3072 : Shape := ⟨3, ![1, 68, 3072]⟩
abbrev S68x3072 : Shape := ⟨2, ![68, 3072]⟩
abbrev S68x400 : Shape := ⟨2, ![68, 400]⟩
abbrev S17x400 : Shape := ⟨2, ![17, 400]⟩
abbrev S400 : Shape := ⟨1, ![400]⟩
abbrev S4x400 : Shape := ⟨2, ![4, 400]⟩
abbrev S1x80x400 : Shape := ⟨3, ![1, 80, 400]⟩
abbrev S1x4x400 : Shape := ⟨3, ![1, 4, 400]⟩
abbrev S16x512x1600 : Shape := ⟨3, ![16, 512, 1600]⟩
abbrev S512x512 : Shape := ⟨2, ![512, 512]⟩
abbrev S1024x512 : Shape := ⟨2, ![1024, 512]⟩
abbrev S3x80x3x512 : Shape := ⟨4, ![3, 80, 3, 512]⟩
abbrev S3x80x1536 : Shape := ⟨3, ![3, 80, 1536]⟩
abbrev S3x68x3x512 : Shape := ⟨4, ![3, 68, 3, 512]⟩
abbrev S3x68x1536 : Shape := ⟨3, ![3, 68, 1536]⟩
abbrev S16x80x1600 : Shape := ⟨3, ![16, 80, 1600]⟩
abbrev S16x4x1600 : Shape := ⟨3, ![16, 4, 1600]⟩
abbrev S2x512x1600 : Shape := ⟨3, ![2, 512, 1600]⟩
abbrev S2x80x1600 : Shape := ⟨3, ![2, 80, 1600]⟩
abbrev S2x4x1600 : Shape := ⟨3, ![2, 4, 1600]⟩
abbrev S1x512x1600 : Shape := ⟨3, ![1, 512, 1600]⟩
abbrev S512x1600 : Shape := ⟨2, ![512, 1600]⟩
abbrev S512x1 : Shape := ⟨2, ![512, 1]⟩
abbrev S512x2 : Shape := ⟨2, ![512, 2]⟩
abbrev S1024x2 : Shape := ⟨2, ![1024, 2]⟩
abbrev S1x1600 : Shape := ⟨2, ![1, 1600]⟩
abbrev S1x512 : Shape := ⟨2, ![1, 512]⟩
abbrev S1024x1600 : Shape := ⟨2, ![1024, 1600]⟩
abbrev S512x40 : Shape := ⟨2, ![512, 40]⟩
abbrev S512x1560 : Shape := ⟨2, ![512, 1560]⟩
abbrev S1536x1600 : Shape := ⟨2, ![1536, 1600]⟩
abbrev S1x80x1536 : Shape := ⟨3, ![1, 80, 1536]⟩
abbrev S80x1536 : Shape := ⟨2, ![80, 1536]⟩
abbrev S80x1600 : Shape := ⟨2, ![80, 1600]⟩
abbrev S1x68x1536 : Shape := ⟨3, ![1, 68, 1536]⟩
abbrev S68x1536 : Shape := ⟨2, ![68, 1536]⟩
abbrev S68x1600 : Shape := ⟨2, ![68, 1600]⟩
abbrev S17x1600 : Shape := ⟨2, ![17, 1600]⟩
abbrev S1600 : Shape := ⟨1, ![1600]⟩
abbrev S4x1600 : Shape := ⟨2, ![4, 1600]⟩
abbrev S1x80x1600 : Shape := ⟨3, ![1, 80, 1600]⟩
abbrev S1x4x1600 : Shape := ⟨3, ![1, 4, 1600]⟩
abbrev S16x256x6400 : Shape := ⟨3, ![16, 256, 6400]⟩
abbrev S256x256 : Shape := ⟨2, ![256, 256]⟩
abbrev S512x256 : Shape := ⟨2, ![512, 256]⟩
abbrev S3x80x3x256 : Shape := ⟨4, ![3, 80, 3, 256]⟩
abbrev S3x80x768 : Shape := ⟨3, ![3, 80, 768]⟩
abbrev S3x68x3x256 : Shape := ⟨4, ![3, 68, 3, 256]⟩
abbrev S3x68x768 : Shape := ⟨3, ![3, 68, 768]⟩
abbrev S16x80x8400 : Shape := ⟨3, ![16, 80, 8400]⟩
abbrev S16x4x8400 : Shape := ⟨3, ![16, 4, 8400]⟩
abbrev S1x256x6400 : Shape := ⟨3, ![1, 256, 6400]⟩
abbrev S1x80x8400 : Shape := ⟨3, ![1, 80, 8400]⟩
abbrev S1x4x8400 : Shape := ⟨3, ![1, 4, 8400]⟩
abbrev S256x6400 : Shape := ⟨2, ![256, 6400]⟩
abbrev S256x1 : Shape := ⟨2, ![256, 1]⟩
abbrev S1x6400 : Shape := ⟨2, ![1, 6400]⟩
abbrev S1x256 : Shape := ⟨2, ![1, 256]⟩
abbrev S512x6400 : Shape := ⟨2, ![512, 6400]⟩
abbrev S256x80 : Shape := ⟨2, ![256, 80]⟩
abbrev S256x6320 : Shape := ⟨2, ![256, 6320]⟩
abbrev S768x6400 : Shape := ⟨2, ![768, 6400]⟩
abbrev S1x80x768 : Shape := ⟨3, ![1, 80, 768]⟩
abbrev S80x768 : Shape := ⟨2, ![80, 768]⟩
abbrev S80x6400 : Shape := ⟨2, ![80, 6400]⟩
abbrev S1x68x768 : Shape := ⟨3, ![1, 68, 768]⟩
abbrev S68x768 : Shape := ⟨2, ![68, 768]⟩
abbrev S68x6400 : Shape := ⟨2, ![68, 6400]⟩
abbrev S17x6400 : Shape := ⟨2, ![17, 6400]⟩
abbrev S6400 : Shape := ⟨1, ![6400]⟩
abbrev S4x6400 : Shape := ⟨2, ![4, 6400]⟩
abbrev S1x80x6400 : Shape := ⟨3, ![1, 80, 6400]⟩
abbrev S1x4x6400 : Shape := ⟨3, ![1, 4, 6400]⟩
abbrev S20 : Shape := ⟨1, ![20]⟩
abbrev S_ : Shape := ⟨0, ![]⟩
abbrev S20x20 : Shape := ⟨2, ![20, 20]⟩
abbrev S20x20x1 : Shape := ⟨3, ![20, 20, 1]⟩
abbrev S20x20x2 : Shape := ⟨3, ![20, 20, 2]⟩
abbrev S400x2 : Shape := ⟨2, ![400, 2]⟩
abbrev S400x1 : Shape := ⟨2, ![400, 1]⟩
abbrev S40 : Shape := ⟨1, ![40]⟩
abbrev S40x40 : Shape := ⟨2, ![40, 40]⟩
abbrev S40x40x1 : Shape := ⟨3, ![40, 40, 1]⟩
abbrev S40x40x2 : Shape := ⟨3, ![40, 40, 2]⟩
abbrev S1600x2 : Shape := ⟨2, ![1600, 2]⟩
abbrev S1600x1 : Shape := ⟨2, ![1600, 1]⟩
abbrev S80x80 : Shape := ⟨2, ![80, 80]⟩
abbrev S80x80x1 : Shape := ⟨3, ![80, 80, 1]⟩
abbrev S80x80x2 : Shape := ⟨3, ![80, 80, 2]⟩
abbrev S6400x2 : Shape := ⟨2, ![6400, 2]⟩
abbrev S6400x1 : Shape := ⟨2, ![6400, 1]⟩
abbrev S8400x2 : Shape := ⟨2, ![8400, 2]⟩
abbrev S8400x1 : Shape := ⟨2, ![8400, 1]⟩

abbrev nBuf : Space → Nat
  | .hbm => 176
  | .vmem => 56
  | .smem => 0
  | _ => 0

abbrev hbmTy0_0 (i : Nat) : BufTy := match i % 128 with
  | 0 => ⟨S16x1024x20x20, .f32⟩
  | 1 => ⟨S16x512x40x40, .f32⟩
  | 2 => ⟨S16x256x80x80, .f32⟩
  | 3 => ⟨S1024x1024x1x1, .f32⟩
  | 4 => ⟨S1024, .f32⟩
  | 5 => ⟨S1024x1024x1x1, .f32⟩
  | 6 => ⟨S1024, .f32⟩
  | 7 => ⟨S1024, .f32⟩
  | 8 => ⟨S1024x1024x1x1, .f32⟩
  | 9 => ⟨S1024, .f32⟩
  | 10 => ⟨S1024x1024x1x1, .f32⟩
  | 11 => ⟨S1024, .f32⟩
  | 12 => ⟨S1024, .f32⟩
  | 13 => ⟨S80x1024x3x3, .f32⟩
  | 14 => ⟨S80, .f32⟩
  | 15 => ⟨S68x1024x3x3, .f32⟩
  | 16 => ⟨S68, .f32⟩
  | 17 => ⟨S512x512x1x1, .f32⟩
  | 18 => ⟨S512, .f32⟩
  | 19 => ⟨S512x512x1x1, .f32⟩
  | 20 => ⟨S512, .f32⟩
  | 21 => ⟨S512, .f32⟩
  | 22 => ⟨S512x512x1x1, .f32⟩
  | 23 => ⟨S512, .f32⟩
  | 24 => ⟨S512x512x1x1, .f32⟩
  | 25 => ⟨S512, .f32⟩
  | 26 => ⟨S512, .f32⟩
  | 27 => ⟨S80x512x3x3, .f32⟩
  | 28 => ⟨S80, .f32⟩
  | 29 => ⟨S68x512x3x3, .f32⟩
  | 30 => ⟨S68, .f32⟩
  | 31 => ⟨S256x256x1x1, .f32⟩
  | 32 => ⟨S256, .f32⟩
  | 33 => ⟨S256x256x1x1, .f32⟩
  | 34 => ⟨S256, .f32⟩
  | 35 => ⟨S256, .f32⟩
  | 36 => ⟨S256x256x1x1, .f32⟩
  | 37 => ⟨S256, .f32⟩
  | 38 => ⟨S256x256x1x1, .f32⟩
  | 39 => ⟨S256, .f32⟩
  | 40 => ⟨S256, .f32⟩
  | 41 => ⟨S80x256x3x3, .f32⟩
  | 42 => ⟨S80, .f32⟩
  | 43 => ⟨S68x256x3x3, .f32⟩
  | 44 => ⟨S68, .f32⟩
  | 45 => ⟨S16x1024x400, .f32⟩
  | 46 => ⟨S1024x1024, .f32⟩
  | 47 => ⟨S1024x1024, .bf16⟩
  | 48 => ⟨S1024x1024, .f32⟩
  | 49 => ⟨S1024x1024, .bf16⟩
  | 50 => ⟨S2048x1024, .bf16⟩
  | 51 => ⟨S2048, .f32⟩
  | 52 => ⟨S2048x1, .f32⟩
  | 53 => ⟨S2048, .f32⟩
  | 54 => ⟨S2048x1, .f32⟩
  | 55 => ⟨S2048x1, .bf16⟩
  | 56 => ⟨S2048, .f32⟩
  | 57 => ⟨S2048x1, .f32⟩
  | 58 => ⟨S1024x1024, .f32⟩
  | 59 => ⟨S1024x1024, .bf16⟩
  | 60 => ⟨S1024x1024, .f32⟩
  | 61 => ⟨S1024x1024, .bf16⟩
  | 62 => ⟨S3x80x3x1024, .f32⟩
  | 63 => ⟨S3x80x3072, .f32⟩
  | 64 => ⟨S3x80x3072, .bf16⟩
  | 65 => ⟨S80x1, .f32⟩
  | 66 => ⟨S3x68x3x1024, .f32⟩
  | 67 => ⟨S3x68x3072, .f32⟩
  | 68 => ⟨S3x68x3072, .bf16⟩
  | 69 => ⟨S68x1, .f32⟩
  | 70 => ⟨S16x80x400, .f32⟩
  | 71 => ⟨S16x4x400, .f32⟩
  | 72 => ⟨S16x512x1600, .f32⟩
  | 73 => ⟨S512x512, .f32⟩
  | 74 => ⟨S512x512, .bf16⟩
  | 75 => ⟨S512x512, .f32⟩
  | 76 => ⟨S512x512, .bf16⟩
  | 77 => ⟨S1024x512, .bf16⟩
  | 78 => ⟨S1024, .f32⟩
  | 79 => ⟨S1024x1, .f32⟩
  | 80 => ⟨S1024, .f32⟩
  | 81 => ⟨S1024x1, .f32⟩
  | 82 => ⟨S1024x1, .bf16⟩
  | 83 => ⟨S1024, .f32⟩
  | 84 => ⟨S1024x1, .f32⟩
  | 85 => ⟨S512x512, .f32⟩
  | 86 => ⟨S512x512, .bf16⟩
  | 87 => ⟨S512x512, .f32⟩
  | 88 => ⟨S512x512, .bf16⟩
  | 89 => ⟨S3x80x3x512, .f32⟩
  | 90 => ⟨S3x80x1536, .f32⟩
  | 91 => ⟨S3x80x1536, .bf16⟩
  | 92 => ⟨S80x1, .f32⟩
  | 93 => ⟨S3x68x3x512, .f32⟩
  | 94 => ⟨S3x68x1536, .f32⟩
  | 95 => ⟨S3x68x1536, .bf16⟩
  | 96 => ⟨S68x1, .f32⟩
  | 97 => ⟨S16x80x1600, .f32⟩
  | 98 => ⟨S16x4x1600, .f32⟩
  | 99 => ⟨S16x256x6400, .f32⟩
  | 100 => ⟨S256x256, .f32⟩
  | 101 => ⟨S256x256, .bf16⟩
  | 102 => ⟨S256x256, .f32⟩
  | 103 => ⟨S256x256, .bf16⟩
  | 104 => ⟨S512x256, .bf16⟩
  | 105 => ⟨S512, .f32⟩
  | 106 => ⟨S512x1, .f32⟩
  | 107 => ⟨S512, .f32⟩
  | 108 => ⟨S512x1, .f32⟩
  | 109 => ⟨S512x1, .bf16⟩
  | 110 => ⟨S512, .f32⟩
  | 111 => ⟨S512x1, .f32⟩
  | 112 => ⟨S256x256, .f32⟩
  | 113 => ⟨S256x256, .bf16⟩
  | 114 => ⟨S256x256, .f32⟩
  | 115 => ⟨S256x256, .bf16⟩
  | 116 => ⟨S3x80x3x256, .f32⟩
  | 117 => ⟨S3x80x768, .f32⟩
  | 118 => ⟨S3x80x768, .bf16⟩
  | 119 => ⟨S80x1, .f32⟩
  | 120 => ⟨S3x68x3x256, .f32⟩
  | 121 => ⟨S3x68x768, .f32⟩
  | 122 => ⟨S3x68x768, .bf16⟩
  | 123 => ⟨S68x1, .f32⟩
  | 124 => ⟨S16x80x8400, .f32⟩
  | 125 => ⟨S16x4x8400, .f32⟩
  | 126 => ⟨S20, .f32⟩
  | 127 => ⟨S_, .f32⟩
  | _ => ⟨S16x1024x20x20, .f32⟩

abbrev hbmTy0_1 (i : Nat) : BufTy := match i % 128 with
  | 0 => ⟨S20, .f32⟩
  | 1 => ⟨S20, .f32⟩
  | 2 => ⟨S20, .f32⟩
  | 3 => ⟨S_, .f32⟩
  | 4 => ⟨S20, .f32⟩
  | 5 => ⟨S20, .f32⟩
  | 6 => ⟨S20x20, .f32⟩
  | 7 => ⟨S20x20, .f32⟩
  | 8 => ⟨S20x20x1, .f32⟩
  | 9 => ⟨S20x20x1, .f32⟩
  | 10 => ⟨S20x20x2, .f32⟩
  | 11 => ⟨S400x2, .f32⟩
  | 12 => ⟨S_, .f32⟩
  | 13 => ⟨S400x1, .f32⟩
  | 14 => ⟨S40, .f32⟩
  | 15 => ⟨S_, .f32⟩
  | 16 => ⟨S40, .f32⟩
  | 17 => ⟨S40, .f32⟩
  | 18 => ⟨S40, .f32⟩
  | 19 => ⟨S_, .f32⟩
  | 20 => ⟨S40, .f32⟩
  | 21 => ⟨S40, .f32⟩
  | 22 => ⟨S40x40, .f32⟩
  | 23 => ⟨S40x40, .f32⟩
  | 24 => ⟨S40x40x1, .f32⟩
  | 25 => ⟨S40x40x1, .f32⟩
  | 26 => ⟨S40x40x2, .f32⟩
  | 27 => ⟨S1600x2, .f32⟩
  | 28 => ⟨S_, .f32⟩
  | 29 => ⟨S1600x1, .f32⟩
  | 30 => ⟨S80, .f32⟩
  | 31 => ⟨S_, .f32⟩
  | 32 => ⟨S80, .f32⟩
  | 33 => ⟨S80, .f32⟩
  | 34 => ⟨S80, .f32⟩
  | 35 => ⟨S_, .f32⟩
  | 36 => ⟨S80, .f32⟩
  | 37 => ⟨S80, .f32⟩
  | 38 => ⟨S80x80, .f32⟩
  | 39 => ⟨S80x80, .f32⟩
  | 40 => ⟨S80x80x1, .f32⟩
  | 41 => ⟨S80x80x1, .f32⟩
  | 42 => ⟨S80x80x2, .f32⟩
  | 43 => ⟨S6400x2, .f32⟩
  | 44 => ⟨S_, .f32⟩
  | 45 => ⟨S6400x1, .f32⟩
  | 46 => ⟨S8400x2, .f32⟩
  | 47 => ⟨S8400x1, .f32⟩
  | _ => ⟨S16x1024x20x20, .f32⟩

abbrev hbmTy (i : Nat) : BufTy := match i / 128 with
  | 0 => hbmTy0_0 i
  | 1 => hbmTy0_1 i
  | _ => ⟨S16x1024x20x20, .f32⟩

abbrev bufTy : (tb : Table) → Fin (tcTables nBuf tb) → BufTy
  | .hbm, ⟨i, _⟩ => hbmTy i
  | .local _ .vmem, ⟨0, _⟩ => ⟨S4x1024x400, .f32⟩
  | .local _ .vmem, ⟨1, _⟩ => ⟨S4x1024x400, .f32⟩
  | .local _ .vmem, ⟨2, _⟩ => ⟨S2048x1024, .bf16⟩
  | .local _ .vmem, ⟨3, _⟩ => ⟨S2048x1, .f32⟩
  | .local _ .vmem, ⟨4, _⟩ => ⟨S1024x1024, .bf16⟩
  | .local _ .vmem, ⟨5, _⟩ => ⟨S1024x1024, .bf16⟩
  | .local _ .vmem, ⟨6, _⟩ => ⟨S2048x1, .bf16⟩
  | .local _ .vmem, ⟨7, _⟩ => ⟨S2048x1, .f32⟩
  | .local _ .vmem, ⟨8, _⟩ => ⟨S3x80x3072, .bf16⟩
  | .local _ .vmem, ⟨9, _⟩ => ⟨S80x1, .f32⟩
  | .local _ .vmem, ⟨10, _⟩ => ⟨S3x68x3072, .bf16⟩
  | .local _ .vmem, ⟨11, _⟩ => ⟨S68x1, .f32⟩
  | .local _ .vmem, ⟨12, _⟩ => ⟨S4x80x400, .f32⟩
  | .local _ .vmem, ⟨13, _⟩ => ⟨S4x80x400, .f32⟩
  | .local _ .vmem, ⟨14, _⟩ => ⟨S4x4x400, .f32⟩
  | .local _ .vmem, ⟨15, _⟩ => ⟨S4x4x400, .f32⟩
  | .local _ .vmem, ⟨16, _⟩ => ⟨S2x512x1600, .f32⟩
  | .local _ .vmem, ⟨17, _⟩ => ⟨S2x512x1600, .f32⟩
  | .local _ .vmem, ⟨18, _⟩ => ⟨S1024x512, .bf16⟩
  | .local _ .vmem, ⟨19, _⟩ => ⟨S1024x1, .f32⟩
  | .local _ .vmem, ⟨20, _⟩ => ⟨S512x512, .bf16⟩
  | .local _ .vmem, ⟨21, _⟩ => ⟨S512x512, .bf16⟩
  | .local _ .vmem, ⟨22, _⟩ => ⟨S1024x1, .bf16⟩
  | .local _ .vmem, ⟨23, _⟩ => ⟨S1024x1, .f32⟩
  | .local _ .vmem, ⟨24, _⟩ => ⟨S3x80x1536, .bf16⟩
  | .local _ .vmem, ⟨25, _⟩ => ⟨S80x1, .f32⟩
  | .local _ .vmem, ⟨26, _⟩ => ⟨S3x68x1536, .bf16⟩
  | .local _ .vmem, ⟨27, _⟩ => ⟨S68x1, .f32⟩
  | .local _ .vmem, ⟨28, _⟩ => ⟨S2x80x1600, .f32⟩
  | .local _ .vmem, ⟨29, _⟩ => ⟨S2x80x1600, .f32⟩
  | .local _ .vmem, ⟨30, _⟩ => ⟨S2x4x1600, .f32⟩
  | .local _ .vmem, ⟨31, _⟩ => ⟨S2x4x1600, .f32⟩
  | .local _ .vmem, ⟨32, _⟩ => ⟨S1x256x6400, .f32⟩
  | .local _ .vmem, ⟨33, _⟩ => ⟨S1x256x6400, .f32⟩
  | .local _ .vmem, ⟨34, _⟩ => ⟨S512x256, .bf16⟩
  | .local _ .vmem, ⟨35, _⟩ => ⟨S512x1, .f32⟩
  | .local _ .vmem, ⟨36, _⟩ => ⟨S256x256, .bf16⟩
  | .local _ .vmem, ⟨37, _⟩ => ⟨S256x256, .bf16⟩
  | .local _ .vmem, ⟨38, _⟩ => ⟨S512x1, .bf16⟩
  | .local _ .vmem, ⟨39, _⟩ => ⟨S512x1, .f32⟩
  | .local _ .vmem, ⟨40, _⟩ => ⟨S3x80x768, .bf16⟩
  | .local _ .vmem, ⟨41, _⟩ => ⟨S80x1, .f32⟩
  | .local _ .vmem, ⟨42, _⟩ => ⟨S3x68x768, .bf16⟩
  | .local _ .vmem, ⟨43, _⟩ => ⟨S68x1, .f32⟩
  | .local _ .vmem, ⟨44, _⟩ => ⟨S1x80x400, .f32⟩
  | .local _ .vmem, ⟨45, _⟩ => ⟨S1x80x400, .f32⟩
  | .local _ .vmem, ⟨46, _⟩ => ⟨S1x4x400, .f32⟩
  | .local _ .vmem, ⟨47, _⟩ => ⟨S1x4x400, .f32⟩
  | .local _ .vmem, ⟨48, _⟩ => ⟨S1x80x1600, .f32⟩
  | .local _ .vmem, ⟨49, _⟩ => ⟨S1x80x1600, .f32⟩
  | .local _ .vmem, ⟨50, _⟩ => ⟨S1x4x1600, .f32⟩
  | .local _ .vmem, ⟨51, _⟩ => ⟨S1x4x1600, .f32⟩
  | .local _ .vmem, ⟨52, _⟩ => ⟨S1x80x8400, .f32⟩
  | .local _ .vmem, ⟨53, _⟩ => ⟨S1x80x8400, .f32⟩
  | .local _ .vmem, ⟨54, _⟩ => ⟨S1x4x8400, .f32⟩
  | .local _ .vmem, ⟨55, _⟩ => ⟨S1x4x8400, .f32⟩
  | _, _ => ⟨S16x1024x20x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_v0 : Ref sig .tc := ⟨.hbm, 45, rfl⟩
abbrev main_v1 : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25_0 : Ref sig .tc := ⟨.hbm, 70, rfl⟩
abbrev main_v25_1 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51_0 : Ref sig .tc := ⟨.hbm, 97, rfl⟩
abbrev main_v51_1 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77_0 : Ref sig .tc := ⟨.hbm, 124, rfl⟩
abbrev main_v77_1 : Ref sig .tc := ⟨.hbm, 125, rfl⟩
abbrev main_v78 : Ref sig .tc := ⟨.hbm, 126, rfl⟩
abbrev main_cst : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_0 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_1 : Ref sig .tc := ⟨.hbm, 140, rfl⟩
abbrev main_v90 : Ref sig .tc := ⟨.hbm, 141, rfl⟩
abbrev main_v91 : Ref sig .tc := ⟨.hbm, 142, rfl⟩
abbrev main_cst_2 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_3 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_4 : Ref sig .tc := ⟨.hbm, 156, rfl⟩
abbrev main_v103 : Ref sig .tc := ⟨.hbm, 157, rfl⟩
abbrev main_v104 : Ref sig .tc := ⟨.hbm, 158, rfl⟩
abbrev main_cst_5 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_6 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_7 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg11_0 : Ref sig .tc := ⟨.vmem, 44, rfl⟩
abbrev cc2_stg11_1 : Ref sig .tc := ⟨.vmem, 45, rfl⟩
abbrev cc2_stg12_0 : Ref sig .tc := ⟨.vmem, 46, rfl⟩
abbrev cc2_stg12_1 : Ref sig .tc := ⟨.vmem, 47, rfl⟩
abbrev cc2_stg13_0 : Ref sig .tc := ⟨.vmem, 48, rfl⟩
abbrev cc2_stg13_1 : Ref sig .tc := ⟨.vmem, 49, rfl⟩
abbrev cc2_stg14_0 : Ref sig .tc := ⟨.vmem, 50, rfl⟩
abbrev cc2_stg14_1 : Ref sig .tc := ⟨.vmem, 51, rfl⟩
abbrev cc2_stg15_0 : Ref sig .tc := ⟨.vmem, 52, rfl⟩
abbrev cc2_stg15_1 : Ref sig .tc := ⟨.vmem, 53, rfl⟩
abbrev cc2_stg16_0 : Ref sig .tc := ⟨.vmem, 54, rfl⟩
abbrev cc2_stg16_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc1_sem12_0 : DmaSem sig := 30
abbrev cc1_sem12_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem11_0 : DmaSem sig := 44
abbrev cc2_sem11_1 : DmaSem sig := 45
abbrev cc2_sem12_0 : DmaSem sig := 46
abbrev cc2_sem12_1 : DmaSem sig := 47
abbrev cc2_sem13_0 : DmaSem sig := 48
abbrev cc2_sem13_1 : DmaSem sig := 49
abbrev cc2_sem14_0 : DmaSem sig := 50
abbrev cc2_sem14_1 : DmaSem sig := 51
abbrev cc2_sem15_0 : DmaSem sig := 52
abbrev cc2_sem15_1 : DmaSem sig := 53
abbrev cc2_sem16_0 : DmaSem sig := 54
abbrev cc2_sem16_1 : DmaSem sig := 55

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x80x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S80x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x68x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S68x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x80x400 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x4x400 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x512x1600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x80x1536 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S80x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3x68x1536 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S68x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2x80x1600 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2x4x1600 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_15 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_16 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x6400 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3x80x768 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S80x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S3x68x768 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S68x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1x80x400 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1x4x400 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1x80x1600 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x4x1600 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x80x8400 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S1x4x8400 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]
-- ==== KernelIdeal.lean ====
variable {F : FTy → Type} [FloatOps F] [Named F]
def κ : String → Option EReal := fun
  | "inv_1600" => some ((1 / 1600 : ℝ) : EReal)
  | "inv_400" => some ((1 / 400 : ℝ) : EReal)
  | "inv_6400" => some ((1 / 6400 : ℝ) : EReal)
  | _ => none
-- ==== ReferenceIdeal.lean ====
abbrev S16x1024x20x20 : Shape := ⟨4, ![16, 1024, 20, 20]⟩
abbrev S16x512x40x40 : Shape := ⟨4, ![16, 512, 40, 40]⟩
abbrev S16x256x80x80 : Shape := ⟨4, ![16, 256, 80, 80]⟩
abbrev S1024x1024x1x1 : Shape := ⟨4, ![1024, 1024, 1, 1]⟩
abbrev S1024 : Shape := ⟨1, ![1024]⟩
abbrev S80x1024x3x3 : Shape := ⟨4, ![80, 1024, 3, 3]⟩
abbrev S80 : Shape := ⟨1, ![80]⟩
abbrev S68x1024x3x3 : Shape := ⟨4, ![68, 1024, 3, 3]⟩
abbrev S68 : Shape := ⟨1, ![68]⟩
abbrev S512x512x1x1 : Shape := ⟨4, ![512, 512, 1, 1]⟩
abbrev S512 : Shape := ⟨1, ![512]⟩
abbrev S80x512x3x3 : Shape := ⟨4, ![80, 512, 3, 3]⟩
abbrev S68x512x3x3 : Shape := ⟨4, ![68, 512, 3, 3]⟩
abbrev S256x256x1x1 : Shape := ⟨4, ![256, 256, 1, 1]⟩
abbrev S256 : Shape := ⟨1, ![256]⟩
abbrev S80x256x3x3 : Shape := ⟨4, ![80, 256, 3, 3]⟩
abbrev S68x256x3x3 : Shape := ⟨4, ![68, 256, 3, 3]⟩
abbrev S17 : Shape := ⟨1, ![17]⟩
abbrev S_ : Shape := ⟨0, ![]⟩
abbrev S16x1024 : Shape := ⟨2, ![16, 1024]⟩
abbrev S1024x1024 : Shape := ⟨2, ![1024, 1024]⟩
abbrev S1x1024 : Shape := ⟨2, ![1, 1024]⟩
abbrev S16x1024x1x1 : Shape := ⟨4, ![16, 1024, 1, 1]⟩
abbrev S16x20x20x1024 : Shape := ⟨4, ![16, 20, 20, 1024]⟩
abbrev S1x1024x1x1 : Shape := ⟨4, ![1, 1024, 1, 1]⟩
abbrev S16x1024x22x22 : Shape := ⟨4, ![16, 1024, 22, 22]⟩
abbrev S80x1024x1x1 : Shape := ⟨4, ![80, 1024, 1, 1]⟩
abbrev S80x1024 : Shape := ⟨2, ![80, 1024]⟩
abbrev S16x20x20x80 : Shape := ⟨4, ![16, 20, 20, 80]⟩
abbrev S16x80x20x20 : Shape := ⟨4, ![16, 80, 20, 20]⟩
abbrev S1x80x1x1 : Shape := ⟨4, ![1, 80, 1, 1]⟩
abbrev S16x80x400 : Shape := ⟨3, ![16, 80, 400]⟩
abbrev S68x1024x1x1 : Shape := ⟨4, ![68, 1024, 1, 1]⟩
abbrev S68x1024 : Shape := ⟨2, ![68, 1024]⟩
abbrev S16x20x20x68 : Shape := ⟨4, ![16, 20, 20, 68]⟩
abbrev S16x68x20x20 : Shape := ⟨4, ![16, 68, 20, 20]⟩
abbrev S1x68x1x1 : Shape := ⟨4, ![1, 68, 1, 1]⟩
abbrev S16x4x17x400 : Shape := ⟨4, ![16, 4, 17, 400]⟩
abbrev S16x17x4x400 : Shape := ⟨4, ![16, 17, 4, 400]⟩
abbrev S16x4x400 : Shape := ⟨3, ![16, 4, 400]⟩
abbrev S16x1x4x400 : Shape := ⟨4, ![16, 1, 4, 400]⟩
abbrev S16x512 : Shape := ⟨2, ![16, 512]⟩
abbrev S512x512 : Shape := ⟨2, ![512, 512]⟩
abbrev S1x512 : Shape := ⟨2, ![1, 512]⟩
abbrev S16x512x1x1 : Shape := ⟨4, ![16, 512, 1, 1]⟩
abbrev S16x40x40x512 : Shape := ⟨4, ![16, 40, 40, 512]⟩
abbrev S1x512x1x1 : Shape := ⟨4, ![1, 512, 1, 1]⟩
abbrev S16x512x42x42 : Shape := ⟨4, ![16, 512, 42, 42]⟩
abbrev S80x512x1x1 : Shape := ⟨4, ![80, 512, 1, 1]⟩
abbrev S80x512 : Shape := ⟨2, ![80, 512]⟩
abbrev S16x40x40x80 : Shape := ⟨4, ![16, 40, 40, 80]⟩
abbrev S16x80x40x40 : Shape := ⟨4, ![16, 80, 40, 40]⟩
abbrev S16x80x1600 : Shape := ⟨3, ![16, 80, 1600]⟩
abbrev S68x512x1x1 : Shape := ⟨4, ![68, 512, 1, 1]⟩
abbrev S68x512 : Shape := ⟨2, ![68, 512]⟩
abbrev S16x40x40x68 : Shape := ⟨4, ![16, 40, 40, 68]⟩
abbrev S16x68x40x40 : Shape := ⟨4, ![16, 68, 40, 40]⟩
abbrev S16x4x17x1600 : Shape := ⟨4, ![16, 4, 17, 1600]⟩
abbrev S16x17x4x1600 : Shape := ⟨4, ![16, 17, 4, 1600]⟩
abbrev S16x4x1600 : Shape := ⟨3, ![16, 4, 1600]⟩
abbrev S16x1x4x1600 : Shape := ⟨4, ![16, 1, 4, 1600]⟩
abbrev S16x256 : Shape := ⟨2, ![16, 256]⟩
abbrev S256x256 : Shape := ⟨2, ![256, 256]⟩
abbrev S1x256 : Shape := ⟨2, ![1, 256]⟩
abbrev S16x256x1x1 : Shape := ⟨4, ![16, 256, 1, 1]⟩
abbrev S16x80x80x256 : Shape := ⟨4, ![16, 80, 80, 256]⟩
abbrev S1x256x1x1 : Shape := ⟨4, ![1, 256, 1, 1]⟩
abbrev S16x256x82x82 : Shape := ⟨4, ![16, 256, 82, 82]⟩
abbrev S80x256x1x1 : Shape := ⟨4, ![80, 256, 1, 1]⟩
abbrev S80x256 : Shape := ⟨2, ![80, 256]⟩
abbrev S16x80x80x80 : Shape := ⟨4, ![16, 80, 80, 80]⟩
abbrev S16x80x6400 : Shape := ⟨3, ![16, 80, 6400]⟩
abbrev S68x256x1x1 : Shape := ⟨4, ![68, 256, 1, 1]⟩
abbrev S68x256 : Shape := ⟨2, ![68, 256]⟩
abbrev S16x80x80x68 : Shape := ⟨4, ![16, 80, 80, 68]⟩
abbrev S16x68x80x80 : Shape := ⟨4, ![16, 68, 80, 80]⟩
abbrev S16x4x17x6400 : Shape := ⟨4, ![16, 4, 17, 6400]⟩
abbrev S16x17x4x6400 : Shape := ⟨4, ![16, 17, 4, 6400]⟩
abbrev S16x4x6400 : Shape := ⟨3, ![16, 4, 6400]⟩
abbrev S16x1x4x6400 : Shape := ⟨4, ![16, 1, 4, 6400]⟩
abbrev S16x80x8400 : Shape := ⟨3, ![16, 80, 8400]⟩
abbrev S16x4x8400 : Shape := ⟨3, ![16, 4, 8400]⟩
abbrev S20 : Shape := ⟨1, ![20]⟩
abbrev S20x20 : Shape := ⟨2, ![20, 20]⟩
abbrev S20x20x1 : Shape := ⟨3, ![20, 20, 1]⟩
abbrev S20x20x2 : Shape := ⟨3, ![20, 20, 2]⟩
abbrev S400x2 : Shape := ⟨2, ![400, 2]⟩
abbrev S400x1 : Shape := ⟨2, ![400, 1]⟩
abbrev S40 : Shape := ⟨1, ![40]⟩
abbrev S40x40 : Shape := ⟨2, ![40, 40]⟩
abbrev S40x40x1 : Shape := ⟨3, ![40, 40, 1]⟩
abbrev S40x40x2 : Shape := ⟨3, ![40, 40, 2]⟩
abbrev S1600x2 : Shape := ⟨2, ![1600, 2]⟩
abbrev S1600x1 : Shape := ⟨2, ![1600, 1]⟩
abbrev S80x80 : Shape := ⟨2, ![80, 80]⟩
abbrev S80x80x1 : Shape := ⟨3, ![80, 80, 1]⟩
abbrev S80x80x2 : Shape := ⟨3, ![80, 80, 2]⟩
abbrev S6400x2 : Shape := ⟨2, ![6400, 2]⟩
abbrev S6400x1 : Shape := ⟨2, ![6400, 1]⟩
abbrev S8400x2 : Shape := ⟨2, ![8400, 2]⟩
abbrev S8400x1 : Shape := ⟨2, ![8400, 1]⟩

abbrev nBuf : Space → Nat
  | .hbm => 752
  | .vmem => 0
  | .smem => 0
  | _ => 0

abbrev hbmTy0_0 (i : Nat) : BufTy := match i % 128 with
  | 0 => ⟨S16x1024x20x20, .f32⟩
  | 1 => ⟨S16x512x40x40, .f32⟩
  | 2 => ⟨S16x256x80x80, .f32⟩
  | 3 => ⟨S1024x1024x1x1, .f32⟩
  | 4 => ⟨S1024, .f32⟩
  | 5 => ⟨S1024x1024x1x1, .f32⟩
  | 6 => ⟨S1024, .f32⟩
  | 7 => ⟨S1024, .f32⟩
  | 8 => ⟨S1024x1024x1x1, .f32⟩
  | 9 => ⟨S1024, .f32⟩
  | 10 => ⟨S1024x1024x1x1, .f32⟩
  | 11 => ⟨S1024, .f32⟩
  | 12 => ⟨S1024, .f32⟩
  | 13 => ⟨S80x1024x3x3, .f32⟩
  | 14 => ⟨S80, .f32⟩
  | 15 => ⟨S68x1024x3x3, .f32⟩
  | 16 => ⟨S68, .f32⟩
  | 17 => ⟨S512x512x1x1, .f32⟩
  | 18 => ⟨S512, .f32⟩
  | 19 => ⟨S512x512x1x1, .f32⟩
  | 20 => ⟨S512, .f32⟩
  | 21 => ⟨S512, .f32⟩
  | 22 => ⟨S512x512x1x1, .f32⟩
  | 23 => ⟨S512, .f32⟩
  | 24 => ⟨S512x512x1x1, .f32⟩
  | 25 => ⟨S512, .f32⟩
  | 26 => ⟨S512, .f32⟩
  | 27 => ⟨S80x512x3x3, .f32⟩
  | 28 => ⟨S80, .f32⟩
  | 29 => ⟨S68x512x3x3, .f32⟩
  | 30 => ⟨S68, .f32⟩
  | 31 => ⟨S256x256x1x1, .f32⟩
  | 32 => ⟨S256, .f32⟩
  | 33 => ⟨S256x256x1x1, .f32⟩
  | 34 => ⟨S256, .f32⟩
  | 35 => ⟨S256, .f32⟩
  | 36 => ⟨S256x256x1x1, .f32⟩
  | 37 => ⟨S256, .f32⟩
  | 38 => ⟨S256x256x1x1, .f32⟩
  | 39 => ⟨S256, .f32⟩
  | 40 => ⟨S256, .f32⟩
  | 41 => ⟨S80x256x3x3, .f32⟩
  | 42 => ⟨S80, .f32⟩
  | 43 => ⟨S68x256x3x3, .f32⟩
  | 44 => ⟨S68, .f32⟩
  | 45 => ⟨S17, .f32⟩
  | 46 => ⟨S_, .f32⟩
  | 47 => ⟨S16x1024, .f32⟩
  | 48 => ⟨S_, .f32⟩
  | 49 => ⟨S16x1024, .f32⟩
  | 50 => ⟨S16x1024, .f32⟩
  | 51 => ⟨S1024x1024, .f32⟩
  | 52 => ⟨S16x1024, .f32⟩
  | 53 => ⟨S1x1024, .f32⟩
  | 54 => ⟨S16x1024, .f32⟩
  | 55 => ⟨S16x1024, .f32⟩
  | 56 => ⟨S16x1024, .f32⟩
  | 57 => ⟨S16x1024, .f32⟩
  | 58 => ⟨S_, .f32⟩
  | 59 => ⟨S16x1024, .f32⟩
  | 60 => ⟨S16x1024, .f32⟩
  | 61 => ⟨S_, .f32⟩
  | 62 => ⟨S16x1024, .f32⟩
  | 63 => ⟨S16x1024, .f32⟩
  | 64 => ⟨S1024x1024, .f32⟩
  | 65 => ⟨S16x1024x1x1, .f32⟩
  | 66 => ⟨S16x1024x20x20, .f32⟩
  | 67 => ⟨S16x1024x20x20, .f32⟩
  | 68 => ⟨S16x20x20x1024, .f32⟩
  | 69 => ⟨S16x1024x20x20, .f32⟩
  | 70 => ⟨S1x1024x1x1, .f32⟩
  | 71 => ⟨S16x1024x20x20, .f32⟩
  | 72 => ⟨S16x1024x20x20, .f32⟩
  | 73 => ⟨S1x1024x1x1, .f32⟩
  | 74 => ⟨S16x1024x20x20, .f32⟩
  | 75 => ⟨S16x1024x20x20, .f32⟩
  | 76 => ⟨S16x1024x20x20, .f32⟩
  | 77 => ⟨S16x1024x20x20, .f32⟩
  | 78 => ⟨S_, .f32⟩
  | 79 => ⟨S16x1024x20x20, .f32⟩
  | 80 => ⟨S16x1024x20x20, .f32⟩
  | 81 => ⟨S_, .f32⟩
  | 82 => ⟨S16x1024x20x20, .f32⟩
  | 83 => ⟨S16x1024x20x20, .f32⟩
  | 84 => ⟨S16x1024x20x20, .f32⟩
  | 85 => ⟨S16x1024x20x20, .f32⟩
  | 86 => ⟨S_, .i32⟩
  | 87 => ⟨S_, .f32⟩
  | 88 => ⟨S16x1024x22x22, .f32⟩
  | 89 => ⟨S80x1024x1x1, .f32⟩
  | 90 => ⟨S80x1024, .f32⟩
  | 91 => ⟨S16x1024x20x20, .f32⟩
  | 92 => ⟨S16x20x20x80, .f32⟩
  | 93 => ⟨S16x80x20x20, .f32⟩
  | 94 => ⟨S80x1024x1x1, .f32⟩
  | 95 => ⟨S80x1024, .f32⟩
  | 96 => ⟨S16x1024x20x20, .f32⟩
  | 97 => ⟨S16x20x20x80, .f32⟩
  | 98 => ⟨S16x80x20x20, .f32⟩
  | 99 => ⟨S80x1024x1x1, .f32⟩
  | 100 => ⟨S80x1024, .f32⟩
  | 101 => ⟨S16x1024x20x20, .f32⟩
  | 102 => ⟨S16x20x20x80, .f32⟩
  | 103 => ⟨S16x80x20x20, .f32⟩
  | 104 => ⟨S80x1024x1x1, .f32⟩
  | 105 => ⟨S80x1024, .f32⟩
  | 106 => ⟨S16x1024x20x20, .f32⟩
  | 107 => ⟨S16x20x20x80, .f32⟩
  | 108 => ⟨S16x80x20x20, .f32⟩
  | 109 => ⟨S80x1024x1x1, .f32⟩
  | 110 => ⟨S80x1024, .f32⟩
  | 111 => ⟨S16x1024x20x20, .f32⟩
  | 112 => ⟨S16x20x20x80, .f32⟩
  | 113 => ⟨S16x80x20x20, .f32⟩
  | 114 => ⟨S80x1024x1x1, .f32⟩
  | 115 => ⟨S80x1024, .f32⟩
  | 116 => ⟨S16x1024x20x20, .f32⟩
  | 117 => ⟨S16x20x20x80, .f32⟩
  | 118 => ⟨S16x80x20x20, .f32⟩
  | 119 => ⟨S80x1024x1x1, .f32⟩
  | 120 => ⟨S80x1024, .f32⟩
  | 121 => ⟨S16x1024x20x20, .f32⟩
  | 122 => ⟨S16x20x20x80, .f32⟩
  | 123 => ⟨S16x80x20x20, .f32⟩
  | 124 => ⟨S80x1024x1x1, .f32⟩
  | 125 => ⟨S80x1024, .f32⟩
  | 126 => ⟨S16x1024x20x20, .f32⟩
  | 127 => ⟨S16x20x20x80, .f32⟩
  | _ => ⟨S16x1024x20x20, .f32⟩

abbrev hbmTy0_1 (i : Nat) : BufTy := match i % 128 with
  | 0 => ⟨S16x80x20x20, .f32⟩
  | 1 => ⟨S80x1024x1x1, .f32⟩
  | 2 => ⟨S80x1024, .f32⟩
  | 3 => ⟨S16x1024x20x20, .f32⟩
  | 4 => ⟨S16x20x20x80, .f32⟩
  | 5 => ⟨S16x80x20x20, .f32⟩
  | 6 => ⟨S16x80x20x20, .f32⟩
  | 7 => ⟨S16x80x20x20, .f32⟩
  | 8 => ⟨S16x80x20x20, .f32⟩
  | 9 => ⟨S16x80x20x20, .f32⟩
  | 10 => ⟨S16x80x20x20, .f32⟩
  | 11 => ⟨S16x80x20x20, .f32⟩
  | 12 => ⟨S16x80x20x20, .f32⟩
  | 13 => ⟨S16x80x20x20, .f32⟩
  | 14 => ⟨S1x80x1x1, .f32⟩
  | 15 => ⟨S16x80x20x20, .f32⟩
  | 16 => ⟨S16x80x20x20, .f32⟩
  | 17 => ⟨S16x80x20x20, .f32⟩
  | 18 => ⟨S16x80x20x20, .f32⟩
  | 19 => ⟨S_, .f32⟩
  | 20 => ⟨S16x80x20x20, .f32⟩
  | 21 => ⟨S16x80x20x20, .f32⟩
  | 22 => ⟨S_, .f32⟩
  | 23 => ⟨S16x80x20x20, .f32⟩
  | 24 => ⟨S16x80x20x20, .f32⟩
  | 25 => ⟨S16x80x400, .f32⟩
  | 26 => ⟨S1024x1024, .f32⟩
  | 27 => ⟨S16x1024, .f32⟩
  | 28 => ⟨S1x1024, .f32⟩
  | 29 => ⟨S16x1024, .f32⟩
  | 30 => ⟨S16x1024, .f32⟩
  | 31 => ⟨S16x1024, .f32⟩
  | 32 => ⟨S16x1024, .f32⟩
  | 33 => ⟨S_, .f32⟩
  | 34 => ⟨S16x1024, .f32⟩
  | 35 => ⟨S16x1024, .f32⟩
  | 36 => ⟨S_, .f32⟩
  | 37 => ⟨S16x1024, .f32⟩
  | 38 => ⟨S16x1024, .f32⟩
  | 39 => ⟨S1024x1024, .f32⟩
  | 40 => ⟨S16x1024x1x1, .f32⟩
  | 41 => ⟨S16x1024x20x20, .f32⟩
  | 42 => ⟨S16x1024x20x20, .f32⟩
  | 43 => ⟨S16x20x20x1024, .f32⟩
  | 44 => ⟨S16x1024x20x20, .f32⟩
  | 45 => ⟨S1x1024x1x1, .f32⟩
  | 46 => ⟨S16x1024x20x20, .f32⟩
  | 47 => ⟨S16x1024x20x20, .f32⟩
  | 48 => ⟨S1x1024x1x1, .f32⟩
  | 49 => ⟨S16x1024x20x20, .f32⟩
  | 50 => ⟨S16x1024x20x20, .f32⟩
  | 51 => ⟨S16x1024x20x20, .f32⟩
  | 52 => ⟨S16x1024x20x20, .f32⟩
  | 53 => ⟨S_, .f32⟩
  | 54 => ⟨S16x1024x20x20, .f32⟩
  | 55 => ⟨S16x1024x20x20, .f32⟩
  | 56 => ⟨S_, .f32⟩
  | 57 => ⟨S16x1024x20x20, .f32⟩
  | 58 => ⟨S16x1024x20x20, .f32⟩
  | 59 => ⟨S16x1024x20x20, .f32⟩
  | 60 => ⟨S_, .i32⟩
  | 61 => ⟨S_, .f32⟩
  | 62 => ⟨S16x1024x22x22, .f32⟩
  | 63 => ⟨S68x1024x1x1, .f32⟩
  | 64 => ⟨S68x1024, .f32⟩
  | 65 => ⟨S16x1024x20x20, .f32⟩
  | 66 => ⟨S16x20x20x68, .f32⟩
  | 67 => ⟨S16x68x20x20, .f32⟩
  | 68 => ⟨S68x1024x1x1, .f32⟩
  | 69 => ⟨S68x1024, .f32⟩
  | 70 => ⟨S16x1024x20x20, .f32⟩
  | 71 => ⟨S16x20x20x68, .f32⟩
  | 72 => ⟨S16x68x20x20, .f32⟩
  | 73 => ⟨S68x1024x1x1, .f32⟩
  | 74 => ⟨S68x1024, .f32⟩
  | 75 => ⟨S16x1024x20x20, .f32⟩
  | 76 => ⟨S16x20x20x68, .f32⟩
  | 77 => ⟨S16x68x20x20, .f32⟩
  | 78 => ⟨S68x1024x1x1, .f32⟩
  | 79 => ⟨S68x1024, .f32⟩
  | 80 => ⟨S16x1024x20x20, .f32⟩
  | 81 => ⟨S16x20x20x68, .f32⟩
  | 82 => ⟨S16x68x20x20, .f32⟩
  | 83 => ⟨S68x1024x1x1, .f32⟩
  | 84 => ⟨S68x1024, .f32⟩
  | 85 => ⟨S16x1024x20x20, .f32⟩
  | 86 => ⟨S16x20x20x68, .f32⟩
  | 87 => ⟨S16x68x20x20, .f32⟩
  | 88 => ⟨S68x1024x1x1, .f32⟩
  | 89 => ⟨S68x1024, .f32⟩
  | 90 => ⟨S16x1024x20x20, .f32⟩
  | 91 => ⟨S16x20x20x68, .f32⟩
  | 92 => ⟨S16x68x20x20, .f32⟩
  | 93 => ⟨S68x1024x1x1, .f32⟩
  | 94 => ⟨S68x1024, .f32⟩
  | 95 => ⟨S16x1024x20x20, .f32⟩
  | 96 => ⟨S16x20x20x68, .f32⟩
  | 97 => ⟨S16x68x20x20, .f32⟩
  | 98 => ⟨S68x1024x1x1, .f32⟩
  | 99 => ⟨S68x1024, .f32⟩
  | 100 => ⟨S16x1024x20x20, .f32⟩
  | 101 => ⟨S16x20x20x68, .f32⟩
  | 102 => ⟨S16x68x20x20, .f32⟩
  | 103 => ⟨S68x1024x1x1, .f32⟩
  | 104 => ⟨S68x1024, .f32⟩
  | 105 => ⟨S16x1024x20x20, .f32⟩
  | 106 => ⟨S16x20x20x68, .f32⟩
  | 107 => ⟨S16x68x20x20, .f32⟩
  | 108 => ⟨S16x68x20x20, .f32⟩
  | 109 => ⟨S16x68x20x20, .f32⟩
  | 110 => ⟨S16x68x20x20, .f32⟩
  | 111 => ⟨S16x68x20x20, .f32⟩
  | 112 => ⟨S16x68x20x20, .f32⟩
  | 113 => ⟨S16x68x20x20, .f32⟩
  | 114 => ⟨S16x68x20x20, .f32⟩
  | 115 => ⟨S16x68x20x20, .f32⟩
  | 116 => ⟨S1x68x1x1, .f32⟩
  | 117 => ⟨S16x68x20x20, .f32⟩
  | 118 => ⟨S16x68x20x20, .f32⟩
  | 119 => ⟨S16x4x17x400, .f32⟩
  | 120 => ⟨S16x17x4x400, .f32⟩
  | 121 => ⟨S_, .f32⟩
  | 122 => ⟨S16x4x400, .f32⟩
  | 123 => ⟨S_, .f32⟩
  | 124 => ⟨S16x4x400, .f32⟩
  | 125 => ⟨S16x4x400, .f32⟩
  | 126 => ⟨S16x1x4x400, .f32⟩
  | 127 => ⟨S16x17x4x400, .f32⟩
  | _ => ⟨S16x1024x20x20, .f32⟩

abbrev hbmTy0_2 (i : Nat) : BufTy := match i % 128 with
  | 0 => ⟨S16x17x4x400, .f32⟩
  | 1 => ⟨S16x17x4x400, .f32⟩
  | 2 => ⟨S_, .f32⟩
  | 3 => ⟨S16x4x400, .f32⟩
  | 4 => ⟨S16x1x4x400, .f32⟩
  | 5 => ⟨S16x17x4x400, .f32⟩
  | 6 => ⟨S16x17x4x400, .f32⟩
  | 7 => ⟨S16x4x400, .f32⟩
  | 8 => ⟨S_, .f32⟩
  | 9 => ⟨S16x512, .f32⟩
  | 10 => ⟨S_, .f32⟩
  | 11 => ⟨S16x512, .f32⟩
  | 12 => ⟨S16x512, .f32⟩
  | 13 => ⟨S512x512, .f32⟩
  | 14 => ⟨S16x512, .f32⟩
  | 15 => ⟨S1x512, .f32⟩
  | 16 => ⟨S16x512, .f32⟩
  | 17 => ⟨S16x512, .f32⟩
  | 18 => ⟨S16x512, .f32⟩
  | 19 => ⟨S16x512, .f32⟩
  | 20 => ⟨S_, .f32⟩
  | 21 => ⟨S16x512, .f32⟩
  | 22 => ⟨S16x512, .f32⟩
  | 23 => ⟨S_, .f32⟩
  | 24 => ⟨S16x512, .f32⟩
  | 25 => ⟨S16x512, .f32⟩
  | 26 => ⟨S512x512, .f32⟩
  | 27 => ⟨S16x512x1x1, .f32⟩
  | 28 => ⟨S16x512x40x40, .f32⟩
  | 29 => ⟨S16x512x40x40, .f32⟩
  | 30 => ⟨S16x40x40x512, .f32⟩
  | 31 => ⟨S16x512x40x40, .f32⟩
  | 32 => ⟨S1x512x1x1, .f32⟩
  | 33 => ⟨S16x512x40x40, .f32⟩
  | 34 => ⟨S16x512x40x40, .f32⟩
  | 35 => ⟨S1x512x1x1, .f32⟩
  | 36 => ⟨S16x512x40x40, .f32⟩
  | 37 => ⟨S16x512x40x40, .f32⟩
  | 38 => ⟨S16x512x40x40, .f32⟩
  | 39 => ⟨S16x512x40x40, .f32⟩
  | 40 => ⟨S_, .f32⟩
  | 41 => ⟨S16x512x40x40, .f32⟩
  | 42 => ⟨S16x512x40x40, .f32⟩
  | 43 => ⟨S_, .f32⟩
  | 44 => ⟨S16x512x40x40, .f32⟩
  | 45 => ⟨S16x512x40x40, .f32⟩
  | 46 => ⟨S16x512x40x40, .f32⟩
  | 47 => ⟨S16x512x40x40, .f32⟩
  | 48 => ⟨S_, .i32⟩
  | 49 => ⟨S_, .f32⟩
  | 50 => ⟨S16x512x42x42, .f32⟩
  | 51 => ⟨S80x512x1x1, .f32⟩
  | 52 => ⟨S80x512, .f32⟩
  | 53 => ⟨S16x512x40x40, .f32⟩
  | 54 => ⟨S16x40x40x80, .f32⟩
  | 55 => ⟨S16x80x40x40, .f32⟩
  | 56 => ⟨S80x512x1x1, .f32⟩
  | 57 => ⟨S80x512, .f32⟩
  | 58 => ⟨S16x512x40x40, .f32⟩
  | 59 => ⟨S16x40x40x80, .f32⟩
  | 60 => ⟨S16x80x40x40, .f32⟩
  | 61 => ⟨S80x512x1x1, .f32⟩
  | 62 => ⟨S80x512, .f32⟩
  | 63 => ⟨S16x512x40x40, .f32⟩
  | 64 => ⟨S16x40x40x80, .f32⟩
  | 65 => ⟨S16x80x40x40, .f32⟩
  | 66 => ⟨S80x512x1x1, .f32⟩
  | 67 => ⟨S80x512, .f32⟩
  | 68 => ⟨S16x512x40x40, .f32⟩
  | 69 => ⟨S16x40x40x80, .f32⟩
  | 70 => ⟨S16x80x40x40, .f32⟩
  | 71 => ⟨S80x512x1x1, .f32⟩
  | 72 => ⟨S80x512, .f32⟩
  | 73 => ⟨S16x512x40x40, .f32⟩
  | 74 => ⟨S16x40x40x80, .f32⟩
  | 75 => ⟨S16x80x40x40, .f32⟩
  | 76 => ⟨S80x512x1x1, .f32⟩
  | 77 => ⟨S80x512, .f32⟩
  | 78 => ⟨S16x512x40x40, .f32⟩
  | 79 => ⟨S16x40x40x80, .f32⟩
  | 80 => ⟨S16x80x40x40, .f32⟩
  | 81 => ⟨S80x512x1x1, .f32⟩
  | 82 => ⟨S80x512, .f32⟩
  | 83 => ⟨S16x512x40x40, .f32⟩
  | 84 => ⟨S16x40x40x80, .f32⟩
  | 85 => ⟨S16x80x40x40, .f32⟩
  | 86 => ⟨S80x512x1x1, .f32⟩
  | 87 => ⟨S80x512, .f32⟩
  | 88 => ⟨S16x512x40x40, .f32⟩
  | 89 => ⟨S16x40x40x80, .f32⟩
  | 90 => ⟨S16x80x40x40, .f32⟩
  | 91 => ⟨S80x512x1x1, .f32⟩
  | 92 => ⟨S80x512, .f32⟩
  | 93 => ⟨S16x512x40x40, .f32⟩
  | 94 => ⟨S16x40x40x80, .f32⟩
  | 95 => ⟨S16x80x40x40, .f32⟩
  | 96 => ⟨S16x80x40x40, .f32⟩
  | 97 => ⟨S16x80x40x40, .f32⟩
  | 98 => ⟨S16x80x40x40, .f32⟩
  | 99 => ⟨S16x80x40x40, .f32⟩
  | 100 => ⟨S16x80x40x40, .f32⟩
  | 101 => ⟨S16x80x40x40, .f32⟩
  | 102 => ⟨S16x80x40x40, .f32⟩
  | 103 => ⟨S16x80x40x40, .f32⟩
  | 104 => ⟨S1x80x1x1, .f32⟩
  | 105 => ⟨S16x80x40x40, .f32⟩
  | 106 => ⟨S16x80x40x40, .f32⟩
  | 107 => ⟨S16x80x40x40, .f32⟩
  | 108 => ⟨S16x80x40x40, .f32⟩
  | 109 => ⟨S_, .f32⟩
  | 110 => ⟨S16x80x40x40, .f32⟩
  | 111 => ⟨S16x80x40x40, .f32⟩
  | 112 => ⟨S_, .f32⟩
  | 113 => ⟨S16x80x40x40, .f32⟩
  | 114 => ⟨S16x80x40x40, .f32⟩
  | 115 => ⟨S16x80x1600, .f32⟩
  | 116 => ⟨S512x512, .f32⟩
  | 117 => ⟨S16x512, .f32⟩
  | 118 => ⟨S1x512, .f32⟩
  | 119 => ⟨S16x512, .f32⟩
  | 120 => ⟨S16x512, .f32⟩
  | 121 => ⟨S16x512, .f32⟩
  | 122 => ⟨S16x512, .f32⟩
  | 123 => ⟨S_, .f32⟩
  | 124 => ⟨S16x512, .f32⟩
  | 125 => ⟨S16x512, .f32⟩
  | 126 => ⟨S_, .f32⟩
  | 127 => ⟨S16x512, .f32⟩
  | _ => ⟨S16x1024x20x20, .f32⟩

abbrev hbmTy0_3 (i : Nat) : BufTy := match i % 128 with
  | 0 => ⟨S16x512, .f32⟩
  | 1 => ⟨S512x512, .f32⟩
  | 2 => ⟨S16x512x1x1, .f32⟩
  | 3 => ⟨S16x512x40x40, .f32⟩
  | 4 => ⟨S16x512x40x40, .f32⟩
  | 5 => ⟨S16x40x40x512, .f32⟩
  | 6 => ⟨S16x512x40x40, .f32⟩
  | 7 => ⟨S1x512x1x1, .f32⟩
  | 8 => ⟨S16x512x40x40, .f32⟩
  | 9 => ⟨S16x512x40x40, .f32⟩
  | 10 => ⟨S1x512x1x1, .f32⟩
  | 11 => ⟨S16x512x40x40, .f32⟩
  | 12 => ⟨S16x512x40x40, .f32⟩
  | 13 => ⟨S16x512x40x40, .f32⟩
  | 14 => ⟨S16x512x40x40, .f32⟩
  | 15 => ⟨S_, .f32⟩
  | 16 => ⟨S16x512x40x40, .f32⟩
  | 17 => ⟨S16x512x40x40, .f32⟩
  | 18 => ⟨S_, .f32⟩
  | 19 => ⟨S16x512x40x40, .f32⟩
  | 20 => ⟨S16x512x40x40, .f32⟩
  | 21 => ⟨S16x512x40x40, .f32⟩
  | 22 => ⟨S_, .i32⟩
  | 23 => ⟨S_, .f32⟩
  | 24 => ⟨S16x512x42x42, .f32⟩
  | 25 => ⟨S68x512x1x1, .f32⟩
  | 26 => ⟨S68x512, .f32⟩
  | 27 => ⟨S16x512x40x40, .f32⟩
  | 28 => ⟨S16x40x40x68, .f32⟩
  | 29 => ⟨S16x68x40x40, .f32⟩
  | 30 => ⟨S68x512x1x1, .f32⟩
  | 31 => ⟨S68x512, .f32⟩
  | 32 => ⟨S16x512x40x40, .f32⟩
  | 33 => ⟨S16x40x40x68, .f32⟩
  | 34 => ⟨S16x68x40x40, .f32⟩
  | 35 => ⟨S68x512x1x1, .f32⟩
  | 36 => ⟨S68x512, .f32⟩
  | 37 => ⟨S16x512x40x40, .f32⟩
  | 38 => ⟨S16x40x40x68, .f32⟩
  | 39 => ⟨S16x68x40x40, .f32⟩
  | 40 => ⟨S68x512x1x1, .f32⟩
  | 41 => ⟨S68x512, .f32⟩
  | 42 => ⟨S16x512x40x40, .f32⟩
  | 43 => ⟨S16x40x40x68, .f32⟩
  | 44 => ⟨S16x68x40x40, .f32⟩
  | 45 => ⟨S68x512x1x1, .f32⟩
  | 46 => ⟨S68x512, .f32⟩
  | 47 => ⟨S16x512x40x40, .f32⟩
  | 48 => ⟨S16x40x40x68, .f32⟩
  | 49 => ⟨S16x68x40x40, .f32⟩
  | 50 => ⟨S68x512x1x1, .f32⟩
  | 51 => ⟨S68x512, .f32⟩
  | 52 => ⟨S16x512x40x40, .f32⟩
  | 53 => ⟨S16x40x40x68, .f32⟩
  | 54 => ⟨S16x68x40x40, .f32⟩
  | 55 => ⟨S68x512x1x1, .f32⟩
  | 56 => ⟨S68x512, .f32⟩
  | 57 => ⟨S16x512x40x40, .f32⟩
  | 58 => ⟨S16x40x40x68, .f32⟩
  | 59 => ⟨S16x68x40x40, .f32⟩
  | 60 => ⟨S68x512x1x1, .f32⟩
  | 61 => ⟨S68x512, .f32⟩
  | 62 => ⟨S16x512x40x40, .f32⟩
  | 63 => ⟨S16x40x40x68, .f32⟩
  | 64 => ⟨S16x68x40x40, .f32⟩
  | 65 => ⟨S68x512x1x1, .f32⟩
  | 66 => ⟨S68x512, .f32⟩
  | 67 => ⟨S16x512x40x40, .f32⟩
  | 68 => ⟨S16x40x40x68, .f32⟩
  | 69 => ⟨S16x68x40x40, .f32⟩
  | 70 => ⟨S16x68x40x40, .f32⟩
  | 71 => ⟨S16x68x40x40, .f32⟩
  | 72 => ⟨S16x68x40x40, .f32⟩
  | 73 => ⟨S16x68x40x40, .f32⟩
  | 74 => ⟨S16x68x40x40, .f32⟩
  | 75 => ⟨S16x68x40x40, .f32⟩
  | 76 => ⟨S16x68x40x40, .f32⟩
  | 77 => ⟨S16x68x40x40, .f32⟩
  | 78 => ⟨S1x68x1x1, .f32⟩
  | 79 => ⟨S16x68x40x40, .f32⟩
  | 80 => ⟨S16x68x40x40, .f32⟩
  | 81 => ⟨S16x4x17x1600, .f32⟩
  | 82 => ⟨S16x17x4x1600, .f32⟩
  | 83 => ⟨S_, .f32⟩
  | 84 => ⟨S16x4x1600, .f32⟩
  | 85 => ⟨S_, .f32⟩
  | 86 => ⟨S16x4x1600, .f32⟩
  | 87 => ⟨S16x4x1600, .f32⟩
  | 88 => ⟨S16x1x4x1600, .f32⟩
  | 89 => ⟨S16x17x4x1600, .f32⟩
  | 90 => ⟨S16x17x4x1600, .f32⟩
  | 91 => ⟨S16x17x4x1600, .f32⟩
  | 92 => ⟨S_, .f32⟩
  | 93 => ⟨S16x4x1600, .f32⟩
  | 94 => ⟨S16x1x4x1600, .f32⟩
  | 95 => ⟨S16x17x4x1600, .f32⟩
  | 96 => ⟨S16x17x4x1600, .f32⟩
  | 97 => ⟨S16x4x1600, .f32⟩
  | 98 => ⟨S_, .f32⟩
  | 99 => ⟨S16x256, .f32⟩
  | 100 => ⟨S_, .f32⟩
  | 101 => ⟨S16x256, .f32⟩
  | 102 => ⟨S16x256, .f32⟩
  | 103 => ⟨S256x256, .f32⟩
  | 104 => ⟨S16x256, .f32⟩
  | 105 => ⟨S1x256, .f32⟩
  | 106 => ⟨S16x256, .f32⟩
  | 107 => ⟨S16x256, .f32⟩
  | 108 => ⟨S16x256, .f32⟩
  | 109 => ⟨S16x256, .f32⟩
  | 110 => ⟨S_, .f32⟩
  | 111 => ⟨S16x256, .f32⟩
  | 112 => ⟨S16x256, .f32⟩
  | 113 => ⟨S_, .f32⟩
  | 114 => ⟨S16x256, .f32⟩
  | 115 => ⟨S16x256, .f32⟩
  | 116 => ⟨S256x256, .f32⟩
  | 117 => ⟨S16x256x1x1, .f32⟩
  | 118 => ⟨S16x256x80x80, .f32⟩
  | 119 => ⟨S16x256x80x80, .f32⟩
  | 120 => ⟨S16x80x80x256, .f32⟩
  | 121 => ⟨S16x256x80x80, .f32⟩
  | 122 => ⟨S1x256x1x1, .f32⟩
  | 123 => ⟨S16x256x80x80, .f32⟩
  | 124 => ⟨S16x256x80x80, .f32⟩
  | 125 => ⟨S1x256x1x1, .f32⟩
  | 126 => ⟨S16x256x80x80, .f32⟩
  | 127 => ⟨S16x256x80x80, .f32⟩
  | _ => ⟨S16x1024x20x20, .f32⟩

abbrev hbmTy0_4 (i : Nat) : BufTy := match i % 128 with
  | 0 => ⟨S16x256x80x80, .f32⟩
  | 1 => ⟨S16x256x80x80, .f32⟩
  | 2 => ⟨S_, .f32⟩
  | 3 => ⟨S16x256x80x80, .f32⟩
  | 4 => ⟨S16x256x80x80, .f32⟩
  | 5 => ⟨S_, .f32⟩
  | 6 => ⟨S16x256x80x80, .f32⟩
  | 7 => ⟨S16x256x80x80, .f32⟩
  | 8 => ⟨S16x256x80x80, .f32⟩
  | 9 => ⟨S16x256x80x80, .f32⟩
  | 10 => ⟨S_, .i32⟩
  | 11 => ⟨S_, .f32⟩
  | 12 => ⟨S16x256x82x82, .f32⟩
  | 13 => ⟨S80x256x1x1, .f32⟩
  | 14 => ⟨S80x256, .f32⟩
  | 15 => ⟨S16x256x80x80, .f32⟩
  | 16 => ⟨S16x80x80x80, .f32⟩
  | 17 => ⟨S16x80x80x80, .f32⟩
  | 18 => ⟨S80x256x1x1, .f32⟩
  | 19 => ⟨S80x256, .f32⟩
  | 20 => ⟨S16x256x80x80, .f32⟩
  | 21 => ⟨S16x80x80x80, .f32⟩
  | 22 => ⟨S16x80x80x80, .f32⟩
  | 23 => ⟨S80x256x1x1, .f32⟩
  | 24 => ⟨S80x256, .f32⟩
  | 25 => ⟨S16x256x80x80, .f32⟩
  | 26 => ⟨S16x80x80x80, .f32⟩
  | 27 => ⟨S16x80x80x80, .f32⟩
  | 28 => ⟨S80x256x1x1, .f32⟩
  | 29 => ⟨S80x256, .f32⟩
  | 30 => ⟨S16x256x80x80, .f32⟩
  | 31 => ⟨S16x80x80x80, .f32⟩
  | 32 => ⟨S16x80x80x80, .f32⟩
  | 33 => ⟨S80x256x1x1, .f32⟩
  | 34 => ⟨S80x256, .f32⟩
  | 35 => ⟨S16x256x80x80, .f32⟩
  | 36 => ⟨S16x80x80x80, .f32⟩
  | 37 => ⟨S16x80x80x80, .f32⟩
  | 38 => ⟨S80x256x1x1, .f32⟩
  | 39 => ⟨S80x256, .f32⟩
  | 40 => ⟨S16x256x80x80, .f32⟩
  | 41 => ⟨S16x80x80x80, .f32⟩
  | 42 => ⟨S16x80x80x80, .f32⟩
  | 43 => ⟨S80x256x1x1, .f32⟩
  | 44 => ⟨S80x256, .f32⟩
  | 45 => ⟨S16x256x80x80, .f32⟩
  | 46 => ⟨S16x80x80x80, .f32⟩
  | 47 => ⟨S16x80x80x80, .f32⟩
  | 48 => ⟨S80x256x1x1, .f32⟩
  | 49 => ⟨S80x256, .f32⟩
  | 50 => ⟨S16x256x80x80, .f32⟩
  | 51 => ⟨S16x80x80x80, .f32⟩
  | 52 => ⟨S16x80x80x80, .f32⟩
  | 53 => ⟨S80x256x1x1, .f32⟩
  | 54 => ⟨S80x256, .f32⟩
  | 55 => ⟨S16x256x80x80, .f32⟩
  | 56 => ⟨S16x80x80x80, .f32⟩
  | 57 => ⟨S16x80x80x80, .f32⟩
  | 58 => ⟨S16x80x80x80, .f32⟩
  | 59 => ⟨S16x80x80x80, .f32⟩
  | 60 => ⟨S16x80x80x80, .f32⟩
  | 61 => ⟨S16x80x80x80, .f32⟩
  | 62 => ⟨S16x80x80x80, .f32⟩
  | 63 => ⟨S16x80x80x80, .f32⟩
  | 64 => ⟨S16x80x80x80, .f32⟩
  | 65 => ⟨S16x80x80x80, .f32⟩
  | 66 => ⟨S1x80x1x1, .f32⟩
  | 67 => ⟨S16x80x80x80, .f32⟩
  | 68 => ⟨S16x80x80x80, .f32⟩
  | 69 => ⟨S16x80x80x80, .f32⟩
  | 70 => ⟨S16x80x80x80, .f32⟩
  | 71 => ⟨S_, .f32⟩
  | 72 => ⟨S16x80x80x80, .f32⟩
  | 73 => ⟨S16x80x80x80, .f32⟩
  | 74 => ⟨S_, .f32⟩
  | 75 => ⟨S16x80x80x80, .f32⟩
  | 76 => ⟨S16x80x80x80, .f32⟩
  | 77 => ⟨S16x80x6400, .f32⟩
  | 78 => ⟨S256x256, .f32⟩
  | 79 => ⟨S16x256, .f32⟩
  | 80 => ⟨S1x256, .f32⟩
  | 81 => ⟨S16x256, .f32⟩
  | 82 => ⟨S16x256, .f32⟩
  | 83 => ⟨S16x256, .f32⟩
  | 84 => ⟨S16x256, .f32⟩
  | 85 => ⟨S_, .f32⟩
  | 86 => ⟨S16x256, .f32⟩
  | 87 => ⟨S16x256, .f32⟩
  | 88 => ⟨S_, .f32⟩
  | 89 => ⟨S16x256, .f32⟩
  | 90 => ⟨S16x256, .f32⟩
  | 91 => ⟨S256x256, .f32⟩
  | 92 => ⟨S16x256x1x1, .f32⟩
  | 93 => ⟨S16x256x80x80, .f32⟩
  | 94 => ⟨S16x256x80x80, .f32⟩
  | 95 => ⟨S16x80x80x256, .f32⟩
  | 96 => ⟨S16x256x80x80, .f32⟩
  | 97 => ⟨S1x256x1x1, .f32⟩
  | 98 => ⟨S16x256x80x80, .f32⟩
  | 99 => ⟨S16x256x80x80, .f32⟩
  | 100 => ⟨S1x256x1x1, .f32⟩
  | 101 => ⟨S16x256x80x80, .f32⟩
  | 102 => ⟨S16x256x80x80, .f32⟩
  | 103 => ⟨S16x256x80x80, .f32⟩
  | 104 => ⟨S16x256x80x80, .f32⟩
  | 105 => ⟨S_, .f32⟩
  | 106 => ⟨S16x256x80x80, .f32⟩
  | 107 => ⟨S16x256x80x80, .f32⟩
  | 108 => ⟨S_, .f32⟩
  | 109 => ⟨S16x256x80x80, .f32⟩
  | 110 => ⟨S16x256x80x80, .f32⟩
  | 111 => ⟨S16x256x80x80, .f32⟩
  | 112 => ⟨S_, .i32⟩
  | 113 => ⟨S_, .f32⟩
  | 114 => ⟨S16x256x82x82, .f32⟩
  | 115 => ⟨S68x256x1x1, .f32⟩
  | 116 => ⟨S68x256, .f32⟩
  | 117 => ⟨S16x256x80x80, .f32⟩
  | 118 => ⟨S16x80x80x68, .f32⟩
  | 119 => ⟨S16x68x80x80, .f32⟩
  | 120 => ⟨S68x256x1x1, .f32⟩
  | 121 => ⟨S68x256, .f32⟩
  | 122 => ⟨S16x256x80x80, .f32⟩
  | 123 => ⟨S16x80x80x68, .f32⟩
  | 124 => ⟨S16x68x80x80, .f32⟩
  | 125 => ⟨S68x256x1x1, .f32⟩
  | 126 => ⟨S68x256, .f32⟩
  | 127 => ⟨S16x256x80x80, .f32⟩
  | _ => ⟨S16x1024x20x20, .f32⟩

abbrev hbmTy0_5 (i : Nat) : BufTy := match i % 128 with
  | 0 => ⟨S16x80x80x68, .f32⟩
  | 1 => ⟨S16x68x80x80, .f32⟩
  | 2 => ⟨S68x256x1x1, .f32⟩
  | 3 => ⟨S68x256, .f32⟩
  | 4 => ⟨S16x256x80x80, .f32⟩
  | 5 => ⟨S16x80x80x68, .f32⟩
  | 6 => ⟨S16x68x80x80, .f32⟩
  | 7 => ⟨S68x256x1x1, .f32⟩
  | 8 => ⟨S68x256, .f32⟩
  | 9 => ⟨S16x256x80x80, .f32⟩
  | 10 => ⟨S16x80x80x68, .f32⟩
  | 11 => ⟨S16x68x80x80, .f32⟩
  | 12 => ⟨S68x256x1x1, .f32⟩
  | 13 => ⟨S68x256, .f32⟩
  | 14 => ⟨S16x256x80x80, .f32⟩
  | 15 => ⟨S16x80x80x68, .f32⟩
  | 16 => ⟨S16x68x80x80, .f32⟩
  | 17 => ⟨S68x256x1x1, .f32⟩
  | 18 => ⟨S68x256, .f32⟩
  | 19 => ⟨S16x256x80x80, .f32⟩
  | 20 => ⟨S16x80x80x68, .f32⟩
  | 21 => ⟨S16x68x80x80, .f32⟩
  | 22 => ⟨S68x256x1x1, .f32⟩
  | 23 => ⟨S68x256, .f32⟩
  | 24 => ⟨S16x256x80x80, .f32⟩
  | 25 => ⟨S16x80x80x68, .f32⟩
  | 26 => ⟨S16x68x80x80, .f32⟩
  | 27 => ⟨S68x256x1x1, .f32⟩
  | 28 => ⟨S68x256, .f32⟩
  | 29 => ⟨S16x256x80x80, .f32⟩
  | 30 => ⟨S16x80x80x68, .f32⟩
  | 31 => ⟨S16x68x80x80, .f32⟩
  | 32 => ⟨S16x68x80x80, .f32⟩
  | 33 => ⟨S16x68x80x80, .f32⟩
  | 34 => ⟨S16x68x80x80, .f32⟩
  | 35 => ⟨S16x68x80x80, .f32⟩
  | 36 => ⟨S16x68x80x80, .f32⟩
  | 37 => ⟨S16x68x80x80, .f32⟩
  | 38 => ⟨S16x68x80x80, .f32⟩
  | 39 => ⟨S16x68x80x80, .f32⟩
  | 40 => ⟨S1x68x1x1, .f32⟩
  | 41 => ⟨S16x68x80x80, .f32⟩
  | 42 => ⟨S16x68x80x80, .f32⟩
  | 43 => ⟨S16x4x17x6400, .f32⟩
  | 44 => ⟨S16x17x4x6400, .f32⟩
  | 45 => ⟨S_, .f32⟩
  | 46 => ⟨S16x4x6400, .f32⟩
  | 47 => ⟨S_, .f32⟩
  | 48 => ⟨S16x4x6400, .f32⟩
  | 49 => ⟨S16x4x6400, .f32⟩
  | 50 => ⟨S16x1x4x6400, .f32⟩
  | 51 => ⟨S16x17x4x6400, .f32⟩
  | 52 => ⟨S16x17x4x6400, .f32⟩
  | 53 => ⟨S16x17x4x6400, .f32⟩
  | 54 => ⟨S_, .f32⟩
  | 55 => ⟨S16x4x6400, .f32⟩
  | 56 => ⟨S16x1x4x6400, .f32⟩
  | 57 => ⟨S16x17x4x6400, .f32⟩
  | 58 => ⟨S16x17x4x6400, .f32⟩
  | 59 => ⟨S16x4x6400, .f32⟩
  | 60 => ⟨S16x80x8400, .f32⟩
  | 61 => ⟨S16x4x8400, .f32⟩
  | 62 => ⟨S20, .f32⟩
  | 63 => ⟨S_, .f32⟩
  | 64 => ⟨S20, .f32⟩
  | 65 => ⟨S20, .f32⟩
  | 66 => ⟨S20, .f32⟩
  | 67 => ⟨S_, .f32⟩
  | 68 => ⟨S20, .f32⟩
  | 69 => ⟨S20, .f32⟩
  | 70 => ⟨S20x20, .f32⟩
  | 71 => ⟨S20x20, .f32⟩
  | 72 => ⟨S20x20x1, .f32⟩
  | 73 => ⟨S20x20x1, .f32⟩
  | 74 => ⟨S20x20x2, .f32⟩
  | 75 => ⟨S400x2, .f32⟩
  | 76 => ⟨S_, .f32⟩
  | 77 => ⟨S400x1, .f32⟩
  | 78 => ⟨S40, .f32⟩
  | 79 => ⟨S_, .f32⟩
  | 80 => ⟨S40, .f32⟩
  | 81 => ⟨S40, .f32⟩
  | 82 => ⟨S40, .f32⟩
  | 83 => ⟨S_, .f32⟩
  | 84 => ⟨S40, .f32⟩
  | 85 => ⟨S40, .f32⟩
  | 86 => ⟨S40x40, .f32⟩
  | 87 => ⟨S40x40, .f32⟩
  | 88 => ⟨S40x40x1, .f32⟩
  | 89 => ⟨S40x40x1, .f32⟩
  | 90 => ⟨S40x40x2, .f32⟩
  | 91 => ⟨S1600x2, .f32⟩
  | 92 => ⟨S_, .f32⟩
  | 93 => ⟨S1600x1, .f32⟩
  | 94 => ⟨S80, .f32⟩
  | 95 => ⟨S_, .f32⟩
  | 96 => ⟨S80, .f32⟩
  | 97 => ⟨S80, .f32⟩
  | 98 => ⟨S80, .f32⟩
  | 99 => ⟨S_, .f32⟩
  | 100 => ⟨S80, .f32⟩
  | 101 => ⟨S80, .f32⟩
  | 102 => ⟨S80x80, .f32⟩
  | 103 => ⟨S80x80, .f32⟩
  | 104 => ⟨S80x80x1, .f32⟩
  | 105 => ⟨S80x80x1, .f32⟩
  | 106 => ⟨S80x80x2, .f32⟩
  | 107 => ⟨S6400x2, .f32⟩
  | 108 => ⟨S_, .f32⟩
  | 109 => ⟨S6400x1, .f32⟩
  | 110 => ⟨S8400x2, .f32⟩
  | 111 => ⟨S8400x1, .f32⟩
  | _ => ⟨S16x1024x20x20, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x1024x20x20, .f32⟩

abbrev bufTy : (tb : Table) → Fin (tcTables nBuf tb) → BufTy
  | .hbm, ⟨i, _⟩ => hbmTy i
  | _, _ => ⟨S16x1024x20x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_v0 : Ref sig .tc := ⟨.hbm, 45, rfl⟩
abbrev main_cst : Ref sig .tc := ⟨.hbm, 46, rfl⟩
abbrev main_v1 : Ref sig .tc := ⟨.hbm, 47, rfl⟩
abbrev main_cst_0 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst_1 : Ref sig .tc := ⟨.hbm, 58, rfl⟩
abbrev main_v11 : Ref sig .tc := ⟨.hbm, 59, rfl⟩
abbrev main_v12 : Ref sig .tc := ⟨.hbm, 60, rfl⟩
abbrev main_cst_2 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_cst_3 : Ref sig .tc := ⟨.hbm, 78, rfl⟩
abbrev main_v29 : Ref sig .tc := ⟨.hbm, 79, rfl⟩
abbrev main_v30 : Ref sig .tc := ⟨.hbm, 80, rfl⟩
abbrev main_cst_4 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_c : Ref sig .tc := ⟨.hbm, 86, rfl⟩
abbrev main_call0_v0 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_5 : Ref sig .tc := ⟨.hbm, 147, rfl⟩
abbrev main_v94 : Ref sig .tc := ⟨.hbm, 148, rfl⟩
abbrev main_v95 : Ref sig .tc := ⟨.hbm, 149, rfl⟩
abbrev main_cst_6 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_7 : Ref sig .tc := ⟨.hbm, 161, rfl⟩
abbrev main_v106 : Ref sig .tc := ⟨.hbm, 162, rfl⟩
abbrev main_v107 : Ref sig .tc := ⟨.hbm, 163, rfl⟩
abbrev main_cst_8 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_9 : Ref sig .tc := ⟨.hbm, 181, rfl⟩
abbrev main_v124 : Ref sig .tc := ⟨.hbm, 182, rfl⟩
abbrev main_v125 : Ref sig .tc := ⟨.hbm, 183, rfl⟩
abbrev main_cst_10 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_c_11 : Ref sig .tc := ⟨.hbm, 188, rfl⟩
abbrev main_call1_v0 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_cst_12 : Ref sig .tc := ⟨.hbm, 249, rfl⟩
abbrev main_v188 : Ref sig .tc := ⟨.hbm, 250, rfl⟩
abbrev main_cst_13 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_cst_14 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_cst_15 : Ref sig .tc := ⟨.hbm, 264, rfl⟩
abbrev main_v200 : Ref sig .tc := ⟨.hbm, 265, rfl⟩
abbrev main_cst_16 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_cst_17 : Ref sig .tc := ⟨.hbm, 276, rfl⟩
abbrev main_v210 : Ref sig .tc := ⟨.hbm, 277, rfl⟩
abbrev main_v211 : Ref sig .tc := ⟨.hbm, 278, rfl⟩
abbrev main_cst_18 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_cst_19 : Ref sig .tc := ⟨.hbm, 296, rfl⟩
abbrev main_v228 : Ref sig .tc := ⟨.hbm, 297, rfl⟩
abbrev main_v229 : Ref sig .tc := ⟨.hbm, 298, rfl⟩
abbrev main_cst_20 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_c_21 : Ref sig .tc := ⟨.hbm, 304, rfl⟩
abbrev main_call2_v0 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_cst_22 : Ref sig .tc := ⟨.hbm, 365, rfl⟩
abbrev main_v293 : Ref sig .tc := ⟨.hbm, 366, rfl⟩
abbrev main_v294 : Ref sig .tc := ⟨.hbm, 367, rfl⟩
abbrev main_cst_23 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_v298 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_cst_24 : Ref sig .tc := ⟨.hbm, 379, rfl⟩
abbrev main_v305 : Ref sig .tc := ⟨.hbm, 380, rfl⟩
abbrev main_v306 : Ref sig .tc := ⟨.hbm, 381, rfl⟩
abbrev main_cst_25 : Ref sig .tc := ⟨.hbm, 382, rfl⟩
abbrev main_v307 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_v311 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_v322 : Ref sig .tc := ⟨.hbm, 398, rfl⟩
abbrev main_cst_26 : Ref sig .tc := ⟨.hbm, 399, rfl⟩
abbrev main_v323 : Ref sig .tc := ⟨.hbm, 400, rfl⟩
abbrev main_v324 : Ref sig .tc := ⟨.hbm, 401, rfl⟩
abbrev main_cst_27 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_c_28 : Ref sig .tc := ⟨.hbm, 406, rfl⟩
abbrev main_call3_v0 : Ref sig .tc := ⟨.hbm, 407, rfl⟩
abbrev main_v328 : Ref sig .tc := ⟨.hbm, 408, rfl⟩
abbrev main_v329 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_v337 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_v355 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_v362 : Ref sig .tc := ⟨.hbm, 442, rfl⟩
abbrev main_v363 : Ref sig .tc := ⟨.hbm, 443, rfl⟩
abbrev main_v364 : Ref sig .tc := ⟨.hbm, 444, rfl⟩
abbrev main_v365 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_v371 : Ref sig .tc := ⟨.hbm, 451, rfl⟩
abbrev main_v372 : Ref sig .tc := ⟨.hbm, 452, rfl⟩
abbrev main_v373 : Ref sig .tc := ⟨.hbm, 453, rfl⟩
abbrev main_v374 : Ref sig .tc := ⟨.hbm, 454, rfl⟩
abbrev main_v375 : Ref sig .tc := ⟨.hbm, 455, rfl⟩
abbrev main_v376 : Ref sig .tc := ⟨.hbm, 456, rfl⟩
abbrev main_v377 : Ref sig .tc := ⟨.hbm, 457, rfl⟩
abbrev main_v378 : Ref sig .tc := ⟨.hbm, 458, rfl⟩
abbrev main_v379 : Ref sig .tc := ⟨.hbm, 459, rfl⟩
abbrev main_v380 : Ref sig .tc := ⟨.hbm, 460, rfl⟩
abbrev main_v381 : Ref sig .tc := ⟨.hbm, 461, rfl⟩
abbrev main_v382 : Ref sig .tc := ⟨.hbm, 462, rfl⟩
abbrev main_v383 : Ref sig .tc := ⟨.hbm, 463, rfl⟩
abbrev main_v384 : Ref sig .tc := ⟨.hbm, 464, rfl⟩
abbrev main_v385 : Ref sig .tc := ⟨.hbm, 465, rfl⟩
abbrev main_v386 : Ref sig .tc := ⟨.hbm, 466, rfl⟩
abbrev main_cst_29 : Ref sig .tc := ⟨.hbm, 467, rfl⟩
abbrev main_v387 : Ref sig .tc := ⟨.hbm, 468, rfl⟩
abbrev main_cst_30 : Ref sig .tc := ⟨.hbm, 469, rfl⟩
abbrev main_v388 : Ref sig .tc := ⟨.hbm, 470, rfl⟩
abbrev main_v389 : Ref sig .tc := ⟨.hbm, 471, rfl⟩
abbrev main_v390 : Ref sig .tc := ⟨.hbm, 472, rfl⟩
abbrev main_v391 : Ref sig .tc := ⟨.hbm, 473, rfl⟩
abbrev main_v392 : Ref sig .tc := ⟨.hbm, 474, rfl⟩
abbrev main_v393 : Ref sig .tc := ⟨.hbm, 475, rfl⟩
abbrev main_cst_31 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩
abbrev main_v397 : Ref sig .tc := ⟨.hbm, 480, rfl⟩
abbrev main_v398 : Ref sig .tc := ⟨.hbm, 481, rfl⟩
abbrev main_cst_32 : Ref sig .tc := ⟨.hbm, 482, rfl⟩
abbrev main_v399 : Ref sig .tc := ⟨.hbm, 483, rfl⟩
abbrev main_cst_33 : Ref sig .tc := ⟨.hbm, 484, rfl⟩
abbrev main_v400 : Ref sig .tc := ⟨.hbm, 485, rfl⟩
abbrev main_v401 : Ref sig .tc := ⟨.hbm, 486, rfl⟩
abbrev main_v402 : Ref sig .tc := ⟨.hbm, 487, rfl⟩
abbrev main_v403 : Ref sig .tc := ⟨.hbm, 488, rfl⟩
abbrev main_v404 : Ref sig .tc := ⟨.hbm, 489, rfl⟩
abbrev main_v405 : Ref sig .tc := ⟨.hbm, 490, rfl⟩
abbrev main_v406 : Ref sig .tc := ⟨.hbm, 491, rfl⟩
abbrev main_v407 : Ref sig .tc := ⟨.hbm, 492, rfl⟩
abbrev main_v408 : Ref sig .tc := ⟨.hbm, 493, rfl⟩
abbrev main_cst_34 : Ref sig .tc := ⟨.hbm, 494, rfl⟩
abbrev main_v409 : Ref sig .tc := ⟨.hbm, 495, rfl⟩
abbrev main_v410 : Ref sig .tc := ⟨.hbm, 496, rfl⟩
abbrev main_cst_35 : Ref sig .tc := ⟨.hbm, 497, rfl⟩
abbrev main_v411 : Ref sig .tc := ⟨.hbm, 498, rfl⟩
abbrev main_v412 : Ref sig .tc := ⟨.hbm, 499, rfl⟩
abbrev main_v413 : Ref sig .tc := ⟨.hbm, 500, rfl⟩
abbrev main_v414 : Ref sig .tc := ⟨.hbm, 501, rfl⟩
abbrev main_v415 : Ref sig .tc := ⟨.hbm, 502, rfl⟩
abbrev main_v416 : Ref sig .tc := ⟨.hbm, 503, rfl⟩
abbrev main_v417 : Ref sig .tc := ⟨.hbm, 504, rfl⟩
abbrev main_v418 : Ref sig .tc := ⟨.hbm, 505, rfl⟩
abbrev main_v419 : Ref sig .tc := ⟨.hbm, 506, rfl⟩
abbrev main_v420 : Ref sig .tc := ⟨.hbm, 507, rfl⟩
abbrev main_v421 : Ref sig .tc := ⟨.hbm, 508, rfl⟩
abbrev main_v422 : Ref sig .tc := ⟨.hbm, 509, rfl⟩
abbrev main_v423 : Ref sig .tc := ⟨.hbm, 510, rfl⟩
abbrev main_v424 : Ref sig .tc := ⟨.hbm, 511, rfl⟩
abbrev main_v425 : Ref sig .tc := ⟨.hbm, 512, rfl⟩
abbrev main_v426 : Ref sig .tc := ⟨.hbm, 513, rfl⟩
abbrev main_cst_36 : Ref sig .tc := ⟨.hbm, 514, rfl⟩
abbrev main_v427 : Ref sig .tc := ⟨.hbm, 515, rfl⟩
abbrev main_v428 : Ref sig .tc := ⟨.hbm, 516, rfl⟩
abbrev main_cst_37 : Ref sig .tc := ⟨.hbm, 517, rfl⟩
abbrev main_v429 : Ref sig .tc := ⟨.hbm, 518, rfl⟩
abbrev main_v430 : Ref sig .tc := ⟨.hbm, 519, rfl⟩
abbrev main_v431 : Ref sig .tc := ⟨.hbm, 520, rfl⟩
abbrev main_v432 : Ref sig .tc := ⟨.hbm, 521, rfl⟩
abbrev main_c_38 : Ref sig .tc := ⟨.hbm, 522, rfl⟩
abbrev main_call4_v0 : Ref sig .tc := ⟨.hbm, 523, rfl⟩
abbrev main_v433 : Ref sig .tc := ⟨.hbm, 524, rfl⟩
abbrev main_v434 : Ref sig .tc := ⟨.hbm, 525, rfl⟩
abbrev main_v435 : Ref sig .tc := ⟨.hbm, 526, rfl⟩
abbrev main_v436 : Ref sig .tc := ⟨.hbm, 527, rfl⟩
abbrev main_v437 : Ref sig .tc := ⟨.hbm, 528, rfl⟩
abbrev main_v438 : Ref sig .tc := ⟨.hbm, 529, rfl⟩
abbrev main_v439 : Ref sig .tc := ⟨.hbm, 530, rfl⟩
abbrev main_v440 : Ref sig .tc := ⟨.hbm, 531, rfl⟩
abbrev main_v441 : Ref sig .tc := ⟨.hbm, 532, rfl⟩
abbrev main_v442 : Ref sig .tc := ⟨.hbm, 533, rfl⟩
abbrev main_v443 : Ref sig .tc := ⟨.hbm, 534, rfl⟩
abbrev main_v444 : Ref sig .tc := ⟨.hbm, 535, rfl⟩
abbrev main_v445 : Ref sig .tc := ⟨.hbm, 536, rfl⟩
abbrev main_v446 : Ref sig .tc := ⟨.hbm, 537, rfl⟩
abbrev main_v447 : Ref sig .tc := ⟨.hbm, 538, rfl⟩
abbrev main_v448 : Ref sig .tc := ⟨.hbm, 539, rfl⟩
abbrev main_v449 : Ref sig .tc := ⟨.hbm, 540, rfl⟩
abbrev main_v450 : Ref sig .tc := ⟨.hbm, 541, rfl⟩
abbrev main_v451 : Ref sig .tc := ⟨.hbm, 542, rfl⟩
abbrev main_v452 : Ref sig .tc := ⟨.hbm, 543, rfl⟩
abbrev main_v453 : Ref sig .tc := ⟨.hbm, 544, rfl⟩
abbrev main_v454 : Ref sig .tc := ⟨.hbm, 545, rfl⟩
abbrev main_v455 : Ref sig .tc := ⟨.hbm, 546, rfl⟩
abbrev main_v456 : Ref sig .tc := ⟨.hbm, 547, rfl⟩
abbrev main_v457 : Ref sig .tc := ⟨.hbm, 548, rfl⟩
abbrev main_v458 : Ref sig .tc := ⟨.hbm, 549, rfl⟩
abbrev main_v459 : Ref sig .tc := ⟨.hbm, 550, rfl⟩
abbrev main_v460 : Ref sig .tc := ⟨.hbm, 551, rfl⟩
abbrev main_v461 : Ref sig .tc := ⟨.hbm, 552, rfl⟩
abbrev main_v462 : Ref sig .tc := ⟨.hbm, 553, rfl⟩
abbrev main_v463 : Ref sig .tc := ⟨.hbm, 554, rfl⟩
abbrev main_v464 : Ref sig .tc := ⟨.hbm, 555, rfl⟩
abbrev main_v465 : Ref sig .tc := ⟨.hbm, 556, rfl⟩
abbrev main_v466 : Ref sig .tc := ⟨.hbm, 557, rfl⟩
abbrev main_v467 : Ref sig .tc := ⟨.hbm, 558, rfl⟩
abbrev main_v468 : Ref sig .tc := ⟨.hbm, 559, rfl⟩
abbrev main_v469 : Ref sig .tc := ⟨.hbm, 560, rfl⟩
abbrev main_v470 : Ref sig .tc := ⟨.hbm, 561, rfl⟩
abbrev main_v471 : Ref sig .tc := ⟨.hbm, 562, rfl⟩
abbrev main_v472 : Ref sig .tc := ⟨.hbm, 563, rfl⟩
abbrev main_v473 : Ref sig .tc := ⟨.hbm, 564, rfl⟩
abbrev main_v474 : Ref sig .tc := ⟨.hbm, 565, rfl⟩
abbrev main_v475 : Ref sig .tc := ⟨.hbm, 566, rfl⟩
abbrev main_v476 : Ref sig .tc := ⟨.hbm, 567, rfl⟩
abbrev main_v477 : Ref sig .tc := ⟨.hbm, 568, rfl⟩
abbrev main_v478 : Ref sig .tc := ⟨.hbm, 569, rfl⟩
abbrev main_v479 : Ref sig .tc := ⟨.hbm, 570, rfl⟩
abbrev main_v480 : Ref sig .tc := ⟨.hbm, 571, rfl⟩
abbrev main_v481 : Ref sig .tc := ⟨.hbm, 572, rfl⟩
abbrev main_v482 : Ref sig .tc := ⟨.hbm, 573, rfl⟩
abbrev main_v483 : Ref sig .tc := ⟨.hbm, 574, rfl⟩
abbrev main_v484 : Ref sig .tc := ⟨.hbm, 575, rfl⟩
abbrev main_v485 : Ref sig .tc := ⟨.hbm, 576, rfl⟩
abbrev main_v486 : Ref sig .tc := ⟨.hbm, 577, rfl⟩
abbrev main_v487 : Ref sig .tc := ⟨.hbm, 578, rfl⟩
abbrev main_v488 : Ref sig .tc := ⟨.hbm, 579, rfl⟩
abbrev main_v489 : Ref sig .tc := ⟨.hbm, 580, rfl⟩
abbrev main_v490 : Ref sig .tc := ⟨.hbm, 581, rfl⟩
abbrev main_v491 : Ref sig .tc := ⟨.hbm, 582, rfl⟩
abbrev main_cst_39 : Ref sig .tc := ⟨.hbm, 583, rfl⟩
abbrev main_v492 : Ref sig .tc := ⟨.hbm, 584, rfl⟩
abbrev main_v493 : Ref sig .tc := ⟨.hbm, 585, rfl⟩
abbrev main_cst_40 : Ref sig .tc := ⟨.hbm, 586, rfl⟩
abbrev main_v494 : Ref sig .tc := ⟨.hbm, 587, rfl⟩
abbrev main_v495 : Ref sig .tc := ⟨.hbm, 588, rfl⟩
abbrev main_v496 : Ref sig .tc := ⟨.hbm, 589, rfl⟩
abbrev main_v497 : Ref sig .tc := ⟨.hbm, 590, rfl⟩
abbrev main_v498 : Ref sig .tc := ⟨.hbm, 591, rfl⟩
abbrev main_v499 : Ref sig .tc := ⟨.hbm, 592, rfl⟩
abbrev main_v500 : Ref sig .tc := ⟨.hbm, 593, rfl⟩
abbrev main_v501 : Ref sig .tc := ⟨.hbm, 594, rfl⟩
abbrev main_v502 : Ref sig .tc := ⟨.hbm, 595, rfl⟩
abbrev main_v503 : Ref sig .tc := ⟨.hbm, 596, rfl⟩
abbrev main_cst_41 : Ref sig .tc := ⟨.hbm, 597, rfl⟩
abbrev main_v504 : Ref sig .tc := ⟨.hbm, 598, rfl⟩
abbrev main_v505 : Ref sig .tc := ⟨.hbm, 599, rfl⟩
abbrev main_cst_42 : Ref sig .tc := ⟨.hbm, 600, rfl⟩
abbrev main_v506 : Ref sig .tc := ⟨.hbm, 601, rfl⟩
abbrev main_v507 : Ref sig .tc := ⟨.hbm, 602, rfl⟩
abbrev main_v508 : Ref sig .tc := ⟨.hbm, 603, rfl⟩
abbrev main_v509 : Ref sig .tc := ⟨.hbm, 604, rfl⟩
abbrev main_v510 : Ref sig .tc := ⟨.hbm, 605, rfl⟩
abbrev main_v511 : Ref sig .tc := ⟨.hbm, 606, rfl⟩
abbrev main_v512 : Ref sig .tc := ⟨.hbm, 607, rfl⟩
abbrev main_v513 : Ref sig .tc := ⟨.hbm, 608, rfl⟩
abbrev main_v514 : Ref sig .tc := ⟨.hbm, 609, rfl⟩
abbrev main_v515 : Ref sig .tc := ⟨.hbm, 610, rfl⟩
abbrev main_v516 : Ref sig .tc := ⟨.hbm, 611, rfl⟩
abbrev main_v517 : Ref sig .tc := ⟨.hbm, 612, rfl⟩
abbrev main_v518 : Ref sig .tc := ⟨.hbm, 613, rfl⟩
abbrev main_v519 : Ref sig .tc := ⟨.hbm, 614, rfl⟩
abbrev main_v520 : Ref sig .tc := ⟨.hbm, 615, rfl⟩
abbrev main_v521 : Ref sig .tc := ⟨.hbm, 616, rfl⟩
abbrev main_cst_43 : Ref sig .tc := ⟨.hbm, 617, rfl⟩
abbrev main_v522 : Ref sig .tc := ⟨.hbm, 618, rfl⟩
abbrev main_v523 : Ref sig .tc := ⟨.hbm, 619, rfl⟩
abbrev main_cst_44 : Ref sig .tc := ⟨.hbm, 620, rfl⟩
abbrev main_v524 : Ref sig .tc := ⟨.hbm, 621, rfl⟩
abbrev main_v525 : Ref sig .tc := ⟨.hbm, 622, rfl⟩
abbrev main_v526 : Ref sig .tc := ⟨.hbm, 623, rfl⟩
abbrev main_c_45 : Ref sig .tc := ⟨.hbm, 624, rfl⟩
abbrev main_call5_v0 : Ref sig .tc := ⟨.hbm, 625, rfl⟩
abbrev main_v527 : Ref sig .tc := ⟨.hbm, 626, rfl⟩
abbrev main_v528 : Ref sig .tc := ⟨.hbm, 627, rfl⟩
abbrev main_v529 : Ref sig .tc := ⟨.hbm, 628, rfl⟩
abbrev main_v530 : Ref sig .tc := ⟨.hbm, 629, rfl⟩
abbrev main_v531 : Ref sig .tc := ⟨.hbm, 630, rfl⟩
abbrev main_v532 : Ref sig .tc := ⟨.hbm, 631, rfl⟩
abbrev main_v533 : Ref sig .tc := ⟨.hbm, 632, rfl⟩
abbrev main_v534 : Ref sig .tc := ⟨.hbm, 633, rfl⟩
abbrev main_v535 : Ref sig .tc := ⟨.hbm, 634, rfl⟩
abbrev main_v536 : Ref sig .tc := ⟨.hbm, 635, rfl⟩
abbrev main_v537 : Ref sig .tc := ⟨.hbm, 636, rfl⟩
abbrev main_v538 : Ref sig .tc := ⟨.hbm, 637, rfl⟩
abbrev main_v539 : Ref sig .tc := ⟨.hbm, 638, rfl⟩
abbrev main_v540 : Ref sig .tc := ⟨.hbm, 639, rfl⟩
abbrev main_v541 : Ref sig .tc := ⟨.hbm, 640, rfl⟩
abbrev main_v542 : Ref sig .tc := ⟨.hbm, 641, rfl⟩
abbrev main_v543 : Ref sig .tc := ⟨.hbm, 642, rfl⟩
abbrev main_v544 : Ref sig .tc := ⟨.hbm, 643, rfl⟩
abbrev main_v545 : Ref sig .tc := ⟨.hbm, 644, rfl⟩
abbrev main_v546 : Ref sig .tc := ⟨.hbm, 645, rfl⟩
abbrev main_v547 : Ref sig .tc := ⟨.hbm, 646, rfl⟩
abbrev main_v548 : Ref sig .tc := ⟨.hbm, 647, rfl⟩
abbrev main_v549 : Ref sig .tc := ⟨.hbm, 648, rfl⟩
abbrev main_v550 : Ref sig .tc := ⟨.hbm, 649, rfl⟩
abbrev main_v551 : Ref sig .tc := ⟨.hbm, 650, rfl⟩
abbrev main_v552 : Ref sig .tc := ⟨.hbm, 651, rfl⟩
abbrev main_v553 : Ref sig .tc := ⟨.hbm, 652, rfl⟩
abbrev main_v554 : Ref sig .tc := ⟨.hbm, 653, rfl⟩
abbrev main_v555 : Ref sig .tc := ⟨.hbm, 654, rfl⟩
abbrev main_v556 : Ref sig .tc := ⟨.hbm, 655, rfl⟩
abbrev main_v557 : Ref sig .tc := ⟨.hbm, 656, rfl⟩
abbrev main_v558 : Ref sig .tc := ⟨.hbm, 657, rfl⟩
abbrev main_v559 : Ref sig .tc := ⟨.hbm, 658, rfl⟩
abbrev main_v560 : Ref sig .tc := ⟨.hbm, 659, rfl⟩
abbrev main_v561 : Ref sig .tc := ⟨.hbm, 660, rfl⟩
abbrev main_v562 : Ref sig .tc := ⟨.hbm, 661, rfl⟩
abbrev main_v563 : Ref sig .tc := ⟨.hbm, 662, rfl⟩
abbrev main_v564 : Ref sig .tc := ⟨.hbm, 663, rfl⟩
abbrev main_v565 : Ref sig .tc := ⟨.hbm, 664, rfl⟩
abbrev main_v566 : Ref sig .tc := ⟨.hbm, 665, rfl⟩
abbrev main_v567 : Ref sig .tc := ⟨.hbm, 666, rfl⟩
abbrev main_v568 : Ref sig .tc := ⟨.hbm, 667, rfl⟩
abbrev main_v569 : Ref sig .tc := ⟨.hbm, 668, rfl⟩
abbrev main_v570 : Ref sig .tc := ⟨.hbm, 669, rfl⟩
abbrev main_v571 : Ref sig .tc := ⟨.hbm, 670, rfl⟩
abbrev main_v572 : Ref sig .tc := ⟨.hbm, 671, rfl⟩
abbrev main_v573 : Ref sig .tc := ⟨.hbm, 672, rfl⟩
abbrev main_v574 : Ref sig .tc := ⟨.hbm, 673, rfl⟩
abbrev main_v575 : Ref sig .tc := ⟨.hbm, 674, rfl⟩
abbrev main_v576 : Ref sig .tc := ⟨.hbm, 675, rfl⟩
abbrev main_v577 : Ref sig .tc := ⟨.hbm, 676, rfl⟩
abbrev main_v578 : Ref sig .tc := ⟨.hbm, 677, rfl⟩
abbrev main_v579 : Ref sig .tc := ⟨.hbm, 678, rfl⟩
abbrev main_v580 : Ref sig .tc := ⟨.hbm, 679, rfl⟩
abbrev main_v581 : Ref sig .tc := ⟨.hbm, 680, rfl⟩
abbrev main_v582 : Ref sig .tc := ⟨.hbm, 681, rfl⟩
abbrev main_v583 : Ref sig .tc := ⟨.hbm, 682, rfl⟩
abbrev main_v584 : Ref sig .tc := ⟨.hbm, 683, rfl⟩
abbrev main_v585 : Ref sig .tc := ⟨.hbm, 684, rfl⟩
abbrev main_cst_46 : Ref sig .tc := ⟨.hbm, 685, rfl⟩
abbrev main_v586 : Ref sig .tc := ⟨.hbm, 686, rfl⟩
abbrev main_cst_47 : Ref sig .tc := ⟨.hbm, 687, rfl⟩
abbrev main_v587 : Ref sig .tc := ⟨.hbm, 688, rfl⟩
abbrev main_v588 : Ref sig .tc := ⟨.hbm, 689, rfl⟩
abbrev main_v589 : Ref sig .tc := ⟨.hbm, 690, rfl⟩
abbrev main_v590 : Ref sig .tc := ⟨.hbm, 691, rfl⟩
abbrev main_v591 : Ref sig .tc := ⟨.hbm, 692, rfl⟩
abbrev main_v592 : Ref sig .tc := ⟨.hbm, 693, rfl⟩
abbrev main_cst_48 : Ref sig .tc := ⟨.hbm, 694, rfl⟩
abbrev main_v593 : Ref sig .tc := ⟨.hbm, 695, rfl⟩
abbrev main_v594 : Ref sig .tc := ⟨.hbm, 696, rfl⟩
abbrev main_v595 : Ref sig .tc := ⟨.hbm, 697, rfl⟩
abbrev main_v596 : Ref sig .tc := ⟨.hbm, 698, rfl⟩
abbrev main_v597 : Ref sig .tc := ⟨.hbm, 699, rfl⟩
abbrev main_v598 : Ref sig .tc := ⟨.hbm, 700, rfl⟩
abbrev main_v599 : Ref sig .tc := ⟨.hbm, 701, rfl⟩
abbrev main_v600 : Ref sig .tc := ⟨.hbm, 702, rfl⟩
abbrev main_cst_49 : Ref sig .tc := ⟨.hbm, 703, rfl⟩
abbrev main_v601 : Ref sig .tc := ⟨.hbm, 704, rfl⟩
abbrev main_v602 : Ref sig .tc := ⟨.hbm, 705, rfl⟩
abbrev main_v603 : Ref sig .tc := ⟨.hbm, 706, rfl⟩
abbrev main_cst_50 : Ref sig .tc := ⟨.hbm, 707, rfl⟩
abbrev main_v604 : Ref sig .tc := ⟨.hbm, 708, rfl⟩
abbrev main_v605 : Ref sig .tc := ⟨.hbm, 709, rfl⟩
abbrev main_v606 : Ref sig .tc := ⟨.hbm, 710, rfl⟩
abbrev main_v607 : Ref sig .tc := ⟨.hbm, 711, rfl⟩
abbrev main_v608 : Ref sig .tc := ⟨.hbm, 712, rfl⟩
abbrev main_v609 : Ref sig .tc := ⟨.hbm, 713, rfl⟩
abbrev main_v610 : Ref sig .tc := ⟨.hbm, 714, rfl⟩
abbrev main_v611 : Ref sig .tc := ⟨.hbm, 715, rfl⟩
abbrev main_cst_51 : Ref sig .tc := ⟨.hbm, 716, rfl⟩
abbrev main_v612 : Ref sig .tc := ⟨.hbm, 717, rfl⟩
abbrev main_v613 : Ref sig .tc := ⟨.hbm, 718, rfl⟩
abbrev main_cst_52 : Ref sig .tc := ⟨.hbm, 719, rfl⟩
abbrev main_v614 : Ref sig .tc := ⟨.hbm, 720, rfl⟩
abbrev main_v615 : Ref sig .tc := ⟨.hbm, 721, rfl⟩
abbrev main_v616 : Ref sig .tc := ⟨.hbm, 722, rfl⟩
abbrev main_cst_53 : Ref sig .tc := ⟨.hbm, 723, rfl⟩
abbrev main_v617 : Ref sig .tc := ⟨.hbm, 724, rfl⟩
abbrev main_v618 : Ref sig .tc := ⟨.hbm, 725, rfl⟩
abbrev main_v619 : Ref sig .tc := ⟨.hbm, 726, rfl⟩
abbrev main_v620 : Ref sig .tc := ⟨.hbm, 727, rfl⟩
abbrev main_v621 : Ref sig .tc := ⟨.hbm, 728, rfl⟩
abbrev main_v622 : Ref sig .tc := ⟨.hbm, 729, rfl⟩
abbrev main_v623 : Ref sig .tc := ⟨.hbm, 730, rfl⟩
abbrev main_v624 : Ref sig .tc := ⟨.hbm, 731, rfl⟩
abbrev main_cst_54 : Ref sig .tc := ⟨.hbm, 732, rfl⟩
abbrev main_v625 : Ref sig .tc := ⟨.hbm, 733, rfl⟩
abbrev main_v626 : Ref sig .tc := ⟨.hbm, 734, rfl⟩
abbrev main_cst_55 : Ref sig .tc := ⟨.hbm, 735, rfl⟩
abbrev main_v627 : Ref sig .tc := ⟨.hbm, 736, rfl⟩
abbrev main_v628 : Ref sig .tc := ⟨.hbm, 737, rfl⟩
abbrev main_v629 : Ref sig .tc := ⟨.hbm, 738, rfl⟩
abbrev main_cst_56 : Ref sig .tc := ⟨.hbm, 739, rfl⟩
abbrev main_v630 : Ref sig .tc := ⟨.hbm, 740, rfl⟩
abbrev main_v631 : Ref sig .tc := ⟨.hbm, 741, rfl⟩
abbrev main_v632 : Ref sig .tc := ⟨.hbm, 742, rfl⟩
abbrev main_v633 : Ref sig .tc := ⟨.hbm, 743, rfl⟩
abbrev main_v634 : Ref sig .tc := ⟨.hbm, 744, rfl⟩
abbrev main_v635 : Ref sig .tc := ⟨.hbm, 745, rfl⟩
abbrev main_v636 : Ref sig .tc := ⟨.hbm, 746, rfl⟩
abbrev main_v637 : Ref sig .tc := ⟨.hbm, 747, rfl⟩
abbrev main_cst_57 : Ref sig .tc := ⟨.hbm, 748, rfl⟩
abbrev main_v638 : Ref sig .tc := ⟨.hbm, 749, rfl⟩
abbrev main_v639 : Ref sig .tc := ⟨.hbm, 750, rfl⟩
abbrev main_v640 : Ref sig .tc := ⟨.hbm, 751, rfl⟩

abbrev nD : Nat := 1
abbrev τ : Topo := Topo.v7x

variable {F : FTy → Type} [FloatOps F]
-- ==== Proof.Run.lean ====
/-
  The run of the kernel from an arbitrary memory: at the end every buffer of every device holds what the fold of the host
  stretches and of the three calls through the launch contents says.
-/
module

public import proofs.«01_k».proof.Proof.Gen.KernelIdeal.Frame

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- From any memory the run ends, and every buffer then holds its contents after the last stretch, `W7`. -/
theorem ends : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

end Cert.KernelIdeal.Gen

end
-- ==== Proof.Grid.lean ====
/-
  The anchor points and the strides: both programs compute them from the sizes of the three scales alone, by the same
  host operations, so the two arrays are the same whatever the arguments are.
-/
module

public import proofs.«01_k».proof.Proof.Gen.KernelIdeal.Launch
public import proofs.«01_k».proof.Proof.Gen.ReferenceIdeal.Run
public import Idealize.ShloMosaic.Lib.StableHlo.RunRead

@[expose] public section

set_option maxRecDepth 65536

noncomputable section

namespace Cert.Head

open Idealize.ShloMosaic Idealize.ShloMosaic.TcCoe Idealize.SL.Sem

variable (U : Valuation Cert.KernelIdeal.τ Cert.KernelIdeal.sig (Elt Ideal)) (V : Valuation Cert.ReferenceIdeal.τ Cert.ReferenceIdeal.sig (Elt Ideal))

/-- The anchor points of the two programs. -/
theorem anchors_eq : StableHlo.after Cert.KernelIdeal.Gen.hostOps3 U (Proc.devRef .tc Cert.KernelIdeal.main_v117)
    = Cert.ReferenceIdeal.Value.val12 V (Proc.devRef .tc Cert.ReferenceIdeal.main_v639) := by
  rw [Cert.ReferenceIdeal.Value.val12_main_v639]
  after_reads_simp
  rfl

/-- The strides of the two programs. -/
theorem strides_eq : StableHlo.after Cert.KernelIdeal.Gen.hostOps3 U (Proc.devRef .tc Cert.KernelIdeal.main_v118)
    = Cert.ReferenceIdeal.Value.val12 V (Proc.devRef .tc Cert.ReferenceIdeal.main_v640) := by
  rw [Cert.ReferenceIdeal.Value.val12_main_v640]
  after_reads_simp
  rfl

end Cert.Head

end
-- ==== Proof.Ops.lean ====
/-
  Layout operations on matrices read at an entry: broadcasts of a column, casts between a row and a column, sums and
  maxima along an axis, concatenations of blocks, rotations of lanes. Each is stated at any extents, for an index
  written by its coordinates.
-/
module

public import Idealize.ShloMosaic.Lib.ValueLayout
public import Idealize.ShloMosaic.Lib.ValueLayoutCasts
public import Idealize.ShloMosaic.Lib.KernelVsHost
public import Idealize.ShloMosaic.Lib.MatmulPlain
public import Idealize.ShloMosaic.Lib.Affine

@[expose] public section

noncomputable section

namespace Cert.Head

open Idealize.ShloMosaic Idealize.ShloMosaic.ValueIdx

/-- The shape of a matrix. -/
abbrev M2 (a b : ℕ) : Shape := ⟨2, ![a, b]⟩
/-- The shape of a stack of matrices. -/
abbrev M3 (a b c : ℕ) : Shape := ⟨3, ![a, b, c]⟩
/-- The shape of a vector. -/
abbrev M1 (a : ℕ) : Shape := ⟨1, ![a]⟩

variable {α : Type}

/-- One column broadcast over many. -/
theorem bcastCol {a b : ℕ} (v : (M2 a 1).Idx → α) (h : (M2 a 1).Broadcasts (M2 a b)) (i : Fin a) (j : Fin b) :
    broadcastTo (M2 a b) v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A column cast to a row. -/
theorem castColRow {a : ℕ} (v : (M2 a 1).Idx → α) (h : (M2 a 1).ShapeCasts (M2 1 a)) (u : Fin 1) (i : Fin a) :
    shapeCast (M2 1 a) v h (ix2 u i) = v (ix2 i (0 : Fin 1)) :=
  shapeCast_apply v h _ _ (by
    have hu : u.val = 0 := by omega
    rw [Shape.rowMajor_val_two, Shape.rowMajor_val_two]
    show i.val * 1 + 0 = u.val * a + i.val
    rw [hu]; omega)

/-- The sum of each row. -/
theorem sumRow {a b : ℕ} (x : FVec Ideal (M2 a b) .f32) (h : (M2 a b).Reduces [1] (M1 a)) (hφ : FKind.Formats .f32)
    (hacc : (0x00000000#32 : BitVec 32) = FKind.add.neutral .f32 hφ) (i : Fin a) :
    multiReduction .add [1] (M1 a) x 0x00000000#32 h hφ hacc (ix1 i) = ∑ k : Fin b, x (ix2 i k) := by
  rw [Ideal.multiReduction_add_single]
  refine Finset.sum_congr rfl fun k _ => congrArg x (Shape.idx_ext₂ rfl rfl)

/-- The sum of each column. -/
theorem sumCol {a b : ℕ} (x : FVec Ideal (M2 a b) .f32) (h : (M2 a b).Reduces [0] (M1 b)) (hφ : FKind.Formats .f32)
    (hacc : (0x00000000#32 : BitVec 32) = FKind.add.neutral .f32 hφ) (j : Fin b) :
    multiReduction .add [0] (M1 b) x 0x00000000#32 h hφ hacc (ix1 j) = ∑ k : Fin a, x (ix2 k j) := by
  rw [Ideal.multiReduction_add_single]
  refine Finset.sum_congr rfl fun k _ => congrArg x (Shape.idx_ext₂ rfl rfl)

/-- The maximum of each column. -/
theorem maxCol {a b : ℕ} (x : FVec Ideal (M2 a b) .f32) (h : (M2 a b).Reduces [0] (M1 b)) (hφ : FKind.Formats .f32)
    (hacc : (0xFF800000#32 : BitVec 32) = FKind.maximumf.neutral .f32 hφ) (j : Fin b) :
    multiReduction .maximumf [0] (M1 b) x 0xFF800000#32 h hφ hacc (ix1 j)
      = (Finset.univ : Finset (Fin a)).fold max (FloatOps.ofBits (F := Ideal) .f32 0xFF800000#32) (fun k => x (ix2 k j)) := by
  rw [Ideal.multiReduction_maximumf_single]
  exact congrArg (fun f => Finset.fold max _ f Finset.univ) (funext fun k => congrArg x (Shape.idx_ext₂ rfl rfl))

/-- Two blocks stacked: a row of the first. -/
theorem stack2_top {a b c L : ℕ} (x : (M2 a L).Idx → α) (y : (M2 b L).Idx → α)
    (h : Shape.Concatenates [M2 a L, M2 b L] (M2 c L) 0) (i : Fin c) (j : Fin L) (k : Fin a) (hk : k.val = i.val) :
    concatenate (M2 c L) 0 [⟨M2 a L, x⟩, ⟨M2 b L, y⟩] h (ix2 i j) = x (ix2 k j) :=
  concatenate_pair_apply_left (t := M2 c L) 0 x y h (ix2 i j) rfl (ix2 k j) (fun ax => by
    match ax with
    | ⟨0, _⟩ => exact hk
    | ⟨1, _⟩ => rfl)

/-- Two blocks stacked: a row of the second. -/
theorem stack2_bot {a b c L : ℕ} (x : (M2 a L).Idx → α) (y : (M2 b L).Idx → α)
    (h : Shape.Concatenates [M2 a L, M2 b L] (M2 c L) 0) (i : Fin c) (j : Fin L) (k : Fin b) (hk : k.val + a = i.val) :
    concatenate (M2 c L) 0 [⟨M2 a L, x⟩, ⟨M2 b L, y⟩] h (ix2 i j) = y (ix2 k j) :=
  concatenate_pair_apply_right (t := M2 c L) 0 x y h (ix2 i j) rfl rfl (ix2 k j) (fun ax hax => by
    match ax with
    | ⟨0, _⟩ => exact absurd rfl hax
    | ⟨1, _⟩ => rfl) hk

/-- Two blocks side by side: a column of the first. -/
theorem beside_left {a b c m : ℕ} (x : (M2 m a).Idx → α) (y : (M2 m b).Idx → α)
    (h : Shape.Concatenates [M2 m a, M2 m b] (M2 m c) 1) (i : Fin m) (j : Fin c) (k : Fin a) (hk : k.val = j.val) :
    concatenate (M2 m c) 1 [⟨M2 m a, x⟩, ⟨M2 m b, y⟩] h (ix2 i j) = x (ix2 i k) :=
  concatenate_pair_apply_left (t := M2 m c) 1 x y h (ix2 i j) rfl (ix2 i k) (fun ax => by
    match ax with
    | ⟨0, _⟩ => rfl
    | ⟨1, _⟩ => exact hk)

/-- Two blocks side by side: a column of the second. -/
theorem beside_right {a b c m : ℕ} (x : (M2 m a).Idx → α) (y : (M2 m b).Idx → α)
    (h : Shape.Concatenates [M2 m a, M2 m b] (M2 m c) 1) (i : Fin m) (j : Fin c) (k : Fin b) (hk : k.val + a = j.val) :
    concatenate (M2 m c) 1 [⟨M2 m a, x⟩, ⟨M2 m b, y⟩] h (ix2 i j) = y (ix2 i k) :=
  concatenate_pair_apply_right (t := M2 m c) 1 x y h (ix2 i j) rfl rfl (ix2 i k) (fun ax hax => by
    match ax with
    | ⟨0, _⟩ => rfl
    | ⟨1, _⟩ => exact absurd rfl hax) hk

/-- Any number of blocks stacked: a row of the block `n`, the blocks before it having `pre` rows. -/
theorem stackN {a c L : ℕ} (xs : List ((s : Shape) × (s.Idx → α))) (h : Shape.Concatenates (xs.map (·.1)) (M2 c L) 0)
    (n : ℕ) (hn : n < xs.length) (x : (M2 a L).Idx → α) (hx : xs[n] = ⟨M2 a L, x⟩) (pre : ℕ)
    (hpre : (((xs.take n).map (·.1)).map fun s => if h : s.rank = (M2 c L).rank then s.size ((0 : Fin (M2 c L).rank).cast h.symm) else 0).sum = pre)
    (i : Fin c) (j : Fin L) (k : Fin a) (hk : pre + k.val = i.val) :
    concatenate (M2 c L) 0 xs h (ix2 i j) = x (ix2 k j) :=
  concatenate_apply_piece (t := M2 c L) 0 xs h (ix2 i j) n hn (M2 a L) x hx rfl pre hpre (ix2 k j) (fun ax hax => by
    match ax with
    | ⟨0, _⟩ => exact absurd rfl hax
    | ⟨1, _⟩ => rfl) hk

/-- Any number of blocks side by side: a column of the block `n`, the blocks before it having `pre` columns. -/
theorem besideN {a c m : ℕ} (xs : List ((s : Shape) × (s.Idx → α))) (h : Shape.Concatenates (xs.map (·.1)) (M2 m c) 1)
    (n : ℕ) (hn : n < xs.length) (x : (M2 m a).Idx → α) (hx : xs[n] = ⟨M2 m a, x⟩) (pre : ℕ)
    (hpre : (((xs.take n).map (·.1)).map fun s => if h : s.rank = (M2 m c).rank then s.size ((1 : Fin (M2 m c).rank).cast h.symm) else 0).sum = pre)
    (i : Fin m) (j : Fin c) (k : Fin a) (hk : pre + k.val = j.val) :
    concatenate (M2 m c) 1 xs h (ix2 i j) = x (ix2 i k) :=
  concatenate_apply_piece (t := M2 m c) 1 xs h (ix2 i j) n hn (M2 m a) x hx rfl pre hpre (ix2 i k) (fun ax hax => by
    match ax with
    | ⟨0, _⟩ => rfl
    | ⟨1, _⟩ => exact absurd rfl hax) hk

/-- Three stacks of blocks, concatenated along the last axis. -/
theorem beside3N {a b c m : ℕ} (xs : List ((s : Shape) × (s.Idx → α))) (h : Shape.Concatenates (xs.map (·.1)) (M3 m a c) 2)
    (n : ℕ) (hn : n < xs.length) (x : (M3 m a b).Idx → α) (hx : xs[n] = ⟨M3 m a b, x⟩) (pre : ℕ)
    (hpre : (((xs.take n).map (·.1)).map fun s => if h : s.rank = (M3 m a c).rank then s.size ((2 : Fin (M3 m a c).rank).cast h.symm) else 0).sum = pre)
    (i : Fin m) (o : Fin a) (j : Fin c) (k : Fin b) (hk : pre + k.val = j.val) :
    concatenate (M3 m a c) 2 xs h (ix3 i o j) = x (ix3 i o k) :=
  concatenate_apply_piece (t := M3 m a c) 2 xs h (ix3 i o j) n hn (M3 m a b) x hx rfl pre hpre (ix3 i o k) (fun ax hax => by
    match ax with
    | ⟨0, _⟩ => rfl
    | ⟨1, _⟩ => rfl
    | ⟨2, _⟩ => exact absurd rfl hax) hk

/-- Lanes rotated by `n`: lane `j` holds lane `k`, where `k` is `j` less `n` modulo the number of lanes. -/
theorem rotLane {a L : ℕ} (n : BitVec 32) (x : (M2 a L).Idx → α) (h : (M2 a L).Rotates 1 none) (i : Fin a) (j k : Fin L)
    (hk : k.val = (j.val + L - n.toNat % L) % L) :
    dynamicRotate 1 n none x h (ix2 i j) = x (ix2 i k) :=
  dynamicRotate_apply (s := M2 a L) 1 n x h (ix2 i j) (ix2 i k) (fun ax => by
    match ax with
    | ⟨0, _⟩ => rfl
    | ⟨1, _⟩ => exact hk)

/-- A sum over three consecutive runs of `C` terms. -/
theorem sum_three {C C3 : ℕ} (h : C3 = C + C + C) (f : Fin C3 → EReal) :
    ∑ p, f p = (∑ c : Fin C, f ⟨c.val, by omega⟩) + (∑ c : Fin C, f ⟨C + c.val, by omega⟩) + ∑ c : Fin C, f ⟨C + C + c.val, by omega⟩ := by
  subst h
  rw [Fin.sum_univ_add, Fin.sum_univ_add]
  rfl

end Cert.Head
-- ==== Proof.Spec.lean ====
/-
  The detection head on one image at one scale, as functions on the extended reals: the gate of a channel, the gated
  one-by-one product, the three-by-three product with a border of zeros, the score and the integral of the distribution;
  with the two laws that let a program compute them in another order.
-/
module

public import Idealize.ShloMosaic.Lib.IdealHost
public import Idealize.ShloMosaic.Lib.KernelVsHost

@[expose] public section

noncomputable section

namespace Cert.Head

open Idealize.ShloMosaic

/-! ## Finite values -/

/-- A finite sum of real numbers, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
def Fin' (x : EReal) : Prop := ∃ r : ℝ, x = (r : EReal)

/-- The exponential of a value that is not `⊤` is a real, at least zero. -/
theorem exp_real {x : EReal} (h : x ≠ ⊤) : ∃ r : ℝ, 0 ≤ r ∧ Ideal.exp x = (r : EReal) := by
  induction x with
  | bot => exact ⟨0, le_refl _, rfl⟩
  | top => exact absurd rfl h
  | coe r => exact ⟨Real.exp r, (Real.exp_pos r).le, rfl⟩

/-- The logistic of any value is a real number. -/
theorem logistic_fin (x : EReal) : Fin' (Ideal.logistic x) := by
  unfold Ideal.logistic
  by_cases h : -x = ⊤
  · rw [h]
    refine ⟨0, ?_⟩
    show Ideal.div 1 (1 + ⊤) = _
    have : (1 : EReal) + ⊤ = ⊤ := rfl
    rw [this]
    unfold Ideal.div
    rw [if_neg (by simp)]
    simp
  · obtain ⟨r, hr, e⟩ := exp_real h
    refine ⟨1 / (1 + r), ?_⟩
    rw [e]
    have : (1 : EReal) + (r : EReal) = ((1 + r : ℝ) : EReal) := by push_cast; rfl
    rw [this, Ideal.div_coe (by positivity : (1 + r) ≠ 0), one_mul]

/-! ## The head -/

variable {C H W M : ℕ}

/-- Channel `c` averaged over the image, `κ` being one over the number of its points. -/
def avg (κ : EReal) (x : Fin C → Fin H → Fin W → EReal) (c : Fin C) : EReal := (∑ h, ∑ w, x c h w) * κ

/-- The gate of channel `c`: the logistic of a row of `fw` times the averages, plus `fb`. -/
def gate (a : Fin C → EReal) (fw : Fin C → Fin C → EReal) (fb : Fin C → EReal) (c : Fin C) : EReal :=
  Ideal.logistic ((∑ k, a k * fw c k) + fb c)

/-- The gated channels times `cw`, scaled and shifted. -/
def zval (x : Fin C → Fin H → Fin W → EReal) (g : Fin C → EReal) (cw : Fin C → Fin C → EReal) (s b : Fin C → EReal)
    (c : Fin C) (h : Fin H) (w : Fin W) : EReal :=
  (∑ k, x k h w * g k * cw c k) * s c + b c

/-- `z` times its logistic. -/
def swish (z : EReal) : EReal := z * Ideal.logistic z

/-- An image read at row `i - 1` and column `j - 1`, zero outside it. -/
def padded (x : Fin H → Fin W → EReal) (i j : ℕ) : EReal :=
  if h : (1 ≤ i ∧ i - 1 < H) ∧ (1 ≤ j ∧ j - 1 < W) then x ⟨i - 1, h.1.2⟩ ⟨j - 1, h.2.2⟩ else 0

/-- The channels of the tap `(ky, kx)` at a point, against their weights. -/
def tap (x : Fin C → Fin H → Fin W → EReal) (w : Fin C → Fin 3 → Fin 3 → EReal) (i j : ℕ) (ky kx : Fin 3) : EReal :=
  ∑ c, padded (x c) (i + ky.val) (j + kx.val) * w c ky kx

/-- The three-by-three product at a point: the nine taps, and the shift `b`. -/
def conv9 (x : Fin C → Fin H → Fin W → EReal) (w : Fin M → Fin C → Fin 3 → Fin 3 → EReal) (b : Fin M → EReal)
    (o : Fin M) (i : Fin H) (j : Fin W) : EReal :=
  (tap x (w o) i j 0 0 + tap x (w o) i j 0 1 + tap x (w o) i j 0 2 + tap x (w o) i j 1 0 + tap x (w o) i j 1 1
    + tap x (w o) i j 1 2 + tap x (w o) i j 2 0 + tap x (w o) i j 2 1 + tap x (w o) i j 2 2) + b o

/-- The maximum of seventeen values. -/
def max17 (r : Fin 17 → EReal) : EReal := (Finset.univ : Finset (Fin 17)).fold max ⊥ r

/-- The exponential of the entry `k`, less the maximum. -/
def ex (r : Fin 17 → EReal) (k : Fin 17) : EReal := Ideal.exp (r k - max17 r)

/-- The integral of the distribution whose logits are `r`: the sum of `k` times its probability. -/
def integral (r : Fin 17 → EReal) : EReal :=
  ∑ k : Fin 17, ((k.val : ℝ) : EReal) * Ideal.div (ex r k) (∑ n, ex r n)

/-- The parameters of one scale. -/
structure Par (C : ℕ) where
  /-- the gate's product and shift, for the scores -/
  cfw : Fin C → Fin C → EReal
  cfb : Fin C → EReal
  /-- the product, scale and shift, for the scores -/
  ccw : Fin C → Fin C → EReal
  cbs : Fin C → EReal
  cbb : Fin C → EReal
  /-- the gate's product and shift, for the distributions -/
  rfw : Fin C → Fin C → EReal
  rfb : Fin C → EReal
  /-- the product, scale and shift, for the distributions -/
  rcw : Fin C → Fin C → EReal
  rbs : Fin C → EReal
  rbb : Fin C → EReal
  /-- the three-by-three products and their shifts -/
  pcw : Fin 80 → Fin C → Fin 3 → Fin 3 → EReal
  pcb : Fin 80 → EReal
  prw : Fin 68 → Fin C → Fin 3 → Fin 3 → EReal
  prb : Fin 68 → EReal

/-- What the scores' three-by-three product is taken of: the gated block of the image, and the image. -/
def clsIn (κ : EReal) (p : Par C) (x : Fin C → Fin H → Fin W → EReal) (c : Fin C) (h : Fin H) (w : Fin W) : EReal :=
  swish (zval x (gate (avg κ x) p.cfw p.cfb) p.ccw p.cbs p.cbb c h w) + x c h w

/-- What the distributions' three-by-three product is taken of: the gated block of the image. -/
def regIn (κ : EReal) (p : Par C) (x : Fin C → Fin H → Fin W → EReal) (c : Fin C) (h : Fin H) (w : Fin W) : EReal :=
  swish (zval x (gate (avg κ x) p.rfw p.rfb) p.rcw p.rbs p.rbb c h w)

/-- The score of class `o` at a point. -/
def score (κ : EReal) (p : Par C) (x : Fin C → Fin H → Fin W → EReal) (o : Fin 80) (h : Fin H) (w : Fin W) : EReal :=
  Ideal.logistic (conv9 (clsIn κ p x) p.pcw p.pcb o h w)

/-- The distance `f` at a point. -/
def dist (κ : EReal) (p : Par C) (x : Fin C → Fin H → Fin W → EReal) (f : Fin 4) (h : Fin H) (w : Fin W) : EReal :=
  integral fun k => conv9 (regIn κ p x) p.prw p.prb ⟨17 * f.val + k.val, by omega⟩ h w

/-! ## The scale and the gate taken into the weights -/

/-- With finite weights, scale, gates and image, the scale and the gates may be taken into the weights. -/
theorem zval_folded {n : ℕ} (w f g : Fin n → EReal) (s : EReal) (hw : ∀ k, Fin' (w k)) (hf : ∀ k, Fin' (f k))
    (hg : ∀ k, Fin' (g k)) (hs : Fin' s) :
    ∑ k, w k * g k * s * f k = (∑ k, f k * g k * w k) * s := by
  choose w' hw' using hw
  choose f' hf' using hf
  choose g' hg' using hg
  obtain ⟨s', rfl⟩ := hs
  simp only [hw', hf', hg', ← EReal.coe_mul]
  rw [← coe_sum, ← coe_sum, ← EReal.coe_mul, Finset.sum_mul]
  congr 1
  exact Finset.sum_congr rfl fun k _ => by ring

/-! ## The division taken out of the integral -/

theorem le_max17 (r : Fin 17 → EReal) (k : Fin 17) : r k ≤ max17 r := by
  unfold max17
  exact (Finset.le_fold_max (r k)).2 (Or.inr ⟨k, Finset.mem_univ _, le_refl _⟩)

theorem ex_real (r : Fin 17 → EReal) (k : Fin 17) : ∃ a : ℝ, 0 ≤ a ∧ ex r k = (a : EReal) := by
  refine exp_real ?_
  have h := le_max17 r k
  generalize max17 r = m at h ⊢
  induction m with
  | bot =>
    rw [le_bot_iff.1 h]
    decide
  | top =>
    generalize r k = y
    induction y with
    | bot => simp
    | top => simp
    | coe y => simp
  | coe m =>
    generalize r k = y at h ⊢
    induction y with
    | bot => simp
    | top => exact absurd h (by simp)
    | coe y => rw [← EReal.coe_sub]; exact EReal.coe_ne_top _

/-- The weighted sum of the exponentials, divided once, is the integral. Where the exponentials are all zero both are
    `⊥`. -/
theorem integral_eq (r : Fin 17 → EReal) :
    Ideal.div (∑ k : Fin 17, ex r k * ((k.val : ℝ) : EReal)) (∑ n, ex r n) = integral r := by
  unfold integral
  choose a ha0 ha using ex_real r
  simp only [ha]
  rw [← coe_sum]
  by_cases hS : (∑ n, a n) = 0
  · have hz : ∀ k, a k = 0 := fun k => (Finset.sum_eq_zero_iff_of_nonneg fun n _ => ha0 n).1 hS k (Finset.mem_univ _)
    rw [hS]
    simp only [hz]
    have d0 : Ideal.div ((0 : ℝ) : EReal) ((0 : ℝ) : EReal) = ⊥ := by
      unfold Ideal.div; simp
    rw [d0]
    have l : (∑ k : Fin 17, ((0 : ℝ) : EReal) * ((k.val : ℝ) : EReal)) = ((0 : ℝ) : EReal) := by simp
    rw [l, d0, ← Finset.add_sum_erase _ _ (Finset.mem_univ (1 : Fin 17))]
    have : (((1 : Fin 17).val : ℝ) : EReal) * ⊥ = ⊥ := by simp
    rw [this, EReal.bot_add]
  · simp only [Ideal.div_coe hS, ← EReal.coe_mul]
    rw [← coe_sum, ← coe_sum, ← EReal.coe_mul, Finset.sum_mul]
    congr 1
    exact Finset.sum_congr rfl fun k _ => by ring

end Cert.Head
-- ==== Proof.Block.lean ====
/-
  What the kernel computes of one image, as one term at any extents: the averages, the gates, the gated product of both
  branches, the stack of three shifted copies, the three-by-three product by two rotations of the lanes, the scores and
  the four integrals. An image is a matrix of channels by points, row by row.
-/
module

public import proofs.«01_k».proof.Proof.Ops
public import proofs.«01_k».proof.Proof.Spec

@[expose] public section

noncomputable section

namespace Cert.Head

open Idealize.ShloMosaic Idealize.ShloMosaic.ValueIdx

/-- The extents of an image of `C` channels and `L` points in rows of `W`, and what the layout operations ask of them:
    `C2` is twice and `C3` three times `C`, `LW` is `L` less a row. -/
structure Geo (C C2 C3 L LW W : ℕ) : Prop where
  c2 : C2 = C + C
  c3 : C3 = C + C + C
  lw : LW + W = L
  wpos : 0 < W
  lsmall : 2 * L < 2 ^ 32
  castFeat : (M3 1 C L).ShapeCasts (M2 C L)
  sumFeat : (M2 C L).Reduces [1] (M1 C)
  castAvg : (M1 C).ShapeCasts (M2 C 1)
  castFw : (M2 C2 C).ShapeCasts (M2 C2 C)
  castFb : (M2 C2 1).ShapeCasts (M2 C2 1)
  castRow : (M2 C2 1).ShapeCasts (M2 1 C2)
  castCw : (M2 C C).ShapeCasts (M2 C C)
  sliceTop : (M2 1 C2).Slices ![0, 0] (M2 1 C)
  sliceBot : (M2 1 C2).Slices ![0, C] (M2 1 C)
  bcRow : (M2 1 C).Broadcasts (M2 C C)
  catCw : Shape.Concatenates [M2 C C, M2 C C] (M2 C2 C) 0
  bcScale : (M2 C2 1).Broadcasts (M2 C2 C)
  bcShift : (M2 C2 1).Broadcasts (M2 C2 L)
  sliceAct0 : (M2 C2 L).Slices ![0, 0] (M2 C L)
  sliceAct1 : (M2 C2 L).Slices ![C, 0] (M2 C L)
  sliceUp : (M2 C L).Slices ![0, 0] (M2 C LW)
  sliceDn : (M2 C L).Slices ![0, W] (M2 C LW)
  catUp : Shape.Concatenates [M2 C W, M2 C LW] (M2 C L) 1
  catDn : Shape.Concatenates [M2 C LW, M2 C W] (M2 C L) 1
  catStack : Shape.Concatenates [M2 C L, M2 C L, M2 C L] (M2 C3 L) 0
  iotaL : (M2 1 L).Iotas .tc 32 [1]
  bcL : (M2 1 L).Broadcasts (M2 1 L)
  castL : (M2 1 L).ShapeCasts (M2 1 L)
  bits : FTy.bits .bf16 < FTy.bits .f32

/-- What the three-by-three product with `M` rows asks of the extents. -/
structure GeoM (M C3 L : ℕ) : Prop where
  castW : (M3 1 M C3).ShapeCasts (M2 M C3)
  rot : (M2 M L).Rotates 1 none
  bcMask : (M2 1 L).Broadcasts (M2 M L)
  castB : (M2 M 1).ShapeCasts (M2 M 1)
  bcB : (M2 M 1).Broadcasts (M2 M L)

/-- What the four integrals ask of the extents. -/
structure GeoR (L : ℕ) : Prop where
  slice0 : (M2 68 L).Slices ![0, 0] (M2 17 L)
  slice1 : (M2 68 L).Slices ![17, 0] (M2 17 L)
  slice2 : (M2 68 L).Slices ![34, 0] (M2 17 L)
  slice3 : (M2 68 L).Slices ![51, 0] (M2 17 L)
  red : (M2 17 L).Reduces [0] (M1 L)
  castV : (M1 L).ShapeCasts (M2 1 L)
  bcV : (M2 1 L).Broadcasts (M2 17 L)
  bcP : (M2 17 1).Broadcasts (M2 17 L)
  iotaP : (M2 17 1).Iotas .tc 32 [0]
  cat4 : Shape.Concatenates [M2 1 L, M2 1 L, M2 1 L, M2 1 L] (M2 4 L) 0

variable {C C2 C3 L LW W M : ℕ}

/-! ## The terms -/

/-- The averages of the channels, as a column. -/
def avgCol (G : Geo C C2 C3 L LW W) (κ : EReal) (f : FVec Ideal (M3 1 C L) .f32) : FVec Ideal (M2 C 1) .f32 :=
  mulf (shapeCast (M2 C 1) (multiReduction .add [1] (M1 C) (shapeCast (M2 C L) f G.castFeat) 0x00000000#32 G.sumFeat (.inl rfl) rfl) G.castAvg)
    (broadcast (M2 C 1) κ)

/-- The gates of both branches, of `N` images at once. -/
def gatesN {N : ℕ} (G : Geo C C2 C3 L LW W) (fcw : FVec Ideal (M2 C2 C) .bf16) (bias : FVec Ideal (M2 C2 N) .f32)
    (a : FVec Ideal (M2 C N) .f32) : FVec Ideal (M2 C2 N) .bf16 :=
  truncf .bf16 (logistic (addf (matmul (DotDims.plain C2 C N) none (shapeCast (M2 C2 C) fcw G.castFw) (truncf .bf16 a G.bits)
    (constant (M2 C2 N) .f32 0x00000000#32)) bias)) G.bits

/-- The image as the product's operand. -/
def feat2 (G : Geo C C2 C3 L LW W) (f : FVec Ideal (M3 1 C L) .f32) : FVec Ideal (M2 C L) .bf16 :=
  truncf .bf16 (shapeCast (M2 C L) f G.castFeat) G.bits

/-- The gated product of both branches before its activation, the gates and the scale taken into the weights. -/
def zpre (G : Geo C C2 C3 L LW W) (fb : FVec Ideal (M2 C L) .bf16) (g : FVec Ideal (M2 1 C2) .bf16) (ccw rcw : FVec Ideal (M2 C C) .bf16)
    (sc : FVec Ideal (M2 C2 1) .bf16) (bc : FVec Ideal (M2 C2 1) .f32) : FVec Ideal (M2 C2 L) .f32 :=
  addf (matmul (DotDims.plain C2 C L) none
      (mulf (concatenate (M2 C2 C) 0
          [⟨M2 C C, mulf (shapeCast (M2 C C) ccw G.castCw) (broadcastTo (M2 C C) (extractStridedSlice (M2 1 C) ![0, 0] g G.sliceTop) G.bcRow)⟩,
           ⟨M2 C C, mulf (shapeCast (M2 C C) rcw G.castCw) (broadcastTo (M2 C C) (extractStridedSlice (M2 1 C) ![0, C] g G.sliceBot) G.bcRow)⟩] G.catCw)
        (broadcastTo (M2 C2 C) (shapeCast (M2 C2 1) sc G.castFb) G.bcScale))
      fb (constant (M2 C2 L) .f32 0x00000000#32))
    (broadcastTo (M2 C2 L) (shapeCast (M2 C2 1) bc G.castFb) G.bcShift)

/-- The gated product of both branches. -/
def zact (G : Geo C C2 C3 L LW W) (fb : FVec Ideal (M2 C L) .bf16) (g : FVec Ideal (M2 1 C2) .bf16) (ccw rcw : FVec Ideal (M2 C C) .bf16)
    (sc : FVec Ideal (M2 C2 1) .bf16) (bc : FVec Ideal (M2 C2 1) .f32) : FVec Ideal (M2 C2 L) .f32 :=
  mulf (zpre G fb g ccw rcw sc bc) (logistic (zpre G fb g ccw rcw sc bc))

/-- What the scores' product is taken of. -/
def xcls (G : Geo C C2 C3 L LW W) (fb : FVec Ideal (M2 C L) .bf16) (z : FVec Ideal (M2 C2 L) .f32) : FVec Ideal (M2 C L) .bf16 :=
  addf (truncf .bf16 (extractStridedSlice (M2 C L) ![0, 0] z G.sliceAct0) G.bits) fb

/-- What the distributions' product is taken of. -/
def xreg (G : Geo C C2 C3 L LW W) (z : FVec Ideal (M2 C2 L) .f32) : FVec Ideal (M2 C L) .bf16 :=
  truncf .bf16 (extractStridedSlice (M2 C L) ![C, 0] z G.sliceAct1) G.bits

/-- The image moved down a row, the image, and the image moved up a row, stacked. -/
def stack3 (G : Geo C C2 C3 L LW W) (x : FVec Ideal (M2 C L) .bf16) : FVec Ideal (M2 C3 L) .bf16 :=
  concatenate (M2 C3 L) 0
    [⟨M2 C L, concatenate (M2 C L) 1 [⟨M2 C W, broadcast (M2 C W) (Scalar.ofBits .bf16 0x0000#16 : Ideal .bf16)⟩,
      ⟨M2 C LW, extractStridedSlice (M2 C LW) ![0, 0] x G.sliceUp⟩] G.catUp⟩,
     ⟨M2 C L, x⟩,
     ⟨M2 C L, concatenate (M2 C L) 1 [⟨M2 C LW, extractStridedSlice (M2 C LW) ![0, W] x G.sliceDn⟩,
      ⟨M2 C W, broadcast (M2 C W) (Scalar.ofBits .bf16 0x0000#16 : Ideal .bf16)⟩] G.catDn⟩] G.catStack

/-- The column of each point. -/
def cols (G : Geo C C2 C3 L LW W) : IVec (M2 1 L) 32 :=
  let d : BitVec 32 := Scalar.select (Scalar.cmpi .eq (BitVec.ofNat 32 W) 0#32) 1#32 (BitVec.ofNat 32 W)
  let r : IVec (M2 1 L) 32 := remsi (iota .tc (M2 1 L) 32 [1] G.iotaL) (broadcast (M2 1 L) d)
  select (andi (xori (cmpi .slt r (broadcast (M2 1 L) 0#32)) (broadcastTo (M2 1 L) (broadcast (M2 1 L) (Scalar.cmpi .slt d 0#32)) G.bcL))
      (cmpi .ne r (broadcast (M2 1 L) 0#32)))
    (addi r (broadcast (M2 1 L) d)) r

/-- One of the three products of the stack. -/
def prod3 (G : Geo C C2 C3 L LW W) (GM : GeoM M C3 L) (w : FVec Ideal (M3 1 M C3) .bf16) (x : FVec Ideal (M2 C L) .bf16) :
    FVec Ideal (M2 M L) .f32 :=
  matmul (DotDims.plain M C3 L) none (shapeCast (M2 M C3) w GM.castW) (stack3 G x) (constant (M2 M L) .f32 0x00000000#32)

/-- The three-by-three product: the middle column's product, and the side columns' products rotated by a lane each way
    where the neighbour is in the same row. `L1` is `L` less one and `W2` is `W` less two. -/
def conv (G : Geo C C2 C3 L LW W) (GM : GeoM M C3 L) (L1 W2 : ℕ) (w0 w1 w2 : FVec Ideal (M3 1 M C3) .bf16)
    (b : FVec Ideal (M2 M 1) .f32) (x : FVec Ideal (M2 C L) .bf16) : FVec Ideal (M2 M L) .f32 :=
  addf (addf (addf (prod3 G GM w1 x)
        (select (broadcastTo (M2 M L) (shapeCast (M2 1 L) (cmpi .sge (cols G) (broadcast (M2 1 L) 1#32)) G.castL) GM.bcMask)
          (dynamicRotate 1 1#32 none (prod3 G GM w0 x) GM.rot) (broadcast (M2 M L) (Scalar.ofBits .f32 0x00000000#32 : Ideal .f32))))
      (select (broadcastTo (M2 M L) (shapeCast (M2 1 L) (cmpi .sle (cols G) (broadcast (M2 1 L) (BitVec.ofNat 32 W2))) G.castL) GM.bcMask)
          (dynamicRotate 1 (BitVec.ofNat 32 L1) none (prod3 G GM w2 x) GM.rot) (broadcast (M2 M L) (Scalar.ofBits .f32 0x00000000#32 : Ideal .f32))))
    (broadcastTo (M2 M L) (shapeCast (M2 M 1) b GM.castB) GM.bcB)

/-- The integral of one distribution, at every point. -/
def intRow (R : GeoR L) (r : FVec Ideal (M2 17 L) .f32) : FVec Ideal (M2 1 L) .f32 :=
  let e : FVec Ideal (M2 17 L) .f32 := exp (subf r (broadcastTo (M2 17 L)
    (shapeCast (M2 1 L) (multiReduction .maximumf [0] (M1 L) r 0xFF800000#32 R.red (.inl rfl) rfl) R.castV) R.bcV))
  divf (shapeCast (M2 1 L) (multiReduction .add [0] (M1 L)
      (mulf e (broadcastTo (M2 17 L) (sitofp .f32 (iota .tc (M2 17 1) 32 [0] R.iotaP) : FVec Ideal (M2 17 1) .f32) R.bcP)) 0x00000000#32 R.red (.inl rfl) rfl) R.castV)
    (shapeCast (M2 1 L) (multiReduction .add [0] (M1 L) e 0x00000000#32 R.red (.inl rfl) rfl) R.castV)

/-- The four integrals. -/
def ints (R : GeoR L) (v : FVec Ideal (M2 68 L) .f32) : FVec Ideal (M2 4 L) .f32 :=
  concatenate (M2 4 L) 0
    [⟨M2 1 L, intRow R (extractStridedSlice (M2 17 L) ![0, 0] v R.slice0)⟩,
     ⟨M2 1 L, intRow R (extractStridedSlice (M2 17 L) ![17, 0] v R.slice1)⟩,
     ⟨M2 1 L, intRow R (extractStridedSlice (M2 17 L) ![34, 0] v R.slice2)⟩,
     ⟨M2 1 L, intRow R (extractStridedSlice (M2 17 L) ![51, 0] v R.slice3)⟩] R.cat4

/-- The row of gates of one image. -/
def rowOf (G : Geo C C2 C3 L LW W) (g : FVec Ideal (M2 C2 1) .bf16) : FVec Ideal (M2 1 C2) .bf16 :=
  shapeCast (M2 1 C2) g G.castRow

/-- The scores of one image. -/
def clsOut (G : Geo C C2 C3 L LW W) (G80 : GeoM 80 C3 L) (L1 W2 : ℕ) (f : FVec Ideal (M3 1 C L) .f32) (g : FVec Ideal (M2 C2 1) .bf16)
    (ccw rcw : FVec Ideal (M2 C C) .bf16) (sc : FVec Ideal (M2 C2 1) .bf16) (bc : FVec Ideal (M2 C2 1) .f32)
    (w0 w1 w2 : FVec Ideal (M3 1 80 C3) .bf16) (b : FVec Ideal (M2 80 1) .f32) : FVec Ideal (M2 80 L) .f32 :=
  logistic (conv G G80 L1 W2 w0 w1 w2 b (xcls G (feat2 G f) (zact G (feat2 G f) (rowOf G g) ccw rcw sc bc)))

/-- The integrals of one image. -/
def regOut (G : Geo C C2 C3 L LW W) (G68 : GeoM 68 C3 L) (R : GeoR L) (L1 W2 : ℕ) (f : FVec Ideal (M3 1 C L) .f32) (g : FVec Ideal (M2 C2 1) .bf16)
    (ccw rcw : FVec Ideal (M2 C C) .bf16) (sc : FVec Ideal (M2 C2 1) .bf16) (bc : FVec Ideal (M2 C2 1) .f32)
    (w0 w1 w2 : FVec Ideal (M3 1 68 C3) .bf16) (b : FVec Ideal (M2 68 1) .f32) : FVec Ideal (M2 4 L) .f32 :=
  ints R (conv G G68 L1 W2 w0 w1 w2 b (xreg G (zact G (feat2 G f) (rowOf G g) ccw rcw sc bc)))

end Cert.Head
-- ==== Proof.BlockVal.lean ====
/-
  The generic block read at an entry: the gates, the gated product, the stack of shifted copies, the three-by-three
  product and the integrals, each at a point given by its row and column.
-/
module

public import proofs.«01_k».proof.Proof.Block

@[expose] public section

noncomputable section

namespace Cert.Head

open Idealize.ShloMosaic Idealize.ShloMosaic.ValueIdx

variable {C C2 C3 L LW W M H : ℕ}

/-- A plain product with nothing accumulated, at an entry. -/
theorem mm_apply {a b c : ℕ} {φ₁ φ₂ : FTy} (x : FVec Ideal (M2 a b) φ₁) (y : FVec Ideal (M2 b c) φ₂) (i : Fin a) (j : Fin c) :
    matmul (DotDims.plain a b c) none x y (constant (M2 a c) .f32 0x00000000#32) (ix2 i j) = ∑ k : Fin b, x (ix2 i k) * y (ix2 k j) := by
  refine (Ideal.matmul_plain_apply none x y _ i j).trans ?_
  show Ideal.ofBits .f32 0x00000000#32 + _ = _
  rw [Ideal.ofBits_zero_f32, zero_add]

/-! ## Points -/

/-- The point in row `h` and column `w`. -/
def pt (hw : H * W = L) (h : Fin H) (w : Fin W) : Fin L :=
  ⟨h.val * W + w.val, by
    have h1 := Nat.mul_le_mul_right W (Nat.succ_le_of_lt h.isLt)
    have h2 : h.val.succ * W = h.val * W + W := Nat.succ_mul _ _
    have := w.isLt
    omega⟩

theorem pt_val (hw : H * W = L) (h : Fin H) (w : Fin W) : (pt hw h w).val = h.val * W + w.val := rfl

/-- A sum over the points is a sum over rows and columns. -/
theorem sum_pt (hw : H * W = L) (f : Fin L → EReal) : ∑ l, f l = ∑ h : Fin H, ∑ w : Fin W, f (pt hw h w) := by
  subst hw
  rw [← Fintype.sum_prod_type', ← Equiv.sum_comp finProdFinEquiv]
  refine Finset.sum_congr rfl fun p _ => congrArg f (Fin.ext ?_)
  show p.2.val + W * p.1.val = p.1.val * W + p.2.val
  rw [Nat.mul_comm, Nat.add_comm]

/-! ## The gates -/

theorem feat2_apply (G : Geo C C2 C3 L LW W) (f : FVec Ideal (M3 1 C L) .f32) (c : Fin C) (l : Fin L) :
    feat2 G f (ix2 c l) = f (ix3 0 c l) := shapeCast_1ab_ab_apply f _ c l

theorem avgCol_apply (G : Geo C C2 C3 L LW W) (κ : EReal) (f : FVec Ideal (M3 1 C L) .f32) (c : Fin C) :
    avgCol G κ f (ix2 c 0) = (∑ l, f (ix3 0 c l)) * κ := by
  unfold avgCol
  rw [mulf_apply, shapeCast_a_a1_apply]
  exact congrArg (· * κ) ((sumRow _ _ _ _ c).trans (Finset.sum_congr rfl fun l _ => shapeCast_1ab_ab_apply f _ c l))

theorem gatesN_apply {N : ℕ} (G : Geo C C2 C3 L LW W) (fcw : FVec Ideal (M2 C2 C) .bf16) (bias : FVec Ideal (M2 C2 N) .f32)
    (a : FVec Ideal (M2 C N) .f32) (r : Fin C2) (i : Fin N) :
    gatesN G fcw bias a (ix2 r i) = Ideal.logistic ((∑ k, a (ix2 k i) * fcw (ix2 r k)) + bias (ix2 r i)) := by
  show Ideal.logistic (matmul (DotDims.plain C2 C N) none (shapeCast (M2 C2 C) fcw G.castFw) (truncf .bf16 a G.bits) _ (ix2 r i) + bias (ix2 r i)) = _
  rw [mm_apply, shapeCast_self]
  exact congrArg (fun s => Ideal.logistic (s + _)) (Finset.sum_congr rfl fun k _ => mul_comm _ _)

/-! ## The gated product -/

theorem zpre_top (G : Geo C C2 C3 L LW W) (fb : FVec Ideal (M2 C L) .bf16) (g : FVec Ideal (M2 1 C2) .bf16) (ccw rcw : FVec Ideal (M2 C C) .bf16)
    (sc : FVec Ideal (M2 C2 1) .bf16) (bc : FVec Ideal (M2 C2 1) .f32) (r : Fin C2) (c : Fin C) (hr : c.val = r.val) (l : Fin L) :
    zpre G fb g ccw rcw sc bc (ix2 r l)
      = (∑ k : Fin C, ccw (ix2 c k) * g (ix2 0 ⟨k.val, by have := G.c2; omega⟩) * sc (ix2 r 0) * fb (ix2 k l)) + bc (ix2 r 0) := by
  unfold zpre
  simp only [shapeCast_self]
  rw [addf_apply, mm_apply, bcastCol]
  refine congrArg (fun s : EReal => s + bc (ix2 r 0)) (Finset.sum_congr rfl fun k _ => congrArg (fun s : EReal => s * fb (ix2 k l)) ?_)
  rw [mulf_apply, bcastCol, stack2_top _ _ _ _ _ c hr, mulf_apply, broadcastTo_1b_ab_apply,
    slice2_axis1_apply 0 g _ (0 : Fin 1) k ⟨k.val, by have := G.c2; omega⟩ (Nat.zero_add _).symm,
    shapeCast_self]

theorem zpre_bot (G : Geo C C2 C3 L LW W) (fb : FVec Ideal (M2 C L) .bf16) (g : FVec Ideal (M2 1 C2) .bf16) (ccw rcw : FVec Ideal (M2 C C) .bf16)
    (sc : FVec Ideal (M2 C2 1) .bf16) (bc : FVec Ideal (M2 C2 1) .f32) (r : Fin C2) (c : Fin C) (hr : c.val + C = r.val) (l : Fin L) :
    zpre G fb g ccw rcw sc bc (ix2 r l)
      = (∑ k : Fin C, rcw (ix2 c k) * g (ix2 0 ⟨C + k.val, by have := G.c2; omega⟩) * sc (ix2 r 0) * fb (ix2 k l)) + bc (ix2 r 0) := by
  unfold zpre
  simp only [shapeCast_self]
  rw [addf_apply, mm_apply, bcastCol]
  refine congrArg (fun s : EReal => s + bc (ix2 r 0)) (Finset.sum_congr rfl fun k _ => congrArg (fun s : EReal => s * fb (ix2 k l)) ?_)
  rw [mulf_apply, bcastCol, stack2_bot _ _ _ _ _ c hr, mulf_apply, broadcastTo_1b_ab_apply,
    slice2_axis1_apply C g _ (0 : Fin 1) k ⟨C + k.val, by have := G.c2; omega⟩ rfl,
    shapeCast_self]

/-! ## The stack of shifted copies -/

theorem stack3_up (G : Geo C C2 C3 L LW W) (x : FVec Ideal (M2 C L) .bf16) (p : Fin C3) (c : Fin C) (hp : p.val = c.val) (l : Fin L) :
    stack3 G x (ix2 p l) = if h : l.val < W then 0 else x (ix2 c ⟨l.val - W, by omega⟩) := by
  unfold stack3
  rw [stackN (a := C) _ _ 0 (by show 0 < 3; omega) _ rfl 0 rfl p l c (by omega)]
  split
  · rename_i h
    rw [beside_left _ _ _ c l ⟨l.val, h⟩ rfl]
    exact Ideal.ofBits_zero_bf16
  · rename_i h
    have hlw := G.lw
    rw [beside_right _ _ _ c l ⟨l.val - W, by omega⟩ (by show l.val - W + W = l.val; omega)]
    exact slice2_axis1_apply 0 x _ c _ _ (Nat.zero_add _).symm

theorem stack3_mid (G : Geo C C2 C3 L LW W) (x : FVec Ideal (M2 C L) .bf16) (p : Fin C3) (c : Fin C) (hp : p.val = C + c.val) (l : Fin L) :
    stack3 G x (ix2 p l) = x (ix2 c l) := by
  unfold stack3
  rw [stackN (a := C) _ _ 1 (by show 1 < 3; omega) _ rfl C (by simp) p l c (by omega)]

theorem stack3_down (G : Geo C C2 C3 L LW W) (x : FVec Ideal (M2 C L) .bf16) (p : Fin C3) (c : Fin C) (hp : p.val = C + C + c.val) (l : Fin L) :
    stack3 G x (ix2 p l) = if h : l.val + W < L then x (ix2 c ⟨l.val + W, h⟩) else 0 := by
  unfold stack3
  rw [stackN (a := C) _ _ 2 (by show 2 < 3; omega) _ rfl (C + C) (by simp) p l c (by omega)]
  have hlw := G.lw
  split
  · rename_i h
    rw [beside_left (a := LW) _ _ _ c l ⟨l.val, by omega⟩ rfl]
    exact slice2_axis1_apply W x _ c _ _ (Nat.add_comm _ _)
  · rename_i h
    rw [beside_right _ _ _ c l ⟨l.val - LW, by have := l.isLt; omega⟩ (by show l.val - LW + LW = l.val; omega)]
    exact Ideal.ofBits_zero_bf16

/-- An image's entries are those of `x`. -/
def IsImg (hw : H * W = L) (X : FVec Ideal (M2 C L) .bf16) (x : Fin C → Fin H → Fin W → EReal) : Prop :=
  ∀ c h w, X (ix2 c (pt hw h w)) = x c h w

theorem stack3_pt0 (G : Geo C C2 C3 L LW W) (hw : H * W = L) {X : FVec Ideal (M2 C L) .bf16} {x : Fin C → Fin H → Fin W → EReal}
    (hX : IsImg hw X x) (p : Fin C3) (c : Fin C) (hp : p.val = c.val) (h : Fin H) (w : Fin W) :
    stack3 G X (ix2 p (pt hw h w)) = padded (x c) (h.val + 0) (w.val + 1) := by
  rw [stack3_up G X p c hp]
  unfold padded
  have hwl := w.isLt
  have hhl := h.isLt
  by_cases h0 : h.val = 0
  · rw [dif_pos (by rw [pt_val, h0]; omega), dif_neg (by omega)]
  · obtain ⟨h', e⟩ : ∃ h', h.val = h' + 1 := ⟨h.val - 1, by omega⟩
    have e2 : h.val * W = h' * W + W := by rw [e, Nat.succ_mul]
    rw [dif_neg (by rw [pt_val]; omega), dif_pos (by omega), ← hX]
    refine congrArg X (congrArg (ix2 c) (Fin.ext ?_))
    show h.val * W + w.val - W = (h.val + 0 - 1) * W + (w.val + 1 - 1)
    have e3 : h.val + 0 - 1 = h' := by omega
    rw [e3]
    omega

theorem stack3_pt1 (G : Geo C C2 C3 L LW W) (hw : H * W = L) {X : FVec Ideal (M2 C L) .bf16} {x : Fin C → Fin H → Fin W → EReal}
    (hX : IsImg hw X x) (p : Fin C3) (c : Fin C) (hp : p.val = C + c.val) (h : Fin H) (w : Fin W) :
    stack3 G X (ix2 p (pt hw h w)) = padded (x c) (h.val + 1) (w.val + 1) := by
  rw [stack3_mid G X p c hp]
  unfold padded
  have hwl := w.isLt
  have hhl := h.isLt
  rw [dif_pos (by omega), hX]
  rfl

theorem stack3_pt2 (G : Geo C C2 C3 L LW W) (hw : H * W = L) {X : FVec Ideal (M2 C L) .bf16} {x : Fin C → Fin H → Fin W → EReal}
    (hX : IsImg hw X x) (p : Fin C3) (c : Fin C) (hp : p.val = C + C + c.val) (h : Fin H) (w : Fin W) :
    stack3 G X (ix2 p (pt hw h w)) = padded (x c) (h.val + 2) (w.val + 1) := by
  rw [stack3_down G X p c hp]
  unfold padded
  have hwl := w.isLt
  have hhl := h.isLt
  have hL : (pt hw h w).val + W = (h.val + 1) * W + w.val := by rw [pt_val, Nat.succ_mul]; omega
  by_cases h1 : h.val + 1 < H
  · have hle : (h.val + 2) * W ≤ H * W := Nat.mul_le_mul_right W h1
    have e4 : (h.val + 2) * W = (h.val + 1) * W + W := Nat.succ_mul _ _
    rw [dif_pos (by omega), dif_pos (by omega), ← hX]
    exact congrArg X (congrArg (ix2 c) (Fin.ext hL))
  · have e5 : h.val + 1 = H := by omega
    rw [dif_neg (by rw [hL, e5]; omega), dif_neg (by omega)]

/-! ## The columns and the side neighbours -/

theorem cols_toNat (G : Geo C C2 C3 L LW W) (l : Fin L) : (cols G (ix2 0 l)).toNat = l.val % W := by
  have hL := G.lsmall
  have hl := l.isLt
  have hlw := G.lw
  have hWp := G.wpos
  have hd : Scalar.select (Scalar.cmpi .eq (BitVec.ofNat 32 W) 0#32) 1#32 (BitVec.ofNat 32 W) = BitVec.ofNat 32 W := by
    have hne : BitVec.ofNat 32 W ≠ 0#32 := by
      intro h
      have := congrArg BitVec.toNat h
      rw [BitVec.toNat_ofNat, BitVec.toNat_ofNat, Nat.mod_eq_of_lt (by omega)] at this
      omega
    have : Scalar.cmpi .eq (BitVec.ofNat 32 W) 0#32 = 0#1 := by
      show BitVec.ofBool (BitVec.ofNat 32 W == 0#32) = 0#1
      rw [beq_false_of_ne hne]; rfl
    rw [this]; rfl
  have hx : (iota .tc (M2 1 L) 32 [1] G.iotaL) (ix2 0 l) = BitVec.ofNat 32 l.val := iota_single_apply _ _ _ _ _ _
  have hr : (IntOp.remsi .vector (BitVec.ofNat 32 l.val) (BitVec.ofNat 32 W)).toNat = l.val % W := by
    have hn : (BitVec.ofNat 32 l.val).toNat = l.val := by rw [BitVec.toNat_ofNat]; omega
    rw [IntOp.toNat_remsi .vector (by rw [hn]; omega) W hWp (by omega), hn]
  have hrl : l.val % W < W := Nat.mod_lt _ hWp
  unfold cols
  rw [hd]
  show (Scalar.select (IntOp.andi (IntOp.xori (IntOp.cmpi .slt (IntOp.remsi .vector ((iota .tc (M2 1 L) 32 [1] G.iotaL) (ix2 0 l)) (BitVec.ofNat 32 W)) 0#32)
    (IntOp.cmpi .slt (BitVec.ofNat 32 W) 0#32)) (IntOp.cmpi .ne (IntOp.remsi .vector ((iota .tc (M2 1 L) 32 [1] G.iotaL) (ix2 0 l)) (BitVec.ofNat 32 W)) 0#32))
    (IntOp.addi (IntOp.remsi .vector ((iota .tc (M2 1 L) 32 [1] G.iotaL) (ix2 0 l)) (BitVec.ofNat 32 W)) (BitVec.ofNat 32 W))
    (IntOp.remsi .vector ((iota .tc (M2 1 L) 32 [1] G.iotaL) (ix2 0 l)) (BitVec.ofNat 32 W))).toNat = _
  rw [hx]
  generalize IntOp.remsi .vector (BitVec.ofNat 32 l.val) (BitVec.ofNat 32 W) = q at hr
  have hs : ∀ y : BitVec 32, y.toNat < 2 ^ 31 → IntOp.cmpi .slt y 0#32 = 0#1 := by
    intro y hy
    show BitVec.ofBool (y.slt 0#32) = 0#1
    have : y.slt 0#32 = false := by
      rw [Bool.eq_false_iff, ne_eq, BitVec.slt_iff_toInt_lt, BitVec.toInt_eq_toNat_of_lt (by omega)]
      simp
    rw [this]; rfl
  rw [hs q (by omega), hs (BitVec.ofNat 32 W) (by rw [BitVec.toNat_ofNat]; omega)]
  have h00 : ∀ b : BitVec 1, IntOp.andi (IntOp.xori 0#1 0#1) b = 0#1 := by decide
  rw [h00]
  exact hr

/-- Of two values, the one a point's column selects. -/
theorem mask_apply (G : Geo C C2 C3 L LW W) (GM : GeoM M C3 L) (hw : H * W = L) (P : CmpIPredicate) (k : BitVec 32) (q : Prop) [Decidable q]
    (o : Fin M) (h : Fin H) (w : Fin W) (hq : ∀ y : BitVec 32, y.toNat = w.val → (IntOp.cmpi P y k = 1#1 ↔ q)) (a b : FVec Ideal (M2 M L) .f32) :
    select (broadcastTo (M2 M L) (shapeCast (M2 1 L) (cmpi P (cols G) (broadcast (M2 1 L) k)) G.castL) GM.bcMask) a b (ix2 o (pt hw h w))
      = if q then a (ix2 o (pt hw h w)) else b (ix2 o (pt hw h w)) := by
  show Scalar.select (broadcastTo (M2 M L) (shapeCast (M2 1 L) (cmpi P (cols G) (broadcast (M2 1 L) k)) G.castL) GM.bcMask (ix2 o (pt hw h w))) _ _ = _
  rw [broadcastTo_1b_ab_apply, shapeCast_self]
  show Scalar.select (IntOp.cmpi P (cols G (ix2 0 (pt hw h w))) k) _ _ = _
  have := hq (cols G (ix2 0 (pt hw h w))) (by
    rw [cols_toNat, pt_val, Nat.add_comm, Nat.add_mul_mod_self_right, Nat.mod_eq_of_lt w.isLt])
  generalize IntOp.cmpi P (cols G (ix2 0 (pt hw h w))) k = m at this
  by_cases hb : q
  · rw [if_pos hb, this.2 hb]; rfl
  · rw [if_neg hb]
    have hm : m = 0#1 := by
      have h1 := mt this.1 hb
      clear this
      revert h1 m
      decide
    rw [hm]; rfl

/-! ## The three-by-three product -/

/-- The weights of the column `kx` of the three-by-three product, row by row of the window. -/
def IsTap (w' : FVec Ideal (M3 1 M C3) .bf16) (w : Fin M → Fin C → Fin 3 → Fin 3 → EReal) (kx : Fin 3) : Prop :=
  ∀ (o : Fin M) (ky : Fin 3) (c : Fin C) (p : Fin C3), p.val = ky.val * C + c.val → w' (ix3 0 o p) = w o c ky kx

/-- One product of the stack at a point: the three rows of the window's column, `j` being one more than the column it is
    over. -/
theorem prod3_pt (G : Geo C C2 C3 L LW W) (GM : GeoM M C3 L) (hw : H * W = L) {X : FVec Ideal (M2 C L) .bf16}
    {x : Fin C → Fin H → Fin W → EReal} (hX : IsImg hw X x) {w' : FVec Ideal (M3 1 M C3) .bf16}
    {wt : Fin M → Fin C → Fin 3 → Fin 3 → EReal} {kx : Fin 3} (hT : IsTap w' wt kx) (o : Fin M) (h : Fin H) (w : Fin W) (j : ℕ)
    (hj : j + kx.val = w.val + 1) :
    prod3 G GM w' X (ix2 o (pt hw h w)) = tap x (wt o) h.val j 0 kx + tap x (wt o) h.val j 1 kx + tap x (wt o) h.val j 2 kx := by
  unfold prod3
  rw [mm_apply, sum_three G.c3]
  unfold tap
  rw [hj]
  refine congr (congrArg (fun a b : EReal => a + b) (congr (congrArg (fun a b : EReal => a + b) ?_) ?_)) ?_
  · refine Finset.sum_congr rfl fun c _ => ?_
    rw [shapeCast_1ab_ab_apply, hT o 0 c _ (by show c.val = 0 * C + c.val; omega), stack3_pt0 G hw hX _ c rfl, mul_comm]
    rfl
  · refine Finset.sum_congr rfl fun c _ => ?_
    rw [shapeCast_1ab_ab_apply, hT o 1 c _ (by show C + c.val = 1 * C + c.val; omega), stack3_pt1 G hw hX _ c rfl, mul_comm]
    rfl
  · refine Finset.sum_congr rfl fun c _ => ?_
    rw [shapeCast_1ab_ab_apply, hT o 2 c _ (by show C + C + c.val = 2 * C + c.val; omega), stack3_pt2 G hw hX _ c rfl, mul_comm]
    rfl

/-- A tap over a column outside the image is zero. -/
theorem tap_left (x : Fin C → Fin H → Fin W → EReal) (w : Fin C → Fin 3 → Fin 3 → EReal) (i : ℕ) (ky : Fin 3) :
    tap x w i 0 ky 0 = 0 := by
  unfold tap
  refine Finset.sum_eq_zero fun c _ => ?_
  unfold padded
  rw [dif_neg (by show ¬(_ ∧ (1 ≤ 0 + 0 ∧ _)); omega), zero_mul]

theorem tap_right (x : Fin C → Fin H → Fin W → EReal) (w : Fin C → Fin 3 → Fin 3 → EReal) (i j : ℕ) (hj : j + 1 = W) (ky : Fin 3) :
    tap x w i j ky 2 = 0 := by
  unfold tap
  refine Finset.sum_eq_zero fun c _ => ?_
  unfold padded
  rw [dif_neg (by show ¬(_ ∧ (1 ≤ j + 2 ∧ j + 2 - 1 < W)); omega), zero_mul]

theorem conv_pt (G : Geo C C2 C3 L LW W) (GM : GeoM M C3 L) (hw : H * W = L) (L1 W2 : ℕ) (hL1 : L1 + 1 = L) (hW2 : W2 + 2 = W)
    {X : FVec Ideal (M2 C L) .bf16} {x : Fin C → Fin H → Fin W → EReal} (hX : IsImg hw X x)
    {w0 w1 w2 : FVec Ideal (M3 1 M C3) .bf16} {wt : Fin M → Fin C → Fin 3 → Fin 3 → EReal} (h0 : IsTap w0 wt 0) (h1 : IsTap w1 wt 1)
    (h2 : IsTap w2 wt 2) (b : FVec Ideal (M2 M 1) .f32) (o : Fin M) (h : Fin H) (w : Fin W) :
    conv G GM L1 W2 w0 w1 w2 b X (ix2 o (pt hw h w)) = conv9 x wt (fun o => b (ix2 o 0)) o h w := by
  have hwl := w.isLt
  have hp := (pt hw h w).isLt
  have hls := G.lsmall
  have hlw := G.lw
  unfold conv
  rw [addf_apply, addf_apply, addf_apply, bcastCol,
    mask_apply G GM hw .sge 1#32 (1 ≤ w.val) o h w (fun y hy => by
      rw [IntOp.cmpi_sge, BitVec.toInt_eq_toNat_of_lt (x := y) (by omega), hy]
      show ((1#32 : BitVec 32).toInt ≤ _) ↔ _
      rw [show (1#32 : BitVec 32).toInt = 1 from rfl]; omega),
    mask_apply G GM hw .sle (BitVec.ofNat 32 W2) (w.val ≤ W2) o h w (fun y hy => by
      have hn : (BitVec.ofNat 32 W2).toNat = W2 := by rw [BitVec.toNat_ofNat]; omega
      rw [IntOp.cmpi_sle, BitVec.toInt_eq_toNat_of_lt (x := y) (by omega), BitVec.toInt_eq_toNat_of_lt (x := BitVec.ofNat 32 W2) (by omega), hy, hn]
      omega),
    shapeCast_self]
  have m1 := prod3_pt G GM hw hX h1 o h w w.val rfl
  have m0 : (if 1 ≤ w.val then dynamicRotate 1 1#32 none (prod3 G GM w0 X) GM.rot (ix2 o (pt hw h w))
        else broadcast (M2 M L) (Scalar.ofBits .f32 0x00000000#32 : Ideal .f32) (ix2 o (pt hw h w)))
      = tap x (wt o) h.val w.val 0 0 + tap x (wt o) h.val w.val 1 0 + tap x (wt o) h.val w.val 2 0 := by
    split
    · rename_i hc
      rw [rotLane 1#32 _ _ o (pt hw h w) (pt hw h ⟨w.val - 1, by omega⟩) (by
        show h.val * W + (w.val - 1) = (h.val * W + w.val + L - 1 % L) % L
        rw [pt_val] at hp
        rw [Nat.mod_eq_of_lt (show 1 < L by omega), show h.val * W + w.val + L - 1 = h.val * W + (w.val - 1) + L by omega, Nat.add_mod_right,
          Nat.mod_eq_of_lt (by omega)])]
      exact prod3_pt G GM hw hX h0 o h ⟨w.val - 1, by omega⟩ w.val (by show w.val + 0 = w.val - 1 + 1; omega)
    · rename_i hc
      have e : w.val = 0 := by omega
      rw [e, tap_left, tap_left, tap_left, add_zero, add_zero]
      exact Ideal.ofBits_zero_f32
  have m2 : (if w.val ≤ W2 then dynamicRotate 1 (BitVec.ofNat 32 L1) none (prod3 G GM w2 X) GM.rot (ix2 o (pt hw h w))
        else broadcast (M2 M L) (Scalar.ofBits .f32 0x00000000#32 : Ideal .f32) (ix2 o (pt hw h w)))
      = tap x (wt o) h.val w.val 0 2 + tap x (wt o) h.val w.val 1 2 + tap x (wt o) h.val w.val 2 2 := by
    split
    · rename_i hc
      have hq := (pt hw h (⟨w.val + 1, by omega⟩ : Fin W)).isLt
      rw [rotLane (BitVec.ofNat 32 L1) _ _ o (pt hw h w) (pt hw h ⟨w.val + 1, by omega⟩) (by
        show h.val * W + (w.val + 1) = (h.val * W + w.val + L - (BitVec.ofNat 32 L1).toNat % L) % L
        rw [pt_val] at hp hq
        have hq' : h.val * W + (w.val + 1) < L := hq
        have hn : (BitVec.ofNat 32 L1).toNat = L1 := by rw [BitVec.toNat_ofNat]; omega
        rw [hn, Nat.mod_eq_of_lt (show L1 < L by omega), show h.val * W + w.val + L - L1 = h.val * W + (w.val + 1) by omega,
          Nat.mod_eq_of_lt hq'])]
      exact prod3_pt G GM hw hX h2 o h ⟨w.val + 1, by omega⟩ w.val (by show w.val + 2 = w.val + 1 + 1; omega)
    · rename_i hc
      have e : w.val + 1 = W := by omega
      rw [tap_right _ _ _ _ e, tap_right _ _ _ _ e, tap_right _ _ _ _ e, add_zero, add_zero]
      exact Ideal.ofBits_zero_f32
  rw [m0, m1, m2]
  unfold conv9
  refine congrArg (fun s : EReal => s + b (ix2 o 0)) ?_
  abel

/-! ## The integrals -/

theorem intRow_apply (R : GeoR L) (r : FVec Ideal (M2 17 L) .f32) (l : Fin L) :
    intRow R r (ix2 0 l) = integral fun k => r (ix2 k l) := by
  rw [← integral_eq]
  have he : ∀ k : Fin 17, exp (subf r (broadcastTo (M2 17 L)
      (shapeCast (M2 1 L) (multiReduction .maximumf [0] (M1 L) r 0xFF800000#32 R.red (.inl rfl) rfl) R.castV) R.bcV)) (ix2 k l)
      = ex (fun k => r (ix2 k l)) k := by
    intro k
    show Ideal.exp (r (ix2 k l) - broadcastTo (M2 17 L) (shapeCast (M2 1 L) (multiReduction .maximumf [0] (M1 L) r 0xFF800000#32 R.red (.inl rfl) rfl) R.castV) R.bcV (ix2 k l)) = _
    rw [broadcastTo_1b_ab_apply, shapeCast_a_1a_apply]
    unfold ex max17
    refine congrArg (fun m => Ideal.exp (r (ix2 k l) - m)) ((maxCol _ _ _ _ l).trans ?_)
    refine congrArg (fun b => Finset.fold max b _ Finset.univ) ?_
    show Ideal.ofBits .f32 0xFF800000#32 = ⊥
    simp [Ideal.ofBits, Ideal.ieee]
  unfold intRow
  rw [divf_apply, shapeCast_a_1a_apply, shapeCast_a_1a_apply]
  refine congr (congrArg Ideal.div ((sumCol _ _ _ _ l).trans ?_)) ((sumCol _ _ _ _ l).trans ?_)
  · refine Finset.sum_congr rfl fun k _ => ?_
    rw [mulf_apply, he, bcastCol]
    refine congrArg (ex _ k * ·) ?_
    show ((((iota .tc (M2 17 1) 32 [0] R.iotaP) (ix2 k 0)).toInt : ℝ) : EReal) = _
    rw [iota_single_apply]
    show ((((BitVec.ofNat 32 k.val).toInt : ℤ) : ℝ) : EReal) = _
    have hk := k.isLt
    have hn : (BitVec.ofNat 32 k.val).toNat = k.val := by rw [BitVec.toNat_ofNat]; omega
    rw [BitVec.toInt_eq_toNat_of_lt (by omega), hn]
    simp
  · exact Finset.sum_congr rfl fun k _ => he k

theorem ints_apply (R : GeoR L) (v : FVec Ideal (M2 68 L) .f32) (f : Fin 4) (l : Fin L) :
    ints R v (ix2 f l) = integral fun k => v (ix2 ⟨17 * f.val + k.val, by omega⟩ l) := by
  unfold ints
  match f with
  | ⟨0, _⟩ =>
    rw [stackN (a := 1) _ _ 0 (by show 0 < 4; omega) _ rfl 0 rfl _ l 0 rfl, intRow_apply]
    exact congrArg integral (funext fun k => slice2_axis0_apply 0 v _ k l _ rfl)
  | ⟨1, _⟩ =>
    rw [stackN (a := 1) _ _ 1 (by show 1 < 4; omega) _ rfl 1 rfl _ l 0 rfl, intRow_apply]
    exact congrArg integral (funext fun k => slice2_axis0_apply 17 v _ k l _ rfl)
  | ⟨2, _⟩ =>
    rw [stackN (a := 1) _ _ 2 (by show 2 < 4; omega) _ rfl 2 rfl _ l 0 rfl, intRow_apply]
    exact congrArg integral (funext fun k => slice2_axis0_apply 34 v _ k l _ rfl)
  | ⟨3, _⟩ =>
    rw [stackN (a := 1) _ _ 3 (by show 3 < 4; omega) _ rfl 3 rfl _ l 0 rfl, intRow_apply]
    exact congrArg integral (funext fun k => slice2_axis0_apply 51 v _ k l _ rfl)

end Cert.Head
-- ==== Proof.BlockThm.lean ====
/-
  The kernel's block of one image is the head on that image: the scores and the distances, where the image, the
  one-by-one weights and the scales are finite.
-/
module

public import proofs.«01_k».proof.Proof.BlockVal

@[expose] public section

noncomputable section

namespace Cert.Head

open Idealize.ShloMosaic Idealize.ShloMosaic.ValueIdx

variable {C C2 C3 L LW W M H : ℕ}

/-- A block of one image holds `x`. -/
def IsFeat (hw : H * W = L) (f : FVec Ideal (M3 1 C L) .f32) (x : Fin C → Fin H → Fin W → EReal) : Prop :=
  ∀ c h w, f (ix3 0 c (pt hw h w)) = x c h w

/-- A column of both branches' values: `t` above `b`. -/
def IsCol {φ : FTy} (v : FVec Ideal (M2 C2 1) φ) (t b : Fin C → EReal) : Prop :=
  ∀ (c : Fin C) (r : Fin C2), (r.val = c.val → v (ix2 r 0) = t c) ∧ (r.val = C + c.val → v (ix2 r 0) = b c)

/-- A matrix of both branches' values: `t` above `b`. -/
def IsMat {φ : FTy} (v : FVec Ideal (M2 C2 C) φ) (t b : Fin C → Fin C → EReal) : Prop :=
  ∀ (c k : Fin C) (r : Fin C2), (r.val = c.val → v (ix2 r k) = t c k) ∧ (r.val = C + c.val → v (ix2 r k) = b c k)

/-- A square matrix of weights. -/
def IsSq {φ : FTy} (v : FVec Ideal (M2 C C) φ) (t : Fin C → Fin C → EReal) : Prop := ∀ c k, v (ix2 c k) = t c k

/-- The parameters whose finiteness the certificate uses. -/
structure Par.Finite (p : Par C) : Prop where
  ccw : ∀ c k, Fin' (p.ccw c k)
  cbs : ∀ c, Fin' (p.cbs c)
  rcw : ∀ c k, Fin' (p.rcw c k)
  rbs : ∀ c, Fin' (p.rbs c)

/-- The gates of both branches for one image. -/
def IsGates (κ : EReal) (p : Par C) (x : Fin C → Fin H → Fin W → EReal) (g : FVec Ideal (M2 C2 1) .bf16) : Prop :=
  IsCol g (gate (avg κ x) p.cfw p.cfb) (gate (avg κ x) p.rfw p.rfb)

theorem avgCol_img (G : Geo C C2 C3 L LW W) (hw : H * W = L) (κ : EReal) {f : FVec Ideal (M3 1 C L) .f32} {x : Fin C → Fin H → Fin W → EReal}
    (hf : IsFeat hw f x) (c : Fin C) : avgCol G κ f (ix2 c 0) = avg κ x c := by
  rw [avgCol_apply, sum_pt hw]
  exact congrArg (· * κ) (Finset.sum_congr rfl fun h _ => Finset.sum_congr rfl fun w _ => hf c h w)

/-- One column of the gates of several images, where the averages' and the shift's columns are this image's. -/
theorem gates_col {N : ℕ} (G : Geo C C2 C3 L LW W) {κ : EReal} {p : Par C} {x : Fin C → Fin H → Fin W → EReal}
    {fcw : FVec Ideal (M2 C2 C) .bf16} {bias : FVec Ideal (M2 C2 N) .f32} {a : FVec Ideal (M2 C N) .f32} {fcb : FVec Ideal (M2 C2 1) .f32}
    (hm : IsMat fcw p.cfw p.rfw) (hb : IsCol fcb p.cfb p.rfb) (i : Fin N) (hbias : ∀ r, bias (ix2 r i) = fcb (ix2 r 0))
    (ha : ∀ c, a (ix2 c i) = avg κ x c) {g : FVec Ideal (M2 C2 1) .bf16} (hg : ∀ r, g (ix2 r 0) = gatesN G fcw bias a (ix2 r i)) :
    IsGates κ p x g := by
  intro c r
  rw [hg, gatesN_apply, hbias]
  constructor
  · intro hr
    rw [(hb c r).1 hr]
    exact congrArg (fun s => Ideal.logistic (s + _)) (Finset.sum_congr rfl fun k _ => by rw [ha, (hm c k r).1 hr])
  · intro hr
    rw [(hb c r).2 hr]
    exact congrArg (fun s => Ideal.logistic (s + _)) (Finset.sum_congr rfl fun k _ => by rw [ha, (hm c k r).2 hr])

theorem gate_fin (a : Fin C → EReal) (fw : Fin C → Fin C → EReal) (fb : Fin C → EReal) (c : Fin C) : Fin' (gate a fw fb c) :=
  logistic_fin _

section
variable (G : Geo C C2 C3 L LW W) (hw : H * W = L) {κ : EReal} {p : Par C} (hp : p.Finite) {x : Fin C → Fin H → Fin W → EReal}
  (hx : ∀ c h w, Fin' (x c h w)) {f : FVec Ideal (M3 1 C L) .f32} (hf : IsFeat hw f x) {g : FVec Ideal (M2 C2 1) .bf16} (hg : IsGates κ p x g)
  {ccw rcw : FVec Ideal (M2 C C) .bf16} (hc : IsSq ccw p.ccw) (hr : IsSq rcw p.rcw)
  {sc : FVec Ideal (M2 C2 1) .bf16} (hsc : IsCol sc p.cbs p.rbs) {bc : FVec Ideal (M2 C2 1) .f32} (hbc : IsCol bc p.cbb p.rbb)

include hp hx hf hg hc hsc hbc in
theorem zact_cls (c : Fin C) (r : Fin C2) (hrc : r.val = c.val) (h : Fin H) (w : Fin W) :
    zact G (feat2 G f) (rowOf G g) ccw rcw sc bc (ix2 r (pt hw h w))
      = swish (zval x (gate (avg κ x) p.cfw p.cfb) p.ccw p.cbs p.cbb c h w) := by
  have hz : zpre G (feat2 G f) (rowOf G g) ccw rcw sc bc (ix2 r (pt hw h w)) = zval x (gate (avg κ x) p.cfw p.cfb) p.ccw p.cbs p.cbb c h w := by
    rw [zpre_top G _ _ _ _ _ _ r c hrc.symm, (hbc c r).1 hrc, (hsc c r).1 hrc]
    unfold zval
    rw [← zval_folded (fun k => p.ccw c k) (fun k => x k h w) (fun k => gate (avg κ x) p.cfw p.cfb k) (p.cbs c) (fun k => hp.ccw c k)
      (fun k => hx k h w) (fun k => gate_fin _ _ _ k) (hp.cbs c)]
    refine congrArg (fun s : EReal => s + _) (Finset.sum_congr rfl fun k _ => ?_)
    rw [feat2_apply, hf, hc]
    unfold rowOf
    rw [castColRow, (hg k _).1 rfl]
  show _ * Ideal.logistic _ = _
  rw [hz]
  rfl

include hp hx hf hg hr hsc hbc in
theorem zact_reg (c : Fin C) (r : Fin C2) (hrc : r.val = C + c.val) (h : Fin H) (w : Fin W) :
    zact G (feat2 G f) (rowOf G g) ccw rcw sc bc (ix2 r (pt hw h w))
      = swish (zval x (gate (avg κ x) p.rfw p.rfb) p.rcw p.rbs p.rbb c h w) := by
  have hz : zpre G (feat2 G f) (rowOf G g) ccw rcw sc bc (ix2 r (pt hw h w)) = zval x (gate (avg κ x) p.rfw p.rfb) p.rcw p.rbs p.rbb c h w := by
    rw [zpre_bot G _ _ _ _ _ _ r c (by omega), (hbc c r).2 hrc, (hsc c r).2 hrc]
    unfold zval
    rw [← zval_folded (fun k => p.rcw c k) (fun k => x k h w) (fun k => gate (avg κ x) p.rfw p.rfb k) (p.rbs c) (fun k => hp.rcw c k)
      (fun k => hx k h w) (fun k => gate_fin _ _ _ k) (hp.rbs c)]
    refine congrArg (fun s : EReal => s + _) (Finset.sum_congr rfl fun k _ => ?_)
    rw [feat2_apply, hf, hr]
    unfold rowOf
    rw [castColRow, (hg k _).2 rfl]
  show _ * Ideal.logistic _ = _
  rw [hz]
  rfl

include hp hx hf hg hc hsc hbc in
/-- The scores the block computes. -/
theorem clsOut_pt (G80 : GeoM 80 C3 L) (L1 W2 : ℕ) (hL1 : L1 + 1 = L) (hW2 : W2 + 2 = W)
    {w0 w1 w2 : FVec Ideal (M3 1 80 C3) .bf16} (h0 : IsTap w0 p.pcw 0) (h1 : IsTap w1 p.pcw 1) (h2 : IsTap w2 p.pcw 2)
    {b : FVec Ideal (M2 80 1) .f32} (hb : ∀ o, b (ix2 o 0) = p.pcb o) (o : Fin 80) (h : Fin H) (w : Fin W) :
    clsOut G G80 L1 W2 f g ccw rcw sc bc w0 w1 w2 b (ix2 o (pt hw h w)) = score κ p x o h w := by
  have hX : IsImg hw (xcls G (feat2 G f) (zact G (feat2 G f) (rowOf G g) ccw rcw sc bc)) (clsIn κ p x) := by
    intro c h w
    show extractStridedSlice (M2 C L) ![0, 0] (zact G (feat2 G f) (rowOf G g) ccw rcw sc bc) G.sliceAct0 (ix2 c (pt hw h w)) + feat2 G f (ix2 c (pt hw h w)) = _
    refine (congrArg (fun s : EReal => s + feat2 G f (ix2 c (pt hw h w)))
      (slice2_axis0_apply (m := C) 0 (zact G (feat2 G f) (rowOf G g) ccw rcw sc bc) G.sliceAct0 c (pt hw h w) ⟨c.val, by have := G.c2; omega⟩ (Nat.zero_add _).symm)).trans ?_
    rw [zact_cls G hw hp hx hf hg hc hsc hbc c _ rfl, feat2_apply, hf]
    rfl
  show Ideal.logistic _ = _
  rw [conv_pt G G80 hw L1 W2 hL1 hW2 hX h0 h1 h2, show (fun o => b (ix2 o 0)) = p.pcb from funext hb]
  rfl

include hp hx hf hg hr hsc hbc in
/-- The distances the block computes. -/
theorem regOut_pt (G68 : GeoM 68 C3 L) (R : GeoR L) (L1 W2 : ℕ) (hL1 : L1 + 1 = L) (hW2 : W2 + 2 = W)
    {w0 w1 w2 : FVec Ideal (M3 1 68 C3) .bf16} (h0 : IsTap w0 p.prw 0) (h1 : IsTap w1 p.prw 1) (h2 : IsTap w2 p.prw 2)
    {b : FVec Ideal (M2 68 1) .f32} (hb : ∀ o, b (ix2 o 0) = p.prb o) (o : Fin 4) (h : Fin H) (w : Fin W) :
    regOut G G68 R L1 W2 f g ccw rcw sc bc w0 w1 w2 b (ix2 o (pt hw h w)) = dist κ p x o h w := by
  have hX : IsImg hw (xreg G (zact G (feat2 G f) (rowOf G g) ccw rcw sc bc)) (regIn κ p x) := by
    intro c h w
    show extractStridedSlice (M2 C L) ![C, 0] (zact G (feat2 G f) (rowOf G g) ccw rcw sc bc) G.sliceAct1 (ix2 c (pt hw h w)) = _
    refine (slice2_axis0_apply C _ _ c (pt hw h w) ⟨C + c.val, by have := G.c2; omega⟩ rfl).trans ?_
    rw [zact_reg G hw hp hx hf hg hr hsc hbc c _ rfl]
    rfl
  unfold regOut
  rw [ints_apply]
  unfold dist
  refine congrArg integral (funext fun k => ?_)
  rw [conv_pt G G68 hw L1 W2 hL1 hW2 hX h0 h1 h2, show (fun o => b (ix2 o 0)) = p.prb from funext hb]

end

end Cert.Head
-- ==== Proof.BlockAll.lean ====
/-
  What a block asks of the weights it is given, and what its stores then hold at a lane: the head at the lane's row and
  column.
-/
module

public import proofs.«01_k».proof.Proof.BlockThm

@[expose] public section

noncomputable section

namespace Cert.Head

open Idealize.ShloMosaic Idealize.ShloMosaic.ValueIdx Idealize.SL.Sem

variable {C C2 C3 L LW W M H N : ℕ}

/-- The row of a lane. -/
def rowq (hw : H * W = L) (q : Fin L) : Fin H :=
  ⟨q.val / W, (Nat.div_lt_iff_lt_mul (Nat.pos_of_ne_zero fun h => by subst h; have := q.isLt; omega)).2 (hw ▸ q.isLt)⟩

/-- The column of a lane. -/
def colq (hw : H * W = L) (q : Fin L) : Fin W :=
  ⟨q.val % W, Nat.mod_lt _ (Nat.pos_of_ne_zero fun h => by subst h; have := q.isLt; omega)⟩

theorem pt_rowq_colq (hw : H * W = L) (q : Fin L) : pt hw (rowq hw q) (colq hw q) = q :=
  Fin.ext (Nat.div_add_mod' q.val W)

/-- The score at a lane. -/
def scoreAt (hw : H * W = L) (κ : EReal) (p : Par C) (x : Fin C → Fin H → Fin W → EReal) (o : Fin 80) (q : Fin L) : EReal :=
  score κ p x o (rowq hw q) (colq hw q)

/-- The distance at a lane. -/
def distAt (hw : H * W = L) (κ : EReal) (p : Par C) (x : Fin C → Fin H → Fin W → EReal) (f : Fin 4) (q : Fin L) : EReal :=
  dist κ p x f (rowq hw q) (colq hw q)

/-- The three-by-three weights laid out for the block: entry `(kx, o, ky C + c)` is `w o c ky kx`. -/
def IsTaps (x : FVec Ideal (M3 3 M C3) .bf16) (w : Fin M → Fin C → Fin 3 → Fin 3 → EReal) : Prop :=
  ∀ (kx : Fin 3) (o : Fin M) (ky : Fin 3) (c : Fin C) (r : Fin C3), r.val = ky.val * C + c.val → x (ix3 kx o r) = w o c ky kx

/-- The weights as the block is given them are the parameters `p`. -/
structure Wts (p : Par C) (x1 : FVec Ideal (M2 C2 C) .bf16) (x2 : FVec Ideal (M2 C2 1) .f32) (x3 x4 : FVec Ideal (M2 C C) .bf16)
    (x5 : FVec Ideal (M2 C2 1) .bf16) (x6 : FVec Ideal (M2 C2 1) .f32) (x7 : FVec Ideal (M3 3 80 C3) .bf16) (x8 : FVec Ideal (M2 80 1) .f32)
    (x9 : FVec Ideal (M3 3 68 C3) .bf16) (x10 : FVec Ideal (M2 68 1) .f32) : Prop where
  fw : IsMat x1 p.cfw p.rfw
  fb : IsCol x2 p.cfb p.rfb
  cc : IsSq x3 p.ccw
  rc : IsSq x4 p.rcw
  sc : IsCol x5 p.cbs p.rbs
  bc : IsCol x6 p.cbb p.rbb
  pc : IsTaps x7 p.pcw
  pb : ∀ o, x8 (ix2 o 0) = p.pcb o
  pr : IsTaps x9 p.prw
  qb : ∀ o, x10 (ix2 o 0) = p.prb o

/-! ## Reads and stores through rectangles -/

/-- A read of one matrix of a stack. -/
theorem ld3 {e : EltTy} {a b c : ℕ} (X : (M3 a b c).Idx → Elt Ideal e) (j : Fin a)
    (inb : ∀ ax, (![j.val, 0, 0] : Fin 3 → ℕ) ax + (M3 1 b c).size ax ≤ (M3 a b c).size ax) (u : Fin 1) (p : Fin b) (q : Fin c) :
    View.ld (Val := Elt Ideal) X (Rect.unit (s := M3 a b c) ![j.val, 0, 0] (M3 1 b c).size inb) (ix3 u p q) = X (ix3 j p q) := by
  have hu : u.val = 0 := by omega
  refine congrArg X (funext fun ax => Fin.ext ?_)
  match ax with
  | ⟨0, _⟩ => show j.val + 1 * u.val = j.val; omega
  | ⟨1, _⟩ => show 0 + 1 * p.val = p.val; omega
  | ⟨2, _⟩ => show 0 + 1 * q.val = q.val; omega

/-- Where a rectangle of one matrix of a stack places an index. -/
theorem emb3 {a b c : ℕ} (j : Fin a)
    (inb : ∀ ax, (![j.val, 0, 0] : Fin 3 → ℕ) ax + (M3 1 b c).size ax ≤ (M3 a b c).size ax) (u : Fin 1) (p : Fin b) (q : Fin c) :
    (Rect.unit (s := M3 a b c) ![j.val, 0, 0] (M3 1 b c).size inb).emb (ix3 u p q) = ix3 j p q := by
  have hu : u.val = 0 := by omega
  refine funext fun ax => Fin.ext ?_
  match ax with
  | ⟨0, _⟩ => show j.val + 1 * u.val = j.val; omega
  | ⟨1, _⟩ => show 0 + 1 * p.val = p.val; omega
  | ⟨2, _⟩ => show 0 + 1 * q.val = q.val; omega

/-- A store into one matrix of a stack, where it holds the values that `G` has there. -/
theorem piece3 {a b c : ℕ} (G : Fin a → Fin b → Fin c → EReal) (j : Fin a)
    (inb : ∀ ax, (![j.val, 0, 0] : Fin 3 → ℕ) ax + (M3 1 b c).size ax ≤ (M3 a b c).size ax) (w : (M3 1 b c).Idx → EReal)
    (h : ∀ u p q, w (ix3 u p q) = G j p q) (x : (M3 1 b c).Idx) :
    w x = (fun y : (M3 a b c).Idx => G (y 0) (y 1) (y 2)) ((Rect.unit (s := M3 a b c) ![j.val, 0, 0] (M3 1 b c).size inb).emb x) :=
  (congrArg w (eq_ix3 x)).trans ((h (x 0) (x 1) (x 2)).trans
    (congrArg (fun y : (M3 a b c).Idx => G (y 0) (y 1) (y 2)) ((emb3 j inb (x 0) (x 1) (x 2)).symm.trans
      (congrArg (Rect.unit (s := M3 a b c) ![j.val, 0, 0] (M3 1 b c).size inb).emb (eq_ix3 x).symm))))

theorem zero2 : (![0, 0] : Fin 2 → ℕ) = fun _ => 0 := by decide

/-- A read of a whole matrix. -/
theorem ld2 {e : EltTy} {a b : ℕ} (X : (M2 a b).Idx → Elt Ideal e) (inb : ∀ ax, (![0, 0] : Fin 2 → ℕ) ax + (M2 a b).size ax ≤ (M2 a b).size ax) :
    View.ld (Val := Elt Ideal) X (Rect.unit (s := M2 a b) ![0, 0] (M2 a b).size inb) = X :=
  View.ld_unit_zero zero2 inb X

theorem zero3 : (![0, 0, 0] : Fin 3 → ℕ) = fun _ => 0 := by decide

/-- A read of a whole stack. -/
theorem ld3_whole {e : EltTy} {a b c : ℕ} (X : (M3 a b c).Idx → Elt Ideal e)
    (inb : ∀ ax, (![0, 0, 0] : Fin 3 → ℕ) ax + (M3 a b c).size ax ≤ (M3 a b c).size ax) :
    View.ld (Val := Elt Ideal) X (Rect.unit (s := M3 a b c) ![0, 0, 0] (M3 a b c).size inb) = X :=
  View.ld_unit_zero zero3 inb X

/-- A store into the lanes from `n` on, where it holds the values that `G` has there. -/
theorem pieceLane {b c d : ℕ} (G : Fin 1 → Fin b → Fin c → EReal) (n : ℕ)
    (inb : ∀ ax, (![0, 0, n] : Fin 3 → ℕ) ax + (M3 1 b d).size ax ≤ (M3 1 b c).size ax) (w : (M3 1 b d).Idx → EReal)
    (h : ∀ u p q k, k.val = n + q.val → w (ix3 u p q) = G 0 p k) (x : (M3 1 b d).Idx) :
    w x = (fun y : (M3 1 b c).Idx => G (y 0) (y 1) (y 2)) ((Rect.unit (s := M3 1 b c) ![0, 0, n] (M3 1 b d).size inb).emb x) := by
  have hk : n + (x 2).val < c := lt_of_lt_of_le (Nat.add_lt_add_left (x 2).isLt n) (inb 2)
  refine (congrArg w (eq_ix3 x)).trans ((h (x 0) (x 1) (x 2) ⟨n + (x 2).val, hk⟩ rfl).trans ?_)
  refine congrArg (fun y : (M3 1 b c).Idx => G (y 0) (y 1) (y 2))
    (show ix3 (0 : Fin 1) (x 1) (⟨n + (x 2).val, hk⟩ : Fin c) = (Rect.unit (s := M3 1 b c) ![0, 0, n] (M3 1 b d).size inb).emb x from ?_)
  have hu : (x 0).val = 0 := Nat.lt_one_iff.1 (x 0).isLt
  refine funext fun ax => Fin.ext ?_
  match ax with
  | ⟨0, _⟩ => show 0 = 0 + 1 * (x 0).val; omega
  | ⟨1, _⟩ => show (x 1).val = 0 + 1 * (x 1).val; omega
  | ⟨2, _⟩ => show n + (x 2).val = n + 1 * (x 2).val; omega

/-- The three scales' lanes, side by side. -/
def join3 (a : Fin 400 → EReal) (b : Fin 1600 → EReal) (c : Fin 6400 → EReal) (q : Fin 8400) : EReal :=
  if h : q.val < 400 then a ⟨q.val, h⟩
  else if h' : q.val < 2000 then b ⟨q.val - 400, by omega⟩
  else c ⟨q.val - 2000, by omega⟩

theorem join3_0 (a : Fin 400 → EReal) (b : Fin 1600 → EReal) (c : Fin 6400 → EReal) (q : Fin 400) (k : Fin 8400) (h : k.val = q.val) :
    join3 a b c k = a q := by
  unfold join3
  rw [dif_pos (by omega)]
  exact congrArg a (Fin.ext h)

theorem join3_1 (a : Fin 400 → EReal) (b : Fin 1600 → EReal) (c : Fin 6400 → EReal) (q : Fin 1600) (k : Fin 8400) (h : k.val = 400 + q.val) :
    join3 a b c k = b q := by
  unfold join3
  rw [dif_neg (by omega), dif_pos (by omega)]
  exact congrArg b (Fin.ext (by show k.val - 400 = q.val; omega))

theorem join3_2 (a : Fin 400 → EReal) (b : Fin 1600 → EReal) (c : Fin 6400 → EReal) (q : Fin 6400) (k : Fin 8400) (h : k.val = 2000 + q.val) :
    join3 a b c k = c q := by
  unfold join3
  rw [dif_neg (by omega), dif_neg (by omega)]
  exact congrArg c (Fin.ext (by show k.val - 2000 = q.val; omega))

/-- A carried block, cast to a matrix and back. -/
theorem carry_self {b d : ℕ} (v : (M3 1 b d).Idx → EReal) (h : (M3 1 b d).ShapeCasts (M2 b d)) (h' : (M2 b d).ShapeCasts (M3 1 b d)) (u : Fin 1)
    (p : Fin b) (q : Fin d) : shapeCast (M3 1 b d) (shapeCast (M2 b d) v h) h' (ix3 u p q) = v (ix3 0 p q) :=
  (shapeCast_ab_1ab_apply _ h' u p q).trans (shapeCast_1ab_ab_apply v h p q)

theorem isTap_ld {x : FVec Ideal (M3 3 M C3) .bf16} {w : Fin M → Fin C → Fin 3 → Fin 3 → EReal} (h : IsTaps x w) (j : Fin 3)
    (inb : ∀ ax, (![j.val, 0, 0] : Fin 3 → ℕ) ax + (M3 1 M C3).size ax ≤ (M3 3 M C3).size ax) :
    IsTap (View.ld (Val := Elt Ideal) (e' := .bf16) x (Rect.unit (s := M3 3 M C3) ![j.val, 0, 0] (M3 1 M C3).size inb)) w j :=
  fun o ky c p hp => (ld3 (e := .bf16) x j inb 0 o p).trans (h j o ky c p hp)

/-! ## The stores -/

section
variable (G : Geo C C2 C3 L LW W) (hw : H * W = L) {κ : EReal} {p : Par C} (hp : p.Finite) {x : Fin C → Fin H → Fin W → EReal}
  (hx : ∀ c h w, Fin' (x c h w)) {f : FVec Ideal (M3 1 C L) .f32} (hf : IsFeat hw f x) {g : FVec Ideal (M2 C2 1) .bf16} (hg : IsGates κ p x g)
  {x1 : FVec Ideal (M2 C2 C) .bf16} {x2 : FVec Ideal (M2 C2 1) .f32} {x3 x4 : FVec Ideal (M2 C C) .bf16}
  {x5 : FVec Ideal (M2 C2 1) .bf16} {x6 : FVec Ideal (M2 C2 1) .f32} {x7 : FVec Ideal (M3 3 80 C3) .bf16} {x8 : FVec Ideal (M2 80 1) .f32}
  {x9 : FVec Ideal (M3 3 68 C3) .bf16} {x10 : FVec Ideal (M2 68 1) .f32} (hW : Wts p x1 x2 x3 x4 x5 x6 x7 x8 x9 x10)

include hp hx hf hg hW in
/-- The scores' store at a lane. -/
theorem cls_store (G80 : GeoM 80 C3 L) (L1 W2 : ℕ) (hL1 : L1 + 1 = L) (hW2 : W2 + 2 = W) {w0 w1 w2 : FVec Ideal (M3 1 80 C3) .bf16}
    (h0 : IsTap w0 p.pcw 0) (h1 : IsTap w1 p.pcw 1) (h2 : IsTap w2 p.pcw 2) (hc : (M2 80 L).ShapeCasts (M3 1 80 L)) (u : Fin 1) (o : Fin 80) (q : Fin L) :
    shapeCast (M3 1 80 L) (clsOut G G80 L1 W2 f g x3 x4 x5 x6 w0 w1 w2 x8) hc (ix3 u o q) = scoreAt hw κ p x o q := by
  refine (shapeCast_ab_1ab_apply _ hc u o q).trans ?_
  have h := clsOut_pt G hw hp hx hf hg hW.cc (rcw := x4) hW.sc hW.bc G80 L1 W2 hL1 hW2 h0 h1 h2 hW.pb o (rowq hw q) (colq hw q)
  rw [pt_rowq_colq] at h
  exact h

include hp hx hf hg hW in
/-- The distances' store at a lane. -/
theorem reg_store (G68 : GeoM 68 C3 L) (R : GeoR L) (L1 W2 : ℕ) (hL1 : L1 + 1 = L) (hW2 : W2 + 2 = W) {w0 w1 w2 : FVec Ideal (M3 1 68 C3) .bf16}
    (h0 : IsTap w0 p.prw 0) (h1 : IsTap w1 p.prw 1) (h2 : IsTap w2 p.prw 2) (hc : (M2 4 L).ShapeCasts (M3 1 4 L)) (u : Fin 1) (o : Fin 4) (q : Fin L) :
    shapeCast (M3 1 4 L) (regOut G G68 R L1 W2 f g x3 x4 x5 x6 w0 w1 w2 x10) hc (ix3 u o q) = distAt hw κ p x o q := by
  refine (shapeCast_ab_1ab_apply _ hc u o q).trans ?_
  have h := regOut_pt G hw hp hx hf hg (ccw := x3) hW.rc hW.sc hW.bc G68 R L1 W2 hL1 hW2 h0 h1 h2 hW.qb o (rowq hw q) (colq hw q)
  rw [pt_rowq_colq] at h
  exact h

end

end Cert.Head
-- ==== Proof.Host.lean ====
/-
  What the host packs for a call: the parameters read out of the argument arrays, the packed arrays read at an index.
-/
module

public import proofs.«01_k».proof.Proof.BlockAll

@[expose] public section

set_option maxRecDepth 16384

noncomputable section

namespace Cert.Head

open Idealize.ShloMosaic Idealize.ShloMosaic.ValueIdx Idealize.SL.Sem

variable {α : Type} {B C C2 C3 M H W L : ℕ}

/-- The shape with four axes. -/
abbrev M4 (a b c d : ℕ) : Shape := ⟨4, ![a, b, c, d]⟩

/-- The parameters of one scale, read from its fourteen arrays in the order of the arguments. -/
def parOf (a1 : FVec Ideal (M4 C C 1 1) .f32) (a2 : FVec Ideal (M1 C) .f32) (a3 : FVec Ideal (M4 C C 1 1) .f32) (a4 a5 : FVec Ideal (M1 C) .f32)
    (b1 : FVec Ideal (M4 C C 1 1) .f32) (b2 : FVec Ideal (M1 C) .f32) (b3 : FVec Ideal (M4 C C 1 1) .f32) (b4 b5 : FVec Ideal (M1 C) .f32)
    (p1 : FVec Ideal (M4 80 C 3 3) .f32) (p2 : FVec Ideal (M1 80) .f32) (p3 : FVec Ideal (M4 68 C 3 3) .f32) (p4 : FVec Ideal (M1 68) .f32) : Par C where
  cfw o k := a1 (ix4 o k 0 0)
  cfb o := a2 (ix1 o)
  ccw o k := a3 (ix4 o k 0 0)
  cbs o := a4 (ix1 o)
  cbb o := a5 (ix1 o)
  rfw o k := b1 (ix4 o k 0 0)
  rfb o := b2 (ix1 o)
  rcw o k := b3 (ix4 o k 0 0)
  rbs o := b4 (ix1 o)
  rbb o := b5 (ix1 o)
  pcw o c ky kx := p1 (ix4 o c ky kx)
  pcb o := p2 (ix1 o)
  prw o c ky kx := p3 (ix4 o c ky kx)
  prb o := p4 (ix1 o)

/-- A one-by-one kernel as a matrix. -/
theorem flat11 {m : ℕ} (x : (M4 m C 1 1).Idx → α) (h : (M4 m C 1 1).ShapeCasts (M2 m C)) (o : Fin m) (k : Fin C) :
    shapeCast (M2 m C) x h (ix2 o k) = x (ix4 o k 0 0) :=
  shapeCast_apply x h (ix2 o k) (ix4 o k 0 0) (by
    rw [Shape.rowMajor_val_four, Shape.rowMajor_val_two]
    show ((o.val * C + k.val) * 1 + 0) * 1 + 0 = o.val * C + k.val
    omega)

/-- An image's rows laid end to end. -/
theorem flatHW (hw : H * W = L) (x : (M4 B C H W).Idx → α) (h : (M4 B C H W).ShapeCasts (M3 B C L)) (b : Fin B) (k : Fin C) (i : Fin H) (j : Fin W) :
    shapeCast (M3 B C L) x h (ix3 b k (pt hw i j)) = x (ix4 b k i j) :=
  shapeCast_apply x h (ix3 b k (pt hw i j)) (ix4 b k i j) (by
    rw [Shape.rowMajor_val_four, Shape.rowMajor_val_three]
    show ((b.val * C + k.val) * H + i.val) * W + j.val = (b.val * C + k.val) * L + (i.val * W + j.val)
    subst hw
    rw [Nat.add_mul _ i.val W, Nat.mul_assoc _ H W, Nat.add_assoc])

/-- A vector as a column. -/
theorem flatCol {m : ℕ} (x : (M1 m).Idx → α) (h : (M1 m).ShapeCasts (M2 m 1)) (o : Fin m) (u : Fin 1) : shapeCast (M2 m 1) x h (ix2 o u) = x (ix1 o) :=
  shapeCast_apply x h (ix2 o u) (ix1 o) (by
    rw [Shape.rowMajor_val_one, Shape.rowMajor_val_two]
    show o.val = o.val * 1 + u.val
    omega)

/-- Two vectors one after the other, as a column. -/
theorem isCol_packed {φ : FTy} (x y : FVec Ideal (M1 C) φ) (h : Shape.Concatenates [M1 C, M1 C] (M1 C2) 0) (h' : (M1 C2).ShapeCasts (M2 C2 1)) :
    IsCol (φ := φ) (shapeCast (M2 C2 1) (concatenate (M1 C2) 0 [⟨M1 C, x⟩, ⟨M1 C, y⟩] h) h') (fun o => x (ix1 o)) (fun o => y (ix1 o)) := by
  refine fun c r => ⟨fun hr => ?_, fun hr => ?_⟩
  · rw [flatCol]
    exact concatenate_pair_apply_left (t := M1 C2) 0 x y h (ix1 r) rfl (ix1 c) (fun ax => by
      match ax with
      | ⟨0, _⟩ => exact hr.symm)
  · rw [flatCol]
    exact concatenate_pair_apply_right (t := M1 C2) 0 x y h (ix1 r) rfl rfl (ix1 c) (fun ax hax => by
      match ax with
      | ⟨0, _⟩ => exact absurd rfl hax) (by show c.val + C = r.val; omega)

/-- Two one-by-one kernels, one above the other. -/
theorem isMat_packed (x y : FVec Ideal (M4 C C 1 1) .f32) (hx hy : (M4 C C 1 1).ShapeCasts (M2 C C)) (hb : FTy.bf16.bits < FTy.f32.bits)
    (h : Shape.Concatenates [M2 C C, M2 C C] (M2 C2 C) 0) :
    IsMat (φ := .bf16) (concatenate (M2 C2 C) 0 [⟨M2 C C, truncf (F := Ideal) .bf16 (shapeCast (M2 C C) x hx) hb⟩, ⟨M2 C C, truncf (F := Ideal) .bf16 (shapeCast (M2 C C) y hy) hb⟩] h)
      (fun o k => x (ix4 o k 0 0)) (fun o k => y (ix4 o k 0 0)) := by
  refine fun c k r => ⟨fun hr => ?_, fun hr => ?_⟩
  · exact (stack2_top _ _ h r k c hr.symm).trans (flat11 x hx c k)
  · exact (stack2_bot _ _ h r k c (by omega)).trans (flat11 y hy c k)

/-- A three-by-three kernel, its columns first and its rows' channels side by side. -/
theorem isTaps_packed (hC : C3 = 3 * C) (x : FVec Ideal (M4 M C 3 3) .f32) (ht : (M4 M C 3 3).Transposes [3, 0, 2, 1] (M4 3 M 3 C))
    (hs : (M4 3 M 3 C).ShapeCasts (M3 3 M C3)) (hb : FTy.bf16.bits < FTy.f32.bits) :
    IsTaps (truncf (F := Ideal) .bf16 (shapeCast (M3 3 M C3) (transpose (M4 3 M 3 C) [3, 0, 2, 1] x ht) hs) hb) (fun o c ky kx => x (ix4 o c ky kx)) := by
  intro kx o ky c r hr
  refine (shapeCast_apply (transpose (M4 3 M 3 C) [3, 0, 2, 1] x ht) hs (ix3 kx o r) (ix4 kx o ky c) ?_).trans ?_
  · rw [Shape.rowMajor_val_four, Shape.rowMajor_val_three]
    show ((kx.val * M + o.val) * 3 + ky.val) * C + c.val = (kx.val * M + o.val) * C3 + r.val
    subst hC
    rw [hr, Nat.add_mul _ ky.val C, Nat.mul_assoc _ 3 C, Nat.add_assoc]
  · exact transpose_apply _ x ht (ix4 kx o ky c) (ix4 o c ky kx) (fun b => by
      match b with
      | ⟨0, _⟩ => rfl
      | ⟨1, _⟩ => rfl
      | ⟨2, _⟩ => rfl
      | ⟨3, _⟩ => rfl)

variable (a1 : FVec Ideal (M4 C C 1 1) .f32) (a2 : FVec Ideal (M1 C) .f32) (a3 : FVec Ideal (M4 C C 1 1) .f32) (a4 a5 : FVec Ideal (M1 C) .f32)
    (b1 : FVec Ideal (M4 C C 1 1) .f32) (b2 : FVec Ideal (M1 C) .f32) (b3 : FVec Ideal (M4 C C 1 1) .f32) (b4 b5 : FVec Ideal (M1 C) .f32)
    (p1 : FVec Ideal (M4 80 C 3 3) .f32) (p2 : FVec Ideal (M1 80) .f32) (p3 : FVec Ideal (M4 68 C 3 3) .f32) (p4 : FVec Ideal (M1 68) .f32)

/-- The packed arrays are the scale's parameters. -/
theorem wts_packed (hC : C3 = 3 * C) (hx : (M4 C C 1 1).ShapeCasts (M2 C C)) (hb : FTy.bf16.bits < FTy.f32.bits)
    (hm : Shape.Concatenates [M2 C C, M2 C C] (M2 C2 C) 0) (hv : Shape.Concatenates [M1 C, M1 C] (M1 C2) 0) (hc : (M1 C2).ShapeCasts (M2 C2 1))
    (ht80 : (M4 80 C 3 3).Transposes [3, 0, 2, 1] (M4 3 80 3 C)) (hs80 : (M4 3 80 3 C).ShapeCasts (M3 3 80 C3)) (h80 : (M1 80).ShapeCasts (M2 80 1))
    (ht68 : (M4 68 C 3 3).Transposes [3, 0, 2, 1] (M4 3 68 3 C)) (hs68 : (M4 3 68 3 C).ShapeCasts (M3 3 68 C3)) (h68 : (M1 68).ShapeCasts (M2 68 1)) :
    Wts (parOf a1 a2 a3 a4 a5 b1 b2 b3 b4 b5 p1 p2 p3 p4)
      (concatenate (M2 C2 C) 0 [⟨M2 C C, truncf (F := Ideal) .bf16 (shapeCast (M2 C C) a1 hx) hb⟩, ⟨M2 C C, truncf (F := Ideal) .bf16 (shapeCast (M2 C C) b1 hx) hb⟩] hm)
      (shapeCast (M2 C2 1) (concatenate (M1 C2) 0 [⟨M1 C, a2⟩, ⟨M1 C, b2⟩] hv) hc)
      (truncf (F := Ideal) .bf16 (shapeCast (M2 C C) a3 hx) hb) (truncf (F := Ideal) .bf16 (shapeCast (M2 C C) b3 hx) hb)
      (truncf (F := Ideal) .bf16 (shapeCast (M2 C2 1) (concatenate (M1 C2) 0 [⟨M1 C, a4⟩, ⟨M1 C, b4⟩] hv) hc) hb)
      (shapeCast (M2 C2 1) (concatenate (M1 C2) 0 [⟨M1 C, a5⟩, ⟨M1 C, b5⟩] hv) hc)
      (truncf (F := Ideal) .bf16 (shapeCast (M3 3 80 C3) (transpose (M4 3 80 3 C) [3, 0, 2, 1] p1 ht80) hs80) hb)
      (shapeCast (M2 80 1) p2 h80)
      (truncf (F := Ideal) .bf16 (shapeCast (M3 3 68 C3) (transpose (M4 3 68 3 C) [3, 0, 2, 1] p3 ht68) hs68) hb)
      (shapeCast (M2 68 1) p4 h68) where
  fw := isMat_packed a1 b1 hx hx hb hm
  fb := isCol_packed (φ := .f32) a2 b2 hv hc
  cc c k := flat11 a3 hx c k
  rc c k := flat11 b3 hx c k
  sc := isCol_packed (φ := .f32) a4 b4 hv hc
  bc := isCol_packed (φ := .f32) a5 b5 hv hc
  pc := isTaps_packed hC p1 ht80 hs80 hb
  pb o := flatCol p2 h80 o 0
  pr := isTaps_packed hC p3 ht68 hs68 hb
  qb o := flatCol p4 h68 o 0

end Cert.Head

end
-- ==== Proof.Pieces0.lean ====
/-
  The first call (four images of 1024 channels at a grid point): each store of its body is the generic block's term.
-/
module

public import proofs.«01_k».proof.Proof.Block
public import proofs.«01_k».proof.Proof.Gen.KernelIdeal.Frame

@[expose] public section

set_option maxRecDepth 65536

noncomputable section

namespace Cert.KernelIdeal.Gen

open Idealize.ShloMosaic Idealize.ShloMosaic.ValueIdx Idealize.SL.Sem Cert.Head

theorem geo0 : Geo 1024 2048 3072 400 380 20 := by constructor <;> decide

theorem geo0_80 : GeoM 80 3072 400 := by constructor <;> decide
theorem geo0_68 : GeoM 68 3072 400 := by constructor <;> decide
theorem geo0_r : GeoR 400 := by constructor <;> decide

/-- The constant one four-hundredth, as the program names it. -/
abbrev inv0 : EReal := (Named.named κ "inv_400" 0x3B23D70A#32 : Ideal .f32)

/-- The gates of the four images, a column each. -/
def gates0 (x0 : Vec Ideal S4x1024x400 .f32) (x1 : Vec Ideal S2048x1024 .bf16) (x2 : Vec Ideal S2048x1 .f32) : FVec Ideal (M2 2048 4) .bf16 :=
  gatesN geo0 (View.ld x1 r0_4) (broadcastTo (M2 2048 4) (shapeCast (M2 2048 1) (View.ld x2 r0_5) geo0.castFb) (by decide))
    (concatenate (M2 1024 4) 1 [⟨M2 1024 1, avgCol geo0 inv0 (View.ld x0 r0_0)⟩, ⟨M2 1024 1, avgCol geo0 inv0 (View.ld x0 r0_1)⟩,
      ⟨M2 1024 1, avgCol geo0 inv0 (View.ld x0 r0_2)⟩, ⟨M2 1024 1, avgCol geo0 inv0 (View.ld x0 r0_3)⟩] concatenates_S1024x1_S1024x1_S1024x1_S1024x1_S1024x4_d1)

/-- The scores of one image of the block, its gates the column `g`. -/
def cls0 (f : FVec Ideal (M3 1 1024 400) .f32) (g : FVec Ideal (M2 2048 1) .bf16) (x3 : Vec Ideal S1024x1024 .bf16) (x4 : Vec Ideal S1024x1024 .bf16)
    (x5 : Vec Ideal S2048x1 .bf16) (x6 : Vec Ideal S2048x1 .f32) (x7 : Vec Ideal S3x80x3072 .bf16) (x8 : Vec Ideal S80x1 .f32) : Vec Ideal S1x80x400 .f32 :=
  shapeCast S1x80x400 (clsOut geo0 geo0_80 399 18 f g (View.ld x3 r0_6) (View.ld x4 r0_6) (View.ld x5 r0_5) (View.ld x6 r0_5)
    (View.ld x7 r0_7) (View.ld x7 r0_8) (View.ld x7 r0_9) (View.ld x8 r0_10)) (by decide)

/-- The integrals of one image of the block, its gates the column `g`. -/
def reg0' (f : FVec Ideal (M3 1 1024 400) .f32) (g : FVec Ideal (M2 2048 1) .bf16) (x3 : Vec Ideal S1024x1024 .bf16) (x4 : Vec Ideal S1024x1024 .bf16)
    (x5 : Vec Ideal S2048x1 .bf16) (x6 : Vec Ideal S2048x1 .f32) (x9 : Vec Ideal S3x68x3072 .bf16) (x10 : Vec Ideal S68x1 .f32) : Vec Ideal S1x4x400 .f32 :=
  shapeCast S1x4x400 (regOut geo0 geo0_68 geo0_r 399 18 f g (View.ld x3 r0_6) (View.ld x4 r0_6) (View.ld x5 r0_5) (View.ld x6 r0_5)
    (View.ld x9 r0_11) (View.ld x9 r0_12) (View.ld x9 r0_13) (View.ld x10 r0_14)) (by decide)

variable (x0 : Vec Ideal S4x1024x400 .f32) (x1 : Vec Ideal S2048x1024 .bf16) (x2 : Vec Ideal S2048x1 .f32) (x3 : Vec Ideal S1024x1024 .bf16) (x4 : Vec Ideal S1024x1024 .bf16) (x5 : Vec Ideal S2048x1 .bf16) (x6 : Vec Ideal S2048x1 .f32) (x7 : Vec Ideal S3x80x3072 .bf16) (x8 : Vec Ideal S80x1 .f32) (x9 : Vec Ideal S3x68x3072 .bf16) (x10 : Vec Ideal S68x1 .f32)

/-- The column `i` of the gates. -/
def gcol0 (i : ℕ) (h : (M2 2048 4).Slices ![0, i] (M2 2048 1)) (g : FVec Ideal (M2 2048 4) .bf16) : FVec Ideal (M2 2048 1) .bf16 :=
  extractStridedSlice (M2 2048 1) ![0, i] g h

/-- The scores the first call stores, image by image. -/
theorem out0_11_eq : out0_11 x0 x1 x2 x3 x4 x5 x6 x7 x8 x9 x10 = View.canon
    [⟨r0_21, cls0 (View.ld x0 r0_3) (gcol0 3 (by decide) (gates0 x0 x1 x2)) x3 x4 x5 x6 x7 x8⟩,
     ⟨r0_19, cls0 (View.ld x0 r0_2) (gcol0 2 (by decide) (gates0 x0 x1 x2)) x3 x4 x5 x6 x7 x8⟩,
     ⟨r0_17, cls0 (View.ld x0 r0_1) (gcol0 1 (by decide) (gates0 x0 x1 x2)) x3 x4 x5 x6 x7 x8⟩,
     ⟨r0_15, cls0 (View.ld x0 r0_0) (gcol0 0 (by decide) (gates0 x0 x1 x2)) x3 x4 x5 x6 x7 x8⟩] := rfl

/-- The integrals the first call stores, image by image. -/
theorem out0_12_eq : out0_12 x0 x1 x2 x3 x4 x5 x6 x7 x8 x9 x10 = View.canon
    [⟨r0_22, reg0' (View.ld x0 r0_3) (gcol0 3 (by decide) (gates0 x0 x1 x2)) x3 x4 x5 x6 x9 x10⟩,
     ⟨r0_20, reg0' (View.ld x0 r0_2) (gcol0 2 (by decide) (gates0 x0 x1 x2)) x3 x4 x5 x6 x9 x10⟩,
     ⟨r0_18, reg0' (View.ld x0 r0_1) (gcol0 1 (by decide) (gates0 x0 x1 x2)) x3 x4 x5 x6 x9 x10⟩,
     ⟨r0_16, reg0' (View.ld x0 r0_0) (gcol0 0 (by decide) (gates0 x0 x1 x2)) x3 x4 x5 x6 x9 x10⟩] := rfl

end Cert.KernelIdeal.Gen
-- ==== Proof.Out0.lean ====
/-
  What the first call's body stores, lane by lane: the head on each of the block's four images.
-/
module

public import proofs.«01_k».proof.Proof.BlockAll
public import proofs.«01_k».proof.Proof.Pieces0

@[expose] public section

set_option maxRecDepth 65536

noncomputable section

namespace Cert.KernelIdeal.Gen

open Idealize.ShloMosaic Idealize.ShloMosaic.ValueIdx Idealize.SL.Sem Cert.Head

theorem hw0 : 20 * 20 = 400 := rfl

variable {p : Par 1024} (hp : p.Finite) {X : Fin 4 → Fin 1024 → Fin 20 → Fin 20 → EReal} (hX : ∀ j c h w, Fin' (X j c h w))
  {x0 : Vec Ideal S4x1024x400 .f32} {x1 : Vec Ideal S2048x1024 .bf16} {x2 : Vec Ideal S2048x1 .f32} {x3 : Vec Ideal S1024x1024 .bf16} {x4 : Vec Ideal S1024x1024 .bf16} {x5 : Vec Ideal S2048x1 .bf16} {x6 : Vec Ideal S2048x1 .f32} {x7 : Vec Ideal S3x80x3072 .bf16} {x8 : Vec Ideal S80x1 .f32} {x9 : Vec Ideal S3x68x3072 .bf16} {x10 : Vec Ideal S68x1 .f32}
  (hf : ∀ j c h w, x0 (ix3 j c (pt hw0 h w)) = X j c h w) (hW : Wts p x1 x2 x3 x4 x5 x6 x7 x8 x9 x10)

include hf in
/-- The averages of the four images, a column each. -/
theorem avgs0 (j : Fin 4) (c : Fin 1024) :
    concatenate (M2 1024 4) 1 [⟨M2 1024 1, avgCol geo0 inv0 (View.ld x0 r0_0)⟩, ⟨M2 1024 1, avgCol geo0 inv0 (View.ld x0 r0_1)⟩,
      ⟨M2 1024 1, avgCol geo0 inv0 (View.ld x0 r0_2)⟩, ⟨M2 1024 1, avgCol geo0 inv0 (View.ld x0 r0_3)⟩]
      concatenates_S1024x1_S1024x1_S1024x1_S1024x1_S1024x4_d1 (ix2 c j) = avg inv0 (X j) c := by
  have key (j : Fin 4) (inb : ∀ ax, (![j.val, 0, 0] : Fin 3 → ℕ) ax + (M3 1 1024 400).size ax ≤ (M3 4 1024 400).size ax) :
      avgCol geo0 inv0 (View.ld x0 (Rect.unit (s := M3 4 1024 400) ![j.val, 0, 0] (M3 1 1024 400).size inb)) (ix2 c 0) = avg inv0 (X j) c :=
    avgCol_img geo0 hw0 inv0 (fun c h w => (ld3 x0 j inb 0 c _).trans (hf j c h w)) c
  match j with
  | ⟨0, _⟩ => exact Eq.trans (besideN (a := 1) _ _ 0 (by show 0 < 4; omega) _ rfl 0 rfl c _ 0 rfl) (key 0 _)
  | ⟨1, _⟩ => exact Eq.trans (besideN (a := 1) _ _ 1 (by show 1 < 4; omega) _ rfl 1 rfl c _ 0 rfl) (key 1 _)
  | ⟨2, _⟩ => exact Eq.trans (besideN (a := 1) _ _ 2 (by show 2 < 4; omega) _ rfl 2 rfl c _ 0 rfl) (key 2 _)
  | ⟨3, _⟩ => exact Eq.trans (besideN (a := 1) _ _ 3 (by show 3 < 4; omega) _ rfl 3 rfl c _ 0 rfl) (key 3 _)

include hf hW in
/-- The gates of image `j`. -/
theorem gates0_at (j : Fin 4) (h : (M2 2048 4).Slices ![0, j.val] (M2 2048 1)) : IsGates inv0 p (X j) (gcol0 j.val h (gates0 x0 x1 x2)) := by
  refine gates_col (fcb := x2) geo0 ?_ hW.fb j (fun r => ?_) (fun c => avgs0 hf j c) (fun r => slice2_axis1_apply (m := 1) j.val _ h r 0 j rfl)
  · rw [ld2 x1]; exact hW.fw
  · rw [bcastCol, ld2 x2]
    exact congrFun (shapeCast_self x2 _) (ix2 r 0)

include hp hX hf hW in
/-- The scores stored for image `j`. -/
theorem cls0_at (j : Fin 4) (h : (M2 2048 4).Slices ![0, j.val] (M2 2048 1))
    (inb : ∀ ax, (![j.val, 0, 0] : Fin 3 → ℕ) ax + (M3 1 1024 400).size ax ≤ (M3 4 1024 400).size ax) (u : Fin 1) (o : Fin 80) (q : Fin 400) :
    cls0 (View.ld x0 (Rect.unit (s := M3 4 1024 400) ![j.val, 0, 0] (M3 1 1024 400).size inb)) (gcol0 j.val h (gates0 x0 x1 x2)) x3 x4 x5 x6 x7 x8 (ix3 u o q)
      = scoreAt hw0 inv0 p (X j) o q := by
  unfold cls0
  rw [ld2 x3, ld2 x4, ld2 x5, ld2 x6, ld2 x8]
  exact cls_store geo0 hw0 hp (hX j) (fun c h w => (ld3 x0 j inb 0 c _).trans (hf j c h w)) (gates0_at hf hW j h) hW geo0_80 399 18 rfl rfl
    (isTap_ld hW.pc 0 _) (isTap_ld hW.pc 1 _) (isTap_ld hW.pc 2 _) _ u o q

include hp hX hf hW in
/-- The distances stored for image `j`. -/
theorem reg0_at (j : Fin 4) (h : (M2 2048 4).Slices ![0, j.val] (M2 2048 1))
    (inb : ∀ ax, (![j.val, 0, 0] : Fin 3 → ℕ) ax + (M3 1 1024 400).size ax ≤ (M3 4 1024 400).size ax) (u : Fin 1) (o : Fin 4) (q : Fin 400) :
    reg0' (View.ld x0 (Rect.unit (s := M3 4 1024 400) ![j.val, 0, 0] (M3 1 1024 400).size inb)) (gcol0 j.val h (gates0 x0 x1 x2)) x3 x4 x5 x6 x9 x10 (ix3 u o q)
      = distAt hw0 inv0 p (X j) o q := by
  unfold reg0'
  rw [ld2 x3, ld2 x4, ld2 x5, ld2 x6, ld2 x10]
  exact reg_store geo0 hw0 hp (hX j) (fun c h w => (ld3 x0 j inb 0 c _).trans (hf j c h w)) (gates0_at hf hW j h) hW geo0_68 geo0_r 399 18 rfl rfl
    (isTap_ld hW.pr 0 _) (isTap_ld hW.pr 1 _) (isTap_ld hW.pr 2 _) _ u o q

include hp hX hf hW in
/-- The scores the body leaves. -/
theorem out0_11_at (j : Fin 4) (o : Fin 80) (q : Fin 400) : out0_11 x0 x1 x2 x3 x4 x5 x6 x7 x8 x9 x10 (ix3 j o q) = scoreAt hw0 inv0 p (X j) o q := by
  rw [out0_11_eq]
  refine View.canon_apply_of_pieces (Val := Elt Ideal) (e := .f32) (fun y : (M3 4 80 400).Idx => scoreAt hw0 inv0 p (X (y 0)) (y 1) (y 2)) _ ?_ (ix3 j o q) (cover0_11 _ _ _ _ _)
  intro pc hpc
  simp only [List.mem_cons, List.not_mem_nil, or_false] at hpc
  rcases hpc with rfl | rfl | rfl | rfl
  · exact piece3 (fun j o q => scoreAt hw0 inv0 p (X j) o q) 3 inb_S4x80x400_S1x80x400_3_0_0 _ (cls0_at hp hX hf hW 3 _ _)
  · exact piece3 (fun j o q => scoreAt hw0 inv0 p (X j) o q) 2 inb_S4x80x400_S1x80x400_2_0_0 _ (cls0_at hp hX hf hW 2 _ _)
  · exact piece3 (fun j o q => scoreAt hw0 inv0 p (X j) o q) 1 inb_S4x80x400_S1x80x400_1_0_0 _ (cls0_at hp hX hf hW 1 _ _)
  · exact piece3 (fun j o q => scoreAt hw0 inv0 p (X j) o q) 0 inb_S4x80x400_S1x80x400_0_0_0 _ (cls0_at hp hX hf hW 0 _ _)

include hp hX hf hW in
/-- The distances the body leaves. -/
theorem out0_12_at (j : Fin 4) (o : Fin 4) (q : Fin 400) : out0_12 x0 x1 x2 x3 x4 x5 x6 x7 x8 x9 x10 (ix3 j o q) = distAt hw0 inv0 p (X j) o q := by
  rw [out0_12_eq]
  refine View.canon_apply_of_pieces (Val := Elt Ideal) (e := .f32) (fun y : (M3 4 4 400).Idx => distAt hw0 inv0 p (X (y 0)) (y 1) (y 2)) _ ?_ (ix3 j o q) (cover0_12 _ _ _ _ _)
  intro pc hpc
  simp only [List.mem_cons, List.not_mem_nil, or_false] at hpc
  rcases hpc with rfl | rfl | rfl | rfl
  · exact piece3 (fun j o q => distAt hw0 inv0 p (X j) o q) 3 inb_S4x4x400_S1x4x400_3_0_0 _ (reg0_at hp hX hf hW 3 _ _)
  · exact piece3 (fun j o q => distAt hw0 inv0 p (X j) o q) 2 inb_S4x4x400_S1x4x400_2_0_0 _ (reg0_at hp hX hf hW 2 _ _)
  · exact piece3 (fun j o q => distAt hw0 inv0 p (X j) o q) 1 inb_S4x4x400_S1x4x400_1_0_0 _ (reg0_at hp hX hf hW 1 _ _)
  · exact piece3 (fun j o q => distAt hw0 inv0 p (X j) o q) 0 inb_S4x4x400_S1x4x400_0_0_0 _ (reg0_at hp hX hf hW 0 _ _)

end Cert.KernelIdeal.Gen
-- ==== Proof.Pieces1.lean ====
/-
  The second call (two images of 512 channels at a grid point): each store of its body is the generic block's term.
-/
module

public import proofs.«01_k».proof.Proof.Block
public import proofs.«01_k».proof.Proof.Gen.KernelIdeal.Frame

@[expose] public section

set_option maxRecDepth 65536

noncomputable section

namespace Cert.KernelIdeal.Gen

open Idealize.ShloMosaic Idealize.ShloMosaic.ValueIdx Idealize.SL.Sem Cert.Head

theorem geo1 : Geo 512 1024 1536 1600 1560 40 := by constructor <;> decide
theorem geo1_80 : GeoM 80 1536 1600 := by constructor <;> decide
theorem geo1_68 : GeoM 68 1536 1600 := by constructor <;> decide
theorem geo1_r : GeoR 1600 := by constructor <;> decide

/-- The constant one sixteen-hundredth, as the program names it. -/
abbrev inv1 : EReal := (Named.named κ "inv_1600" 0x3A23D70A#32 : Ideal .f32)

/-- The gates of the two images, a column each. -/
def gates1 (x0 : Vec Ideal S2x512x1600 .f32) (x1 : Vec Ideal S1024x512 .bf16) (x2 : Vec Ideal S1024x1 .f32) : FVec Ideal (M2 1024 2) .bf16 :=
  gatesN geo1 (View.ld x1 r1_2) (broadcastTo (M2 1024 2) (shapeCast (M2 1024 1) (View.ld x2 r1_3) geo1.castFb) (by decide))
    (concatenate (M2 512 2) 1 [⟨M2 512 1, avgCol geo1 inv1 (View.ld x0 r1_0)⟩, ⟨M2 512 1, avgCol geo1 inv1 (View.ld x0 r1_1)⟩]
      concatenates_S512x1_S512x1_S512x2_d1)

/-- The scores of one image of the block, its gates the column `g`. -/
def cls1 (f : FVec Ideal (M3 1 512 1600) .f32) (g : FVec Ideal (M2 1024 1) .bf16) (x3 : Vec Ideal S512x512 .bf16) (x4 : Vec Ideal S512x512 .bf16)
    (x5 : Vec Ideal S1024x1 .bf16) (x6 : Vec Ideal S1024x1 .f32) (x7 : Vec Ideal S3x80x1536 .bf16) (x8 : Vec Ideal S80x1 .f32) : Vec Ideal S1x80x1600 .f32 :=
  shapeCast S1x80x1600 (clsOut geo1 geo1_80 1599 38 f g (View.ld x3 r1_4) (View.ld x4 r1_4) (View.ld x5 r1_3) (View.ld x6 r1_3)
    (View.ld x7 r1_5) (View.ld x7 r1_6) (View.ld x7 r1_7) (View.ld x8 r1_8)) (by decide)

/-- The integrals of one image of the block, its gates the column `g`. -/
def reg1' (f : FVec Ideal (M3 1 512 1600) .f32) (g : FVec Ideal (M2 1024 1) .bf16) (x3 : Vec Ideal S512x512 .bf16) (x4 : Vec Ideal S512x512 .bf16)
    (x5 : Vec Ideal S1024x1 .bf16) (x6 : Vec Ideal S1024x1 .f32) (x9 : Vec Ideal S3x68x1536 .bf16) (x10 : Vec Ideal S68x1 .f32) : Vec Ideal S1x4x1600 .f32 :=
  shapeCast S1x4x1600 (regOut geo1 geo1_68 geo1_r 1599 38 f g (View.ld x3 r1_4) (View.ld x4 r1_4) (View.ld x5 r1_3) (View.ld x6 r1_3)
    (View.ld x9 r1_9) (View.ld x9 r1_10) (View.ld x9 r1_11) (View.ld x10 r1_12)) (by decide)

variable (x0 : Vec Ideal S2x512x1600 .f32) (x1 : Vec Ideal S1024x512 .bf16) (x2 : Vec Ideal S1024x1 .f32) (x3 : Vec Ideal S512x512 .bf16) (x4 : Vec Ideal S512x512 .bf16) (x5 : Vec Ideal S1024x1 .bf16) (x6 : Vec Ideal S1024x1 .f32) (x7 : Vec Ideal S3x80x1536 .bf16) (x8 : Vec Ideal S80x1 .f32) (x9 : Vec Ideal S3x68x1536 .bf16) (x10 : Vec Ideal S68x1 .f32)

/-- The column `i` of the gates. -/
def gcol1 (i : ℕ) (h : (M2 1024 2).Slices ![0, i] (M2 1024 1)) (g : FVec Ideal (M2 1024 2) .bf16) : FVec Ideal (M2 1024 1) .bf16 :=
  extractStridedSlice (M2 1024 1) ![0, i] g h

/-- The scores the second call stores, image by image. -/
theorem out1_11_eq : out1_11 x0 x1 x2 x3 x4 x5 x6 x7 x8 x9 x10 = View.canon
    [⟨r1_15, cls1 (View.ld x0 r1_1) (gcol1 1 (by decide) (gates1 x0 x1 x2)) x3 x4 x5 x6 x7 x8⟩,
     ⟨r1_13, cls1 (View.ld x0 r1_0) (gcol1 0 (by decide) (gates1 x0 x1 x2)) x3 x4 x5 x6 x7 x8⟩] := rfl

/-- The integrals the second call stores, image by image. -/
theorem out1_12_eq : out1_12 x0 x1 x2 x3 x4 x5 x6 x7 x8 x9 x10 = View.canon
    [⟨r1_16, reg1' (View.ld x0 r1_1) (gcol1 1 (by decide) (gates1 x0 x1 x2)) x3 x4 x5 x6 x9 x10⟩,
     ⟨r1_14, reg1' (View.ld x0 r1_0) (gcol1 0 (by decide) (gates1 x0 x1 x2)) x3 x4 x5 x6 x9 x10⟩] := rfl

end Cert.KernelIdeal.Gen
-- ==== Proof.Out1.lean ====
/-
  What the second call's body stores, lane by lane: the head on each of the block's two images.
-/
module

public import proofs.«01_k».proof.Proof.BlockAll
public import proofs.«01_k».proof.Proof.Pieces1

@[expose] public section

set_option maxRecDepth 65536

noncomputable section

namespace Cert.KernelIdeal.Gen

open Idealize.ShloMosaic Idealize.ShloMosaic.ValueIdx Idealize.SL.Sem Cert.Head

theorem hw1 : 40 * 40 = 1600 := rfl

variable {p : Par 512} (hp : p.Finite) {X : Fin 2 → Fin 512 → Fin 40 → Fin 40 → EReal} (hX : ∀ j c h w, Fin' (X j c h w))
  {x0 : Vec Ideal S2x512x1600 .f32} {x1 : Vec Ideal S1024x512 .bf16} {x2 : Vec Ideal S1024x1 .f32} {x3 : Vec Ideal S512x512 .bf16} {x4 : Vec Ideal S512x512 .bf16} {x5 : Vec Ideal S1024x1 .bf16} {x6 : Vec Ideal S1024x1 .f32} {x7 : Vec Ideal S3x80x1536 .bf16} {x8 : Vec Ideal S80x1 .f32} {x9 : Vec Ideal S3x68x1536 .bf16} {x10 : Vec Ideal S68x1 .f32}
  (hf : ∀ j c h w, x0 (ix3 j c (pt hw1 h w)) = X j c h w) (hW : Wts p x1 x2 x3 x4 x5 x6 x7 x8 x9 x10)

include hf in
/-- The averages of the two images, a column each. -/
theorem avgs1 (j : Fin 2) (c : Fin 512) :
    concatenate (M2 512 2) 1 [⟨M2 512 1, avgCol geo1 inv1 (View.ld x0 r1_0)⟩, ⟨M2 512 1, avgCol geo1 inv1 (View.ld x0 r1_1)⟩]
      concatenates_S512x1_S512x1_S512x2_d1 (ix2 c j) = avg inv1 (X j) c := by
  have key (j : Fin 2) (inb : ∀ ax, (![j.val, 0, 0] : Fin 3 → ℕ) ax + (M3 1 512 1600).size ax ≤ (M3 2 512 1600).size ax) :
      avgCol geo1 inv1 (View.ld x0 (Rect.unit (s := M3 2 512 1600) ![j.val, 0, 0] (M3 1 512 1600).size inb)) (ix2 c 0) = avg inv1 (X j) c :=
    avgCol_img geo1 hw1 inv1 (fun c h w => (ld3 x0 j inb 0 c _).trans (hf j c h w)) c
  match j with
  | ⟨0, _⟩ => exact Eq.trans (besideN (a := 1) _ _ 0 (by show 0 < 2; omega) _ rfl 0 rfl c _ 0 rfl) (key 0 _)
  | ⟨1, _⟩ => exact Eq.trans (besideN (a := 1) _ _ 1 (by show 1 < 2; omega) _ rfl 1 rfl c _ 0 rfl) (key 1 _)

include hf hW in
/-- The gates of image `j`. -/
theorem gates1_at (j : Fin 2) (h : (M2 1024 2).Slices ![0, j.val] (M2 1024 1)) : IsGates inv1 p (X j) (gcol1 j.val h (gates1 x0 x1 x2)) := by
  refine gates_col (fcb := x2) geo1 ?_ hW.fb j (fun r => ?_) (fun c => avgs1 hf j c) (fun r => slice2_axis1_apply (m := 1) j.val _ h r 0 j rfl)
  · rw [ld2 x1]; exact hW.fw
  · rw [bcastCol, ld2 x2]
    exact congrFun (shapeCast_self x2 _) (ix2 r 0)

include hp hX hf hW in
/-- The scores stored for image `j`. -/
theorem cls1_at (j : Fin 2) (h : (M2 1024 2).Slices ![0, j.val] (M2 1024 1))
    (inb : ∀ ax, (![j.val, 0, 0] : Fin 3 → ℕ) ax + (M3 1 512 1600).size ax ≤ (M3 2 512 1600).size ax) (u : Fin 1) (o : Fin 80) (q : Fin 1600) :
    cls1 (View.ld x0 (Rect.unit (s := M3 2 512 1600) ![j.val, 0, 0] (M3 1 512 1600).size inb)) (gcol1 j.val h (gates1 x0 x1 x2)) x3 x4 x5 x6 x7 x8 (ix3 u o q)
      = scoreAt hw1 inv1 p (X j) o q := by
  unfold cls1
  rw [ld2 x3, ld2 x4, ld2 x5, ld2 x6, ld2 x8]
  exact cls_store geo1 hw1 hp (hX j) (fun c h w => (ld3 x0 j inb 0 c _).trans (hf j c h w)) (gates1_at hf hW j h) hW geo1_80 1599 38 rfl rfl
    (isTap_ld hW.pc 0 _) (isTap_ld hW.pc 1 _) (isTap_ld hW.pc 2 _) _ u o q

include hp hX hf hW in
/-- The distances stored for image `j`. -/
theorem reg1_at (j : Fin 2) (h : (M2 1024 2).Slices ![0, j.val] (M2 1024 1))
    (inb : ∀ ax, (![j.val, 0, 0] : Fin 3 → ℕ) ax + (M3 1 512 1600).size ax ≤ (M3 2 512 1600).size ax) (u : Fin 1) (o : Fin 4) (q : Fin 1600) :
    reg1' (View.ld x0 (Rect.unit (s := M3 2 512 1600) ![j.val, 0, 0] (M3 1 512 1600).size inb)) (gcol1 j.val h (gates1 x0 x1 x2)) x3 x4 x5 x6 x9 x10 (ix3 u o q)
      = distAt hw1 inv1 p (X j) o q := by
  unfold reg1'
  rw [ld2 x3, ld2 x4, ld2 x5, ld2 x6, ld2 x10]
  exact reg_store geo1 hw1 hp (hX j) (fun c h w => (ld3 x0 j inb 0 c _).trans (hf j c h w)) (gates1_at hf hW j h) hW geo1_68 geo1_r 1599 38 rfl rfl
    (isTap_ld hW.pr 0 _) (isTap_ld hW.pr 1 _) (isTap_ld hW.pr 2 _) _ u o q

include hp hX hf hW in
/-- The scores the body leaves. -/
theorem out1_11_at (j : Fin 2) (o : Fin 80) (q : Fin 1600) : out1_11 x0 x1 x2 x3 x4 x5 x6 x7 x8 x9 x10 (ix3 j o q) = scoreAt hw1 inv1 p (X j) o q := by
  rw [out1_11_eq]
  refine View.canon_apply_of_pieces (Val := Elt Ideal) (e := .f32) (fun y : (M3 2 80 1600).Idx => scoreAt hw1 inv1 p (X (y 0)) (y 1) (y 2)) _ ?_ (ix3 j o q) (cover1_11 _ _ _)
  intro pc hpc
  simp only [List.mem_cons, List.not_mem_nil, or_false] at hpc
  rcases hpc with rfl | rfl
  · exact piece3 (fun j o q => scoreAt hw1 inv1 p (X j) o q) 1 inb_S2x80x1600_S1x80x1600_1_0_0 _ (cls1_at hp hX hf hW 1 _ _)
  · exact piece3 (fun j o q => scoreAt hw1 inv1 p (X j) o q) 0 inb_S2x80x1600_S1x80x1600_0_0_0 _ (cls1_at hp hX hf hW 0 _ _)

include hp hX hf hW in
/-- The distances the body leaves. -/
theorem out1_12_at (j : Fin 2) (o : Fin 4) (q : Fin 1600) : out1_12 x0 x1 x2 x3 x4 x5 x6 x7 x8 x9 x10 (ix3 j o q) = distAt hw1 inv1 p (X j) o q := by
  rw [out1_12_eq]
  refine View.canon_apply_of_pieces (Val := Elt Ideal) (e := .f32) (fun y : (M3 2 4 1600).Idx => distAt hw1 inv1 p (X (y 0)) (y 1) (y 2)) _ ?_ (ix3 j o q) (cover1_12 _ _ _)
  intro pc hpc
  simp only [List.mem_cons, List.not_mem_nil, or_false] at hpc
  rcases hpc with rfl | rfl
  · exact piece3 (fun j o q => distAt hw1 inv1 p (X j) o q) 1 inb_S2x4x1600_S1x4x1600_1_0_0 _ (reg1_at hp hX hf hW 1 _ _)
  · exact piece3 (fun j o q => distAt hw1 inv1 p (X j) o q) 0 inb_S2x4x1600_S1x4x1600_0_0_0 _ (reg1_at hp hX hf hW 0 _ _)

end Cert.KernelIdeal.Gen
-- ==== Proof.Pieces2.lean ====
/-
  The third call (one image of 256 channels at a grid point, with the first two calls' results carried through): each
  store of its body is the generic block's term, or a carried block.
-/
module

public import proofs.«01_k».proof.Proof.Block
public import proofs.«01_k».proof.Proof.Gen.KernelIdeal.Frame

@[expose] public section

set_option maxRecDepth 65536

noncomputable section

namespace Cert.KernelIdeal.Gen

open Idealize.ShloMosaic Idealize.ShloMosaic.ValueIdx Idealize.SL.Sem Cert.Head

theorem geo2 : Geo 256 512 768 6400 6320 80 := by constructor <;> decide
theorem geo2_80 : GeoM 80 768 6400 := by constructor <;> decide
theorem geo2_68 : GeoM 68 768 6400 := by constructor <;> decide
theorem geo2_r : GeoR 6400 := by constructor <;> decide

/-! The rectangles the body reads and stores. -/

abbrev q_1x256x6400 : Rect S1x256x6400 := Rect.unit (s := S1x256x6400) ![0, 0, 0] S1x256x6400.size inb_S1x256x6400_S1x256x6400_0_0_0
abbrev q_512x256 : Rect S512x256 := Rect.unit (s := S512x256) ![0, 0] S512x256.size inb_S512x256_S512x256_0_0
abbrev q_512x1 : Rect S512x1 := Rect.unit (s := S512x1) ![0, 0] S512x1.size inb_S512x1_S512x1_0_0
abbrev q_256x256 : Rect S256x256 := Rect.unit (s := S256x256) ![0, 0] S256x256.size inb_S256x256_S256x256_0_0
abbrev q_3x80x768_0 : Rect S3x80x768 := Rect.unit (s := S3x80x768) ![0, 0, 0] S1x80x768.size inb_S3x80x768_S1x80x768_0_0_0
abbrev q_3x80x768_1 : Rect S3x80x768 := Rect.unit (s := S3x80x768) ![1, 0, 0] S1x80x768.size inb_S3x80x768_S1x80x768_1_0_0
abbrev q_3x80x768_2 : Rect S3x80x768 := Rect.unit (s := S3x80x768) ![2, 0, 0] S1x80x768.size inb_S3x80x768_S1x80x768_2_0_0
abbrev q_80x1 : Rect S80x1 := Rect.unit (s := S80x1) ![0, 0] S80x1.size inb_S80x1_S80x1_0_0
abbrev q_1x80x1600 : Rect S1x80x1600 := Rect.unit (s := S1x80x1600) ![0, 0, 0] S1x80x1600.size inb_S1x80x1600_S1x80x1600_0_0_0
abbrev q_1x80x400 : Rect S1x80x400 := Rect.unit (s := S1x80x400) ![0, 0, 0] S1x80x400.size inb_S1x80x400_S1x80x400_0_0_0
abbrev q_3x68x768_0 : Rect S3x68x768 := Rect.unit (s := S3x68x768) ![0, 0, 0] S1x68x768.size inb_S3x68x768_S1x68x768_0_0_0
abbrev q_3x68x768_1 : Rect S3x68x768 := Rect.unit (s := S3x68x768) ![1, 0, 0] S1x68x768.size inb_S3x68x768_S1x68x768_1_0_0
abbrev q_3x68x768_2 : Rect S3x68x768 := Rect.unit (s := S3x68x768) ![2, 0, 0] S1x68x768.size inb_S3x68x768_S1x68x768_2_0_0
abbrev q_68x1 : Rect S68x1 := Rect.unit (s := S68x1) ![0, 0] S68x1.size inb_S68x1_S68x1_0_0
abbrev q_1x4x1600 : Rect S1x4x1600 := Rect.unit (s := S1x4x1600) ![0, 0, 0] S1x4x1600.size inb_S1x4x1600_S1x4x1600_0_0_0
abbrev q_1x4x400 : Rect S1x4x400 := Rect.unit (s := S1x4x400) ![0, 0, 0] S1x4x400.size inb_S1x4x400_S1x4x400_0_0_0
abbrev q_1x80x8400_2000 : Rect S1x80x8400 := Rect.unit (s := S1x80x8400) ![0, 0, 2000] S1x80x6400.size inb_S1x80x8400_S1x80x6400_0_0_2000
abbrev q_1x80x8400_400 : Rect S1x80x8400 := Rect.unit (s := S1x80x8400) ![0, 0, 400] S1x80x1600.size inb_S1x80x8400_S1x80x1600_0_0_400
abbrev q_1x80x8400_0 : Rect S1x80x8400 := Rect.unit (s := S1x80x8400) ![0, 0, 0] S1x80x400.size inb_S1x80x8400_S1x80x400_0_0_0
abbrev q_1x4x8400_2000 : Rect S1x4x8400 := Rect.unit (s := S1x4x8400) ![0, 0, 2000] S1x4x6400.size inb_S1x4x8400_S1x4x6400_0_0_2000
abbrev q_1x4x8400_400 : Rect S1x4x8400 := Rect.unit (s := S1x4x8400) ![0, 0, 400] S1x4x1600.size inb_S1x4x8400_S1x4x1600_0_0_400
abbrev q_1x4x8400_0 : Rect S1x4x8400 := Rect.unit (s := S1x4x8400) ![0, 0, 0] S1x4x400.size inb_S1x4x8400_S1x4x400_0_0_0

/-- What the body reads of a buffer that holds `x` at the rectangle `r`. -/
abbrev rd {s : Shape} {e : EltTy} {m : Memref sig .tc .vmem s e} (h : m.IsWhole) (x : Vec Ideal s e) (r : Rect s) : r.shape.Idx → Elt Ideal e :=
  View.readAt (Elt Ideal) m.view r.toLoadRect (h.unread x)

/-- The constant one sixty-four-hundredth, as the program names it. -/
abbrev inv2 : EReal := (Named.named κ "inv_6400" 0x3923D70A#32 : Ideal .f32)

/-- The gates of the image. -/
def gates2 (x0 : FVec Ideal (M3 1 256 6400) .f32) (x1 : FVec Ideal (M2 512 256) .bf16) (x2 : FVec Ideal (M2 512 1) .f32) : FVec Ideal (M2 512 1) .bf16 :=
  gatesN geo2 x1 (shapeCast (M2 512 1) x2 geo2.castFb) (avgCol geo2 inv2 x0)

/-- The scores of the image. -/
def cls2 (x0 : FVec Ideal (M3 1 256 6400) .f32) (x1 : FVec Ideal (M2 512 256) .bf16) (x2 : FVec Ideal (M2 512 1) .f32) (x3 x4 : FVec Ideal (M2 256 256) .bf16)
    (x5 : FVec Ideal (M2 512 1) .bf16) (x6 : FVec Ideal (M2 512 1) .f32) (w0 w1 w2 : FVec Ideal (M3 1 80 768) .bf16) (b : FVec Ideal (M2 80 1) .f32) :
    FVec Ideal (M3 1 80 6400) .f32 :=
  shapeCast (M3 1 80 6400) (clsOut geo2 geo2_80 6399 78 x0 (gates2 x0 x1 x2) x3 x4 x5 x6 w0 w1 w2 b) (by decide)

/-- The integrals of the image. -/
def reg2' (x0 : FVec Ideal (M3 1 256 6400) .f32) (x1 : FVec Ideal (M2 512 256) .bf16) (x2 : FVec Ideal (M2 512 1) .f32) (x3 x4 : FVec Ideal (M2 256 256) .bf16)
    (x5 : FVec Ideal (M2 512 1) .bf16) (x6 : FVec Ideal (M2 512 1) .f32) (w0 w1 w2 : FVec Ideal (M3 1 68 768) .bf16) (b : FVec Ideal (M2 68 1) .f32) :
    FVec Ideal (M3 1 4 6400) .f32 :=
  shapeCast (M3 1 4 6400) (regOut geo2 geo2_68 geo2_r 6399 78 x0 (gates2 x0 x1 x2) x3 x4 x5 x6 w0 w1 w2 b) (by decide)

variable (c : Dev nD) (i : grid2.Coords) (arg1 : Memref sig .tc .vmem S1x256x6400 .f32) (harg1 : arg1.IsWhole) (arg2 : Memref sig .tc .vmem S512x256 .bf16) (harg2 : arg2.IsWhole) (arg3 : Memref sig .tc .vmem S512x1 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S512x1 .bf16) (harg6 : arg6.IsWhole) (arg7 : Memref sig .tc .vmem S512x1 .f32) (harg7 : arg7.IsWhole) (arg8 : Memref sig .tc .vmem S3x80x768 .bf16) (harg8 : arg8.IsWhole) (arg9 : Memref sig .tc .vmem S80x1 .f32) (harg9 : arg9.IsWhole) (arg10 : Memref sig .tc .vmem S3x68x768 .bf16) (harg10 : arg10.IsWhole) (arg11 : Memref sig .tc .vmem S68x1 .f32) (harg11 : arg11.IsWhole) (arg12 : Memref sig .tc .vmem S1x80x400 .f32) (harg12 : arg12.IsWhole) (arg13 : Memref sig .tc .vmem S1x4x400 .f32) (harg13 : arg13.IsWhole) (arg14 : Memref sig .tc .vmem S1x80x1600 .f32) (harg14 : arg14.IsWhole) (arg15 : Memref sig .tc .vmem S1x4x1600 .f32) (harg15 : arg15.IsWhole) (arg16 : Memref sig .tc .vmem S1x80x8400 .f32) (harg16 : arg16.IsWhole) (arg17 : Memref sig .tc .vmem S1x4x8400 .f32) (harg17 : arg17.IsWhole)
  (x0 : Vec Ideal S1x256x6400 .f32) (x1 : Vec Ideal S512x256 .bf16) (x2 : Vec Ideal S512x1 .f32) (x3 : Vec Ideal S256x256 .bf16) (x4 : Vec Ideal S256x256 .bf16) (x5 : Vec Ideal S512x1 .bf16) (x6 : Vec Ideal S512x1 .f32) (x7 : Vec Ideal S3x80x768 .bf16) (x8 : Vec Ideal S80x1 .f32) (x9 : Vec Ideal S3x68x768 .bf16) (x10 : Vec Ideal S68x1 .f32) (x11 : Vec Ideal S1x80x400 .f32) (x12 : Vec Ideal S1x4x400 .f32) (x13 : Vec Ideal S1x80x1600 .f32) (x14 : Vec Ideal S1x4x1600 .f32)

/-- The scores the third call stores, and the carried ones. -/
theorem pieces2_15 : (kernelRun2_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14).1 =
    [⟨q_1x80x8400_2000,
        cls2 (rd harg1 x0 q_1x256x6400) (rd harg2 x1 q_512x256) (rd harg3 x2 q_512x1) (rd harg4 x3 q_256x256) (rd harg5 x4 q_256x256) (rd harg6 x5 q_512x1) (rd harg7 x6 q_512x1) (rd harg8 x7 q_3x80x768_0) (rd harg8 x7 q_3x80x768_1) (rd harg8 x7 q_3x80x768_2) (rd harg9 x8 q_80x1)⟩,
      ⟨q_1x80x8400_400,
        shapeCast S1x80x1600 (shapeCast S80x1600 (rd harg14 x13 q_1x80x1600) shapeCasts_S1x80x1600_S80x1600) shapeCasts_S80x1600_S1x80x1600⟩,
      ⟨q_1x80x8400_0,
        shapeCast S1x80x400 (shapeCast S80x400 (rd harg12 x11 q_1x80x400) shapeCasts_S1x80x400_S80x400) shapeCasts_S80x400_S1x80x400⟩] := rfl

/-- The integrals the third call stores, and the carried ones. -/
theorem pieces2_16 : (kernelRun2_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14).2.1 =
    [⟨q_1x4x8400_2000,
        reg2' (rd harg1 x0 q_1x256x6400) (rd harg2 x1 q_512x256) (rd harg3 x2 q_512x1) (rd harg4 x3 q_256x256) (rd harg5 x4 q_256x256) (rd harg6 x5 q_512x1) (rd harg7 x6 q_512x1) (rd harg10 x9 q_3x68x768_0) (rd harg10 x9 q_3x68x768_1) (rd harg10 x9 q_3x68x768_2) (rd harg11 x10 q_68x1)⟩,
      ⟨q_1x4x8400_400,
        shapeCast S1x4x1600 (shapeCast S4x1600 (rd harg15 x14 q_1x4x1600) shapeCasts_S1x4x1600_S4x1600) shapeCasts_S4x1600_S1x4x1600⟩,
      ⟨q_1x4x8400_0,
        shapeCast S1x4x400 (shapeCast S4x400 (rd harg13 x12 q_1x4x400) shapeCasts_S1x4x400_S4x400) shapeCasts_S4x400_S1x4x400⟩] := rfl

end Cert.KernelIdeal.Gen
-- ==== Proof.Out2.lean ====
/-
  What the third call's body stores, lane by lane: the carried values of the first two scales, then the head on its image.
-/
module

public import proofs.«01_k».proof.Proof.BlockAll
public import proofs.«01_k».proof.Proof.Pieces2

@[expose] public section

set_option maxRecDepth 65536

noncomputable section

namespace Cert.KernelIdeal.Gen

open Idealize.ShloMosaic Idealize.ShloMosaic.ValueIdx Idealize.SL.Sem Cert.Head

theorem hw2 : 80 * 80 = 6400 := rfl

theorem rd_eq {s : Shape} {e : EltTy} {m : Memref sig .tc .vmem s e} (h : m.IsWhole) (x : Vec Ideal s e) (r : Rect s) : rd h x r = View.ld x r := by
  unfold rd
  rw [View.readAt_eq_ld, Memref.IsWhole.read_unread]

section
variable {p : Par 256} (hp : p.Finite) {X : Fin 256 → Fin 80 → Fin 80 → EReal} (hX : ∀ c h w, Fin' (X c h w))
  {x0 : FVec Ideal (M3 1 256 6400) .f32} {x1 : FVec Ideal (M2 512 256) .bf16} {x2 : FVec Ideal (M2 512 1) .f32} {x3 x4 : FVec Ideal (M2 256 256) .bf16}
  {x5 : FVec Ideal (M2 512 1) .bf16} {x6 : FVec Ideal (M2 512 1) .f32} {x7 : FVec Ideal (M3 3 80 768) .bf16} {x8 : FVec Ideal (M2 80 1) .f32}
  {x9 : FVec Ideal (M3 3 68 768) .bf16} {x10 : FVec Ideal (M2 68 1) .f32}
  (hf : IsFeat hw2 x0 X) (hW : Wts p x1 x2 x3 x4 x5 x6 x7 x8 x9 x10)

include hf hW in
/-- The gates of the image. -/
theorem gates2_at : IsGates inv2 p X (gates2 x0 x1 x2) :=
  gates_col (N := 1) (fcb := x2) geo2 hW.fw hW.fb 0 (fun r => congrFun (shapeCast_self x2 _) (ix2 r 0)) (fun c => avgCol_img geo2 hw2 inv2 hf c) (fun _ => rfl)

include hp hX hf hW in
/-- The scores stored. -/
theorem cls2_at {w0 w1 w2 : FVec Ideal (M3 1 80 768) .bf16} (h0 : IsTap w0 p.pcw 0) (h1 : IsTap w1 p.pcw 1) (h2 : IsTap w2 p.pcw 2)
    (u : Fin 1) (o : Fin 80) (q : Fin 6400) : cls2 x0 x1 x2 x3 x4 x5 x6 w0 w1 w2 x8 (ix3 u o q) = scoreAt hw2 inv2 p X o q :=
  cls_store geo2 hw2 hp hX hf (gates2_at hf hW) hW geo2_80 6399 78 rfl rfl h0 h1 h2 _ u o q

include hp hX hf hW in
/-- The distances stored. -/
theorem reg2_at {w0 w1 w2 : FVec Ideal (M3 1 68 768) .bf16} (h0 : IsTap w0 p.prw 0) (h1 : IsTap w1 p.prw 1) (h2 : IsTap w2 p.prw 2)
    (u : Fin 1) (o : Fin 4) (q : Fin 6400) : reg2' x0 x1 x2 x3 x4 x5 x6 w0 w1 w2 x10 (ix3 u o q) = distAt hw2 inv2 p X o q :=
  reg_store geo2 hw2 hp hX hf (gates2_at hf hW) hW geo2_68 geo2_r 6399 78 rfl rfl h0 h1 h2 _ u o q

end

section
variable (c : Dev nD) (i : grid2.Coords) (arg1 : Memref sig .tc .vmem S1x256x6400 .f32) (harg1 : arg1.IsWhole) (arg2 : Memref sig .tc .vmem S512x256 .bf16) (harg2 : arg2.IsWhole) (arg3 : Memref sig .tc .vmem S512x1 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S512x1 .bf16) (harg6 : arg6.IsWhole) (arg7 : Memref sig .tc .vmem S512x1 .f32) (harg7 : arg7.IsWhole) (arg8 : Memref sig .tc .vmem S3x80x768 .bf16) (harg8 : arg8.IsWhole) (arg9 : Memref sig .tc .vmem S80x1 .f32) (harg9 : arg9.IsWhole) (arg10 : Memref sig .tc .vmem S3x68x768 .bf16) (harg10 : arg10.IsWhole) (arg11 : Memref sig .tc .vmem S68x1 .f32) (harg11 : arg11.IsWhole) (arg12 : Memref sig .tc .vmem S1x80x400 .f32) (harg12 : arg12.IsWhole) (arg13 : Memref sig .tc .vmem S1x4x400 .f32) (harg13 : arg13.IsWhole) (arg14 : Memref sig .tc .vmem S1x80x1600 .f32) (harg14 : arg14.IsWhole) (arg15 : Memref sig .tc .vmem S1x4x1600 .f32) (harg15 : arg15.IsWhole) (arg16 : Memref sig .tc .vmem S1x80x8400 .f32) (harg16 : arg16.IsWhole) (arg17 : Memref sig .tc .vmem S1x4x8400 .f32) (harg17 : arg17.IsWhole)
  (x0 : Vec Ideal S1x256x6400 .f32) (x1 : Vec Ideal S512x256 .bf16) (x2 : Vec Ideal S512x1 .f32) (x3 : Vec Ideal S256x256 .bf16) (x4 : Vec Ideal S256x256 .bf16) (x5 : Vec Ideal S512x1 .bf16) (x6 : Vec Ideal S512x1 .f32) (x7 : Vec Ideal S3x80x768 .bf16) (x8 : Vec Ideal S80x1 .f32) (x9 : Vec Ideal S3x68x768 .bf16) (x10 : Vec Ideal S68x1 .f32) (x11 : Vec Ideal S1x80x400 .f32) (x12 : Vec Ideal S1x4x400 .f32) (x13 : Vec Ideal S1x80x1600 .f32) (x14 : Vec Ideal S1x4x1600 .f32)
  {p : Par 256} (hp : p.Finite) {X : Fin 256 → Fin 80 → Fin 80 → EReal} (hX : ∀ c h w, Fin' (X c h w))
  (hf : IsFeat hw2 x0 X) (hW : Wts p x1 x2 x3 x4 x5 x6 x7 x8 x9 x10)

include hp hX hf hW in
/-- The scores the body leaves. -/
theorem out2_15_at (o : Fin 80) (q : Fin 8400) :
    out2_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 (ix3 0 o q)
      = join3 (fun l => x11 (ix3 0 o l)) (fun l => x13 (ix3 0 o l)) (scoreAt hw2 inv2 p X o) q := by
  unfold out2_A_15
  refine View.read_writes_apply_of_pieces VO2_15 VO2_15.junk
    (fun y : (M3 1 80 8400).Idx => (fun (_ : Fin 1) o q => join3 (fun l => x11 (ix3 0 o l)) (fun l => x13 (ix3 0 o l)) (scoreAt hw2 inv2 p X o) q) (y 0) (y 1) (y 2))
    _ ?_ (ix3 0 o q) (cover2_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 (ix3 0 o q))
  rw [pieces2_15]
  intro pc hpc
  simp only [List.mem_cons, List.not_mem_nil, or_false] at hpc
  rcases hpc with rfl | rfl | rfl
  · refine pieceLane (b := 80) (fun (_ : Fin 1) o q => join3 (fun l => x11 (ix3 0 o l)) (fun l => x13 (ix3 0 o l)) (scoreAt hw2 inv2 p X o) q) 2000 inb_S1x80x8400_S1x80x6400_0_0_2000
      (cls2 (rd harg1 x0 q_1x256x6400) (rd harg2 x1 q_512x256) (rd harg3 x2 q_512x1) (rd harg4 x3 q_256x256)
              (rd harg5 x4 q_256x256) (rd harg6 x5 q_512x1) (rd harg7 x6 q_512x1) (rd harg8 x7 q_3x80x768_0)
              (rd harg8 x7 q_3x80x768_1) (rd harg8 x7 q_3x80x768_2) (rd harg9 x8 q_80x1)) fun u o q k hk => ?_
    rw [join3_2 _ _ _ q k hk]
    rw [rd_eq harg1, rd_eq harg2, rd_eq harg3, rd_eq harg4, rd_eq harg5, rd_eq harg6, rd_eq harg7, rd_eq harg8, rd_eq harg8, rd_eq harg8, rd_eq harg9,
      ld3_whole x0, ld2 x1, ld2 x2, ld2 x3, ld2 x4, ld2 x5, ld2 x6, ld2 x8]
    exact cls2_at hp hX hf hW (isTap_ld hW.pc 0 _) (isTap_ld hW.pc 1 _) (isTap_ld hW.pc 2 _) u o q
  · refine pieceLane (b := 80) (fun (_ : Fin 1) o q => join3 (fun l => x11 (ix3 0 o l)) (fun l => x13 (ix3 0 o l)) (scoreAt hw2 inv2 p X o) q) 400 inb_S1x80x8400_S1x80x1600_0_0_400
      (shapeCast S1x80x1600 (shapeCast S80x1600 (rd harg14 x13 q_1x80x1600) shapeCasts_S1x80x1600_S80x1600) shapeCasts_S80x1600_S1x80x1600) fun u o q k hk => ?_
    rw [join3_1 _ _ _ q k hk, rd_eq harg14, ld3_whole x13]
    exact carry_self x13 _ _ u o q
  · refine pieceLane (b := 80) (fun (_ : Fin 1) o q => join3 (fun l => x11 (ix3 0 o l)) (fun l => x13 (ix3 0 o l)) (scoreAt hw2 inv2 p X o) q) 0 inb_S1x80x8400_S1x80x400_0_0_0
      (shapeCast S1x80x400 (shapeCast S80x400 (rd harg12 x11 q_1x80x400) shapeCasts_S1x80x400_S80x400) shapeCasts_S80x400_S1x80x400) fun u o q k hk => ?_
    rw [join3_0 _ _ _ q k (by omega), rd_eq harg12, ld3_whole x11]
    exact carry_self x11 _ _ u o q

include hp hX hf hW in
/-- The distances the body leaves. -/
theorem out2_16_at (o : Fin 4) (q : Fin 8400) :
    out2_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 (ix3 0 o q)
      = join3 (fun l => x12 (ix3 0 o l)) (fun l => x14 (ix3 0 o l)) (distAt hw2 inv2 p X o) q := by
  unfold out2_A_16
  refine View.read_writes_apply_of_pieces VO2_16 VO2_16.junk
    (fun y : (M3 1 4 8400).Idx => (fun (_ : Fin 1) o q => join3 (fun l => x12 (ix3 0 o l)) (fun l => x14 (ix3 0 o l)) (distAt hw2 inv2 p X o) q) (y 0) (y 1) (y 2))
    _ ?_ (ix3 0 o q) (cover2_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 (ix3 0 o q))
  rw [pieces2_16]
  intro pc hpc
  simp only [List.mem_cons, List.not_mem_nil, or_false] at hpc
  rcases hpc with rfl | rfl | rfl
  · refine pieceLane (b := 4) (fun (_ : Fin 1) o q => join3 (fun l => x12 (ix3 0 o l)) (fun l => x14 (ix3 0 o l)) (distAt hw2 inv2 p X o) q) 2000 inb_S1x4x8400_S1x4x6400_0_0_2000
      (reg2' (rd harg1 x0 q_1x256x6400) (rd harg2 x1 q_512x256) (rd harg3 x2 q_512x1) (rd harg4 x3 q_256x256)
              (rd harg5 x4 q_256x256) (rd harg6 x5 q_512x1) (rd harg7 x6 q_512x1) (rd harg10 x9 q_3x68x768_0)
              (rd harg10 x9 q_3x68x768_1) (rd harg10 x9 q_3x68x768_2) (rd harg11 x10 q_68x1)) fun u o q k hk => ?_
    rw [join3_2 _ _ _ q k hk]
    rw [rd_eq harg1, rd_eq harg2, rd_eq harg3, rd_eq harg4, rd_eq harg5, rd_eq harg6, rd_eq harg7, rd_eq harg10, rd_eq harg10, rd_eq harg10, rd_eq harg11,
      ld3_whole x0, ld2 x1, ld2 x2, ld2 x3, ld2 x4, ld2 x5, ld2 x6, ld2 x10]
    exact reg2_at hp hX hf hW (isTap_ld hW.pr 0 _) (isTap_ld hW.pr 1 _) (isTap_ld hW.pr 2 _) u o q
  · refine pieceLane (b := 4) (fun (_ : Fin 1) o q => join3 (fun l => x12 (ix3 0 o l)) (fun l => x14 (ix3 0 o l)) (distAt hw2 inv2 p X o) q) 400 inb_S1x4x8400_S1x4x1600_0_0_400
      (shapeCast S1x4x1600 (shapeCast S4x1600 (rd harg15 x14 q_1x4x1600) shapeCasts_S1x4x1600_S4x1600) shapeCasts_S4x1600_S1x4x1600) fun u o q k hk => ?_
    rw [join3_1 _ _ _ q k hk, rd_eq harg15, ld3_whole x14]
    exact carry_self x14 _ _ u o q
  · refine pieceLane (b := 4) (fun (_ : Fin 1) o q => join3 (fun l => x12 (ix3 0 o l)) (fun l => x14 (ix3 0 o l)) (distAt hw2 inv2 p X o) q) 0 inb_S1x4x8400_S1x4x400_0_0_0
      (shapeCast S1x4x400 (shapeCast S4x400 (rd harg13 x12 q_1x4x400) shapeCasts_S1x4x400_S4x400) shapeCasts_S4x400_S1x4x400) fun u o q k hk => ?_
    rw [join3_0 _ _ _ q k (by omega), rd_eq harg13, ld3_whole x12]
    exact carry_self x12 _ _ u o q

end

end Cert.KernelIdeal.Gen
-- ==== Proof.Entry.lean ====
/-
  What each call is given, from the contents `U` of the buffers before the host packs its operands.
-/
module

public import proofs.«01_k».proof.Proof.Host
public import proofs.«01_k».proof.Proof.Out0
public import proofs.«01_k».proof.Proof.Out1
public import proofs.«01_k».proof.Proof.Out2
public import Idealize.ShloMosaic.Lib.StableHlo.RunRead

@[expose] public section

set_option maxRecDepth 65536

noncomputable section

namespace Cert.KernelIdeal.Gen

open Idealize.ShloMosaic Idealize.ShloMosaic.TcCoe Idealize.ShloMosaic.ValueIdx Idealize.SL.Sem Cert.Head

/-- The parameters of scale 0. -/
def par0 (U : Valuation τ sig (Elt Ideal)) : Par 1024 :=
  parOf (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16))
/-- The images of scale 0. -/
def imga (U : Valuation τ sig (Elt Ideal)) (b : Fin 16) (k : Fin 1024) (h w : Fin 20) : EReal :=
  (U (Proc.devRef .tc main_arg0) : (M4 16 1024 20 20).Idx → EReal) (ix4 b k h w)

/-- The parameters of scale 1. -/
def par1 (U : Valuation τ sig (Elt Ideal)) : Par 512 :=
  parOf (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27)) (U (Proc.devRef .tc main_arg28)) (U (Proc.devRef .tc main_arg29)) (U (Proc.devRef .tc main_arg30))
/-- The images of scale 1. -/
def imgb (U : Valuation τ sig (Elt Ideal)) (b : Fin 16) (k : Fin 512) (h w : Fin 40) : EReal :=
  (U (Proc.devRef .tc main_arg1) : (M4 16 512 40 40).Idx → EReal) (ix4 b k h w)

/-- The parameters of scale 2. -/
def par2 (U : Valuation τ sig (Elt Ideal)) : Par 256 :=
  parOf (U (Proc.devRef .tc main_arg31)) (U (Proc.devRef .tc main_arg32)) (U (Proc.devRef .tc main_arg33)) (U (Proc.devRef .tc main_arg34)) (U (Proc.devRef .tc main_arg35)) (U (Proc.devRef .tc main_arg36)) (U (Proc.devRef .tc main_arg37)) (U (Proc.devRef .tc main_arg38)) (U (Proc.devRef .tc main_arg39)) (U (Proc.devRef .tc main_arg40)) (U (Proc.devRef .tc main_arg41)) (U (Proc.devRef .tc main_arg42)) (U (Proc.devRef .tc main_arg43)) (U (Proc.devRef .tc main_arg44))
/-- The images of scale 2. -/
def imgc (U : Valuation τ sig (Elt Ideal)) (b : Fin 16) (k : Fin 256) (h w : Fin 80) : EReal :=
  (U (Proc.devRef .tc main_arg2) : (M4 16 256 80 80).Idx → EReal) (ix4 b k h w)

/-- The packed weights of call 0, from any contents `U`. -/
theorem pack0 (U : Valuation τ sig (Elt Ideal)) : Wts (par0 U)
    (StableHlo.after hostOps0 U (Proc.devRef .tc main_v5)) (StableHlo.after hostOps0 U (Proc.devRef .tc main_v7)) (StableHlo.after hostOps0 U (Proc.devRef .tc main_v14)) (StableHlo.after hostOps0 U (Proc.devRef .tc main_v16)) (StableHlo.after hostOps0 U (Proc.devRef .tc main_v10)) (StableHlo.after hostOps0 U (Proc.devRef .tc main_v12)) (StableHlo.after hostOps0 U (Proc.devRef .tc main_v19)) (StableHlo.after hostOps0 U (Proc.devRef .tc main_v20)) (StableHlo.after hostOps0 U (Proc.devRef .tc main_v23)) (StableHlo.after hostOps0 U (Proc.devRef .tc main_v24)) := by
  after_reads_simp
  exact wts_packed (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) rfl _ _ _ _ _ _ _ _ _ _ _

/-- The images call 0 is given. -/
theorem image0 (U : Valuation τ sig (Elt Ideal)) (b : Fin 16) (k : Fin 1024) (h w : Fin 20) :
    StableHlo.after hostOps0 U (Proc.devRef .tc main_v0) (ix3 b k (pt hw0 h w)) = imga U b k h w := by
  after_reads_simp
  exact flatHW hw0 _ _ b k h w

/-- The packed weights of call 1, from any contents `U`. -/
theorem pack1 (U : Valuation τ sig (Elt Ideal)) : Wts (par1 U)
    (StableHlo.after hostOps1 U (Proc.devRef .tc main_v31)) (StableHlo.after hostOps1 U (Proc.devRef .tc main_v33)) (StableHlo.after hostOps1 U (Proc.devRef .tc main_v40)) (StableHlo.after hostOps1 U (Proc.devRef .tc main_v42)) (StableHlo.after hostOps1 U (Proc.devRef .tc main_v36)) (StableHlo.after hostOps1 U (Proc.devRef .tc main_v38)) (StableHlo.after hostOps1 U (Proc.devRef .tc main_v45)) (StableHlo.after hostOps1 U (Proc.devRef .tc main_v46)) (StableHlo.after hostOps1 U (Proc.devRef .tc main_v49)) (StableHlo.after hostOps1 U (Proc.devRef .tc main_v50)) := by
  after_reads_simp
  exact wts_packed (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27)) (U (Proc.devRef .tc main_arg28)) (U (Proc.devRef .tc main_arg29)) (U (Proc.devRef .tc main_arg30)) rfl _ _ _ _ _ _ _ _ _ _ _

/-- The images call 1 is given. -/
theorem image1 (U : Valuation τ sig (Elt Ideal)) (b : Fin 16) (k : Fin 512) (h w : Fin 40) :
    StableHlo.after hostOps1 U (Proc.devRef .tc main_v26) (ix3 b k (pt hw1 h w)) = imgb U b k h w := by
  after_reads_simp
  exact flatHW hw1 _ _ b k h w

/-- The packed weights of call 2, from any contents `U`. -/
theorem pack2 (U : Valuation τ sig (Elt Ideal)) : Wts (par2 U)
    (StableHlo.after hostOps2 U (Proc.devRef .tc main_v57)) (StableHlo.after hostOps2 U (Proc.devRef .tc main_v59)) (StableHlo.after hostOps2 U (Proc.devRef .tc main_v66)) (StableHlo.after hostOps2 U (Proc.devRef .tc main_v68)) (StableHlo.after hostOps2 U (Proc.devRef .tc main_v62)) (StableHlo.after hostOps2 U (Proc.devRef .tc main_v64)) (StableHlo.after hostOps2 U (Proc.devRef .tc main_v71)) (StableHlo.after hostOps2 U (Proc.devRef .tc main_v72)) (StableHlo.after hostOps2 U (Proc.devRef .tc main_v75)) (StableHlo.after hostOps2 U (Proc.devRef .tc main_v76)) := by
  after_reads_simp
  exact wts_packed (U (Proc.devRef .tc main_arg31)) (U (Proc.devRef .tc main_arg32)) (U (Proc.devRef .tc main_arg33)) (U (Proc.devRef .tc main_arg34)) (U (Proc.devRef .tc main_arg35)) (U (Proc.devRef .tc main_arg36)) (U (Proc.devRef .tc main_arg37)) (U (Proc.devRef .tc main_arg38)) (U (Proc.devRef .tc main_arg39)) (U (Proc.devRef .tc main_arg40)) (U (Proc.devRef .tc main_arg41)) (U (Proc.devRef .tc main_arg42)) (U (Proc.devRef .tc main_arg43)) (U (Proc.devRef .tc main_arg44)) rfl _ _ _ _ _ _ _ _ _ _ _

/-- The images call 2 is given. -/
theorem image2 (U : Valuation τ sig (Elt Ideal)) (b : Fin 16) (k : Fin 256) (h w : Fin 80) :
    StableHlo.after hostOps2 U (Proc.devRef .tc main_v52) (ix3 b k (pt hw2 h w)) = imgc U b k h w := by
  after_reads_simp
  exact flatHW hw2 _ _ b k h w

end Cert.KernelIdeal.Gen

end
-- ==== Proof.Arr0.lean ====
/-
  What the first call's two output arrays hold: the head on every image of the batch, four images at each grid point.
-/
module

public import proofs.«01_k».proof.Proof.Out0
public import Idealize.ShloMosaic.Lib.Pipeline.ValueKit.Geometry

@[expose] public section

set_option maxRecDepth 65536

noncomputable section

namespace Cert.KernelIdeal.Gen

open Idealize.ShloMosaic Idealize.ShloMosaic.TcCoe Idealize.ShloMosaic.ValueIdx Idealize.SL.Sem Cert.Head

/-- At point `t` the features' and the outputs' block is the `t`-th along the batch; -/
theorem moves0 : ∀ t : Fin cfg0.N, win0_0.index t = ![t.val, 0, 0] ∧ win0_11.index t = ![t.val, 0, 0] ∧ win0_12.index t = ![t.val, 0, 0] :=
  (by decide +kernel : ∀ t : Fin grid0.N, _)
/-- a weight's block is the whole of it. -/
theorem stays0 : ∀ t : Fin cfg0.N, (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) :=
  (by decide +kernel : ∀ t : Fin grid0.N, _)

variable (V : (c : Dev nD) → (b : Ref sig .tc) → Buf (Elt Ideal) ((c : Thread nD τ).loc b)) (c : Dev nD)

/-- Image `j` of the block at point `t` is image `4 t + j` of the batch. -/
theorem feats0 (t : Fin cfg0.N) (j : Fin 4) (b : Fin 16) (hb : b.val = 4 * t.val + j.val) (k : Fin 1024) (q : Fin 400) :
    iblk0 V c 0 t (ix3 j k q) = V c main_v0 (ix3 b k q) := by
  obtain ⟨e, -, -⟩ := moves0 t
  show V c main_v0 ((win0_0.blk t).view.emb (ix3 j k q)) = _
  refine congrArg _ (funext fun a => Fin.ext ?_)
  match a with
  | ⟨0, _⟩ => show win0_0.index t (0 : Fin 3) * 4 + 1 * j.val = b.val; rw [e, hb]; show t.val * 4 + _ = _; omega
  | ⟨1, _⟩ => show win0_0.index t (1 : Fin 3) * 1024 + 1 * k.val = k.val; rw [e]; show 0 * 1024 + _ = _; omega
  | ⟨2, _⟩ => show win0_0.index t (2 : Fin 3) * 400 + 1 * q.val = q.val; rw [e]; show 0 * 400 + _ = _; omega

/-- Each weight's block is its array. -/
theorem wholes0 (t : Fin cfg0.N) : iblk0 V c 1 t = V c main_v5 ∧ iblk0 V c 2 t = V c main_v7 ∧ iblk0 V c 3 t = V c main_v14
    ∧ iblk0 V c 4 t = V c main_v16 ∧ iblk0 V c 5 t = V c main_v10 ∧ iblk0 V c 6 t = V c main_v12 ∧ iblk0 V c 7 t = V c main_v19
    ∧ iblk0 V c 8 t = V c main_v20 ∧ iblk0 V c 9 t = V c main_v23 ∧ iblk0 V c 10 t = V c main_v24 := by
  obtain ⟨e1, e2, e3, e4, e5, e6, e7, e8, e9, e10⟩ := stays0 t
  exact ⟨funext fun y => congrArg (V c main_v5) (funext fun a => Fin.ext (win0_1.rect_emb_val_of_index_zero t a (e1 a) y)),
    funext fun y => congrArg (V c main_v7) (funext fun a => Fin.ext (win0_2.rect_emb_val_of_index_zero t a (e2 a) y)),
    funext fun y => congrArg (V c main_v14) (funext fun a => Fin.ext (win0_3.rect_emb_val_of_index_zero t a (e3 a) y)),
    funext fun y => congrArg (V c main_v16) (funext fun a => Fin.ext (win0_4.rect_emb_val_of_index_zero t a (e4 a) y)),
    funext fun y => congrArg (V c main_v10) (funext fun a => Fin.ext (win0_5.rect_emb_val_of_index_zero t a (e5 a) y)),
    funext fun y => congrArg (V c main_v12) (funext fun a => Fin.ext (win0_6.rect_emb_val_of_index_zero t a (e6 a) y)),
    funext fun y => congrArg (V c main_v19) (funext fun a => Fin.ext (win0_7.rect_emb_val_of_index_zero t a (e7 a) y)),
    funext fun y => congrArg (V c main_v20) (funext fun a => Fin.ext (win0_8.rect_emb_val_of_index_zero t a (e8 a) y)),
    funext fun y => congrArg (V c main_v23) (funext fun a => Fin.ext (win0_9.rect_emb_val_of_index_zero t a (e9 a) y)),
    funext fun y => congrArg (V c main_v24) (funext fun a => Fin.ext (win0_10.rect_emb_val_of_index_zero t a (e10 a) y))⟩

/-- Under the index `y` of the block at point `t` lies image `4 t + y 0`, the other coordinates the same. -/
theorem place0_11 (t : Fin cfg0.N) (y : (M3 4 80 400).Idx) (b : Fin 16) (hb : b.val = 4 * t.val + (y 0).val) :
    (win0_11.blk t).view.emb y = ix3 (n0 := 16) (n1 := 80) (n2 := 400) b (y 1) (y 2) := by
  obtain ⟨-, e, -⟩ := moves0 t
  refine funext fun a => Fin.ext ?_
  match a with
  | ⟨0, _⟩ => show win0_11.index t (0 : Fin 3) * 4 + 1 * (y 0).val = b.val; rw [e, hb]; show t.val * 4 + _ = _; omega
  | ⟨1, _⟩ => show win0_11.index t (1 : Fin 3) * 80 + 1 * (y 1).val = (y 1).val; rw [e]; show 0 * 80 + _ = _; omega
  | ⟨2, _⟩ => show win0_11.index t (2 : Fin 3) * 400 + 1 * (y 2).val = (y 2).val; rw [e]; show 0 * 400 + _ = _; omega

theorem place0_12 (t : Fin cfg0.N) (y : (M3 4 4 400).Idx) (b : Fin 16) (hb : b.val = 4 * t.val + (y 0).val) :
    (win0_12.blk t).view.emb y = ix3 (n0 := 16) (n1 := 4) (n2 := 400) b (y 1) (y 2) := by
  obtain ⟨-, -, e⟩ := moves0 t
  refine funext fun a => Fin.ext ?_
  match a with
  | ⟨0, _⟩ => show win0_12.index t (0 : Fin 3) * 4 + 1 * (y 0).val = b.val; rw [e, hb]; show t.val * 4 + _ = _; omega
  | ⟨1, _⟩ => show win0_12.index t (1 : Fin 3) * 4 + 1 * (y 1).val = (y 1).val; rw [e]; show 0 * 4 + _ = _; omega
  | ⟨2, _⟩ => show win0_12.index t (2 : Fin 3) * 400 + 1 * (y 2).val = (y 2).val; rw [e]; show 0 * 400 + _ = _; omega

/-- Image `j` of point `t`'s block. -/
def img0 (t : Fin cfg0.N) (j : Fin 4) : Fin 16 :=
  ⟨4 * t.val + j.val, by have : t.val < 4 := t.isLt; omega⟩

variable {p : Par 1024} (hp : p.Finite) {X : Fin 16 → Fin 1024 → Fin 20 → Fin 20 → EReal} (hX : ∀ b k h w, Fin' (X b k h w))
  (hf : ∀ b k h w, V c main_v0 (ix3 b k (pt hw0 h w)) = X b k h w)
  (hW : Wts p (V c main_v5) (V c main_v7) (V c main_v14) (V c main_v16) (V c main_v10) (V c main_v12) (V c main_v19) (V c main_v20)
    (V c main_v23) (V c main_v24))

include hp hX hf hW in
/-- The first array after the call: the scores. -/
theorem arr0_11 (b : Fin 16) (o : Fin 80) (q : Fin 400) :
    (dat0 V c).arrAt 11 cfg0.N (ix3 b o q) = scoreAt hw0 inv0 p (X b) o q := by
  refine (dat0 V c).arrAt_forall_of_covers 11 (fun (i : (M3 16 80 400).Idx) v => v = scoreAt hw0 inv0 p (X (i 0)) (i 1) (i 2))
    (by decide +kernel) (fun t _ (y : (M3 4 80 400).Idx) => ?_) (ix3 b o q)
  obtain ⟨w1, w2, w3, w4, w5, w6, w7, w8, w9, w10⟩ := wholes0 V c t
  have hy := place0_11 t y (img0 t (y 0)) rfl
  show (dat0 V c).after 11 t y = scoreAt hw0 inv0 p (X ((win0_11.blk t).view.emb y 0)) ((win0_11.blk t).view.emb y 1) ((win0_11.blk t).view.emb y 2)
  rw [hy, after0_11, w1, w2, w3, w4, w5, w6, w7, w8, w9, w10]
  exact (congrArg _ (eq_ix3 y)).trans (out0_11_at hp (fun j => hX (img0 t j)) (fun j k h w => (feats0 V c t j _ rfl k _).trans (hf _ k h w)) hW (y 0) (y 1) (y 2))

include hp hX hf hW in
/-- The second array after the call: the distances. -/
theorem arr0_12 (b : Fin 16) (o : Fin 4) (q : Fin 400) :
    (dat0 V c).arrAt 12 cfg0.N (ix3 b o q) = distAt hw0 inv0 p (X b) o q := by
  refine (dat0 V c).arrAt_forall_of_covers 12 (fun (i : (M3 16 4 400).Idx) v => v = distAt hw0 inv0 p (X (i 0)) (i 1) (i 2))
    (by decide +kernel) (fun t _ (y : (M3 4 4 400).Idx) => ?_) (ix3 b o q)
  obtain ⟨w1, w2, w3, w4, w5, w6, w7, w8, w9, w10⟩ := wholes0 V c t
  have hy := place0_12 t y (img0 t (y 0)) rfl
  show (dat0 V c).after 12 t y = distAt hw0 inv0 p (X ((win0_12.blk t).view.emb y 0)) ((win0_12.blk t).view.emb y 1) ((win0_12.blk t).view.emb y 2)
  rw [hy, after0_12, w1, w2, w3, w4, w5, w6, w7, w8, w9, w10]
  exact (congrArg _ (eq_ix3 y)).trans (out0_12_at hp (fun j => hX (img0 t j)) (fun j k h w => (feats0 V c t j _ rfl k _).trans (hf _ k h w)) hW (y 0) (y 1) (y 2))

end Cert.KernelIdeal.Gen

end
-- ==== Proof.Arr1.lean ====
/-
  What the second call's two output arrays hold: the head on every image of the batch, two images at each grid point.
-/
module

public import proofs.«01_k».proof.Proof.Out1
public import Idealize.ShloMosaic.Lib.Pipeline.ValueKit.Geometry

@[expose] public section

set_option maxRecDepth 65536

noncomputable section

namespace Cert.KernelIdeal.Gen

open Idealize.ShloMosaic Idealize.ShloMosaic.TcCoe Idealize.ShloMosaic.ValueIdx Idealize.SL.Sem Cert.Head

/-- At point `t` the features' and the outputs' block is the `t`-th along the batch; -/
theorem moves1 : ∀ t : Fin cfg1.N, win1_0.index t = ![t.val, 0, 0] ∧ win1_11.index t = ![t.val, 0, 0] ∧ win1_12.index t = ![t.val, 0, 0] :=
  (by decide +kernel : ∀ t : Fin grid1.N, _)
/-- a weight's block is the whole of it. -/
theorem stays1 : ∀ t : Fin cfg1.N, (∀ a, win1_1.index t a = 0) ∧ (∀ a, win1_2.index t a = 0) ∧ (∀ a, win1_3.index t a = 0)
    ∧ (∀ a, win1_4.index t a = 0) ∧ (∀ a, win1_5.index t a = 0) ∧ (∀ a, win1_6.index t a = 0) ∧ (∀ a, win1_7.index t a = 0)
    ∧ (∀ a, win1_8.index t a = 0) ∧ (∀ a, win1_9.index t a = 0) ∧ (∀ a, win1_10.index t a = 0) :=
  (by decide +kernel : ∀ t : Fin grid1.N, _)

variable (V : (c : Dev nD) → (b : Ref sig .tc) → Buf (Elt Ideal) ((c : Thread nD τ).loc b)) (c : Dev nD)

/-- Image `j` of the block at point `t` is image `2 t + j` of the batch. -/
theorem feats1 (t : Fin cfg1.N) (j : Fin 2) (b : Fin 16) (hb : b.val = 2 * t.val + j.val) (k : Fin 512) (q : Fin 1600) :
    iblk1 V c 0 t (ix3 j k q) = V c main_v26 (ix3 b k q) := by
  obtain ⟨e, -, -⟩ := moves1 t
  show V c main_v26 ((win1_0.blk t).view.emb (ix3 j k q)) = _
  refine congrArg _ (funext fun a => Fin.ext ?_)
  match a with
  | ⟨0, _⟩ => show win1_0.index t (0 : Fin 3) * 2 + 1 * j.val = b.val; rw [e, hb]; show t.val * 2 + _ = _; omega
  | ⟨1, _⟩ => show win1_0.index t (1 : Fin 3) * 512 + 1 * k.val = k.val; rw [e]; show 0 * 512 + _ = _; omega
  | ⟨2, _⟩ => show win1_0.index t (2 : Fin 3) * 1600 + 1 * q.val = q.val; rw [e]; show 0 * 1600 + _ = _; omega

/-- Each weight's block is its array. -/
theorem wholes1 (t : Fin cfg1.N) : iblk1 V c 1 t = V c main_v31 ∧ iblk1 V c 2 t = V c main_v33 ∧ iblk1 V c 3 t = V c main_v40
    ∧ iblk1 V c 4 t = V c main_v42 ∧ iblk1 V c 5 t = V c main_v36 ∧ iblk1 V c 6 t = V c main_v38 ∧ iblk1 V c 7 t = V c main_v45
    ∧ iblk1 V c 8 t = V c main_v46 ∧ iblk1 V c 9 t = V c main_v49 ∧ iblk1 V c 10 t = V c main_v50 := by
  obtain ⟨e1, e2, e3, e4, e5, e6, e7, e8, e9, e10⟩ := stays1 t
  exact ⟨funext fun y => congrArg (V c main_v31) (funext fun a => Fin.ext (win1_1.rect_emb_val_of_index_zero t a (e1 a) y)),
    funext fun y => congrArg (V c main_v33) (funext fun a => Fin.ext (win1_2.rect_emb_val_of_index_zero t a (e2 a) y)),
    funext fun y => congrArg (V c main_v40) (funext fun a => Fin.ext (win1_3.rect_emb_val_of_index_zero t a (e3 a) y)),
    funext fun y => congrArg (V c main_v42) (funext fun a => Fin.ext (win1_4.rect_emb_val_of_index_zero t a (e4 a) y)),
    funext fun y => congrArg (V c main_v36) (funext fun a => Fin.ext (win1_5.rect_emb_val_of_index_zero t a (e5 a) y)),
    funext fun y => congrArg (V c main_v38) (funext fun a => Fin.ext (win1_6.rect_emb_val_of_index_zero t a (e6 a) y)),
    funext fun y => congrArg (V c main_v45) (funext fun a => Fin.ext (win1_7.rect_emb_val_of_index_zero t a (e7 a) y)),
    funext fun y => congrArg (V c main_v46) (funext fun a => Fin.ext (win1_8.rect_emb_val_of_index_zero t a (e8 a) y)),
    funext fun y => congrArg (V c main_v49) (funext fun a => Fin.ext (win1_9.rect_emb_val_of_index_zero t a (e9 a) y)),
    funext fun y => congrArg (V c main_v50) (funext fun a => Fin.ext (win1_10.rect_emb_val_of_index_zero t a (e10 a) y))⟩

/-- Under the index `y` of the block at point `t` lies image `2 t + y 0`, the other coordinates the same. -/
theorem place1_11 (t : Fin cfg1.N) (y : (M3 2 80 1600).Idx) (b : Fin 16) (hb : b.val = 2 * t.val + (y 0).val) :
    (win1_11.blk t).view.emb y = ix3 (n0 := 16) (n1 := 80) (n2 := 1600) b (y 1) (y 2) := by
  obtain ⟨-, e, -⟩ := moves1 t
  refine funext fun a => Fin.ext ?_
  match a with
  | ⟨0, _⟩ => show win1_11.index t (0 : Fin 3) * 2 + 1 * (y 0).val = b.val; rw [e, hb]; show t.val * 2 + _ = _; omega
  | ⟨1, _⟩ => show win1_11.index t (1 : Fin 3) * 80 + 1 * (y 1).val = (y 1).val; rw [e]; show 0 * 80 + _ = _; omega
  | ⟨2, _⟩ => show win1_11.index t (2 : Fin 3) * 1600 + 1 * (y 2).val = (y 2).val; rw [e]; show 0 * 1600 + _ = _; omega

theorem place1_12 (t : Fin cfg1.N) (y : (M3 2 4 1600).Idx) (b : Fin 16) (hb : b.val = 2 * t.val + (y 0).val) :
    (win1_12.blk t).view.emb y = ix3 (n0 := 16) (n1 := 4) (n2 := 1600) b (y 1) (y 2) := by
  obtain ⟨-, -, e⟩ := moves1 t
  refine funext fun a => Fin.ext ?_
  match a with
  | ⟨0, _⟩ => show win1_12.index t (0 : Fin 3) * 2 + 1 * (y 0).val = b.val; rw [e, hb]; show t.val * 2 + _ = _; omega
  | ⟨1, _⟩ => show win1_12.index t (1 : Fin 3) * 4 + 1 * (y 1).val = (y 1).val; rw [e]; show 0 * 4 + _ = _; omega
  | ⟨2, _⟩ => show win1_12.index t (2 : Fin 3) * 1600 + 1 * (y 2).val = (y 2).val; rw [e]; show 0 * 1600 + _ = _; omega

/-- Image `j` of point `t`'s block. -/
def img1 (t : Fin cfg1.N) (j : Fin 2) : Fin 16 :=
  ⟨2 * t.val + j.val, by have : t.val < 8 := t.isLt; omega⟩

variable {p : Par 512} (hp : p.Finite) {X : Fin 16 → Fin 512 → Fin 40 → Fin 40 → EReal} (hX : ∀ b k h w, Fin' (X b k h w))
  (hf : ∀ b k h w, V c main_v26 (ix3 b k (pt hw1 h w)) = X b k h w)
  (hW : Wts p (V c main_v31) (V c main_v33) (V c main_v40) (V c main_v42) (V c main_v36) (V c main_v38) (V c main_v45) (V c main_v46)
    (V c main_v49) (V c main_v50))

include hp hX hf hW in
/-- The first array after the call: the scores. -/
theorem arr1_11 (b : Fin 16) (o : Fin 80) (q : Fin 1600) :
    (dat1 V c).arrAt 11 cfg1.N (ix3 b o q) = scoreAt hw1 inv1 p (X b) o q := by
  refine (dat1 V c).arrAt_forall_of_covers 11 (fun (i : (M3 16 80 1600).Idx) v => v = scoreAt hw1 inv1 p (X (i 0)) (i 1) (i 2))
    (by decide +kernel) (fun t _ (y : (M3 2 80 1600).Idx) => ?_) (ix3 b o q)
  obtain ⟨w1, w2, w3, w4, w5, w6, w7, w8, w9, w10⟩ := wholes1 V c t
  have hy := place1_11 t y (img1 t (y 0)) rfl
  show (dat1 V c).after 11 t y = scoreAt hw1 inv1 p (X ((win1_11.blk t).view.emb y 0)) ((win1_11.blk t).view.emb y 1) ((win1_11.blk t).view.emb y 2)
  rw [hy, after1_11, w1, w2, w3, w4, w5, w6, w7, w8, w9, w10]
  exact (congrArg _ (eq_ix3 y)).trans (out1_11_at hp (fun j => hX (img1 t j)) (fun j k h w => (feats1 V c t j _ rfl k _).trans (hf _ k h w)) hW (y 0) (y 1) (y 2))

include hp hX hf hW in
/-- The second array after the call: the distances. -/
theorem arr1_12 (b : Fin 16) (o : Fin 4) (q : Fin 1600) :
    (dat1 V c).arrAt 12 cfg1.N (ix3 b o q) = distAt hw1 inv1 p (X b) o q := by
  refine (dat1 V c).arrAt_forall_of_covers 12 (fun (i : (M3 16 4 1600).Idx) v => v = distAt hw1 inv1 p (X (i 0)) (i 1) (i 2))
    (by decide +kernel) (fun t _ (y : (M3 2 4 1600).Idx) => ?_) (ix3 b o q)
  obtain ⟨w1, w2, w3, w4, w5, w6, w7, w8, w9, w10⟩ := wholes1 V c t
  have hy := place1_12 t y (img1 t (y 0)) rfl
  show (dat1 V c).after 12 t y = distAt hw1 inv1 p (X ((win1_12.blk t).view.emb y 0)) ((win1_12.blk t).view.emb y 1) ((win1_12.blk t).view.emb y 2)
  rw [hy, after1_12, w1, w2, w3, w4, w5, w6, w7, w8, w9, w10]
  exact (congrArg _ (eq_ix3 y)).trans (out1_12_at hp (fun j => hX (img1 t j)) (fun j k h w => (feats1 V c t j _ rfl k _).trans (hf _ k h w)) hW (y 0) (y 1) (y 2))

end Cert.KernelIdeal.Gen

end
-- ==== Proof.Arr2.lean ====
/-
  What the third call's two output arrays hold: of every image, the two carried scales' lanes and the head on the third
  scale, side by side. One image at each grid point.
-/
module

public import proofs.«01_k».proof.Proof.Out2
public import Idealize.ShloMosaic.Lib.Pipeline.ValueKit.Geometry

@[expose] public section

set_option maxRecDepth 65536

noncomputable section

namespace Cert.KernelIdeal.Gen

open Idealize.ShloMosaic Idealize.ShloMosaic.TcCoe Idealize.ShloMosaic.ValueIdx Idealize.SL.Sem Cert.Head

/-- At point `t` the features', the carried arrays' and the outputs' block is image `t`; -/
theorem moves2 : ∀ t : Fin cfg2.N, win2_0.index t = ![t.val, 0, 0] ∧ win2_11.index t = ![t.val, 0, 0] ∧ win2_12.index t = ![t.val, 0, 0]
    ∧ win2_13.index t = ![t.val, 0, 0] ∧ win2_14.index t = ![t.val, 0, 0] ∧ win2_15.index t = ![t.val, 0, 0] ∧ win2_16.index t = ![t.val, 0, 0] :=
  (by decide +kernel : ∀ t : Fin grid2.N, _)
/-- a weight's block is the whole of it. -/
theorem stays2 : ∀ t : Fin cfg2.N, (∀ a, win2_1.index t a = 0) ∧ (∀ a, win2_2.index t a = 0) ∧ (∀ a, win2_3.index t a = 0)
    ∧ (∀ a, win2_4.index t a = 0) ∧ (∀ a, win2_5.index t a = 0) ∧ (∀ a, win2_6.index t a = 0) ∧ (∀ a, win2_7.index t a = 0)
    ∧ (∀ a, win2_8.index t a = 0) ∧ (∀ a, win2_9.index t a = 0) ∧ (∀ a, win2_10.index t a = 0) :=
  (by decide +kernel : ∀ t : Fin grid2.N, _)

/-- An index of image `t` of an array of images, one image to a block. -/
theorem image_at {n a b : ℕ} {f : Fin 3 → ℕ} {t : ℕ} (e : f = ![t, 0, 0]) (i : Fin n) (hi : i.val = t) (y : (M3 1 a b).Idx) (z : (M3 n a b).Idx)
    (hz : ∀ ax, (z ax).val = f ax * (M3 1 a b).size ax + (y ax).val) : z = ix3 i (y 1) (y 2) := by
  subst e
  refine funext fun ax => Fin.ext ((hz ax).trans ?_)
  match ax with
  | ⟨0, _⟩ => have h : (y 0).val < 1 := (y 0).isLt; show t * 1 + (y 0).val = i.val; omega
  | ⟨1, _⟩ => show 0 * a + (y 1).val = (y 1).val; omega
  | ⟨2, _⟩ => show 0 * b + (y 2).val = (y 2).val; omega

variable (V : (c : Dev nD) → (b : Ref sig .tc) → Buf (Elt Ideal) ((c : Thread nD τ).loc b)) (c : Dev nD)

/-- The image of point `t`. -/
def img2 (t : Fin cfg2.N) : Fin 16 := ⟨t.val, t.isLt⟩

/-- The features' block at point `t` is image `t`; -/
theorem feats2 (t : Fin cfg2.N) (k : Fin 256) (q : Fin 6400) : iblk2 V c 0 t (ix3 (0 : Fin 1) k q) = V c main_v52 (ix3 (img2 t) k q) :=
  congrArg (V c main_v52) (image_at (moves2 t).1 (img2 t) rfl (ix3 0 k q) _ fun ax => win2_0.rect_emb_val t (ix3 (0 : Fin 1) k q) ax)
/-- so are the carried arrays'. -/
theorem carry2_11 (t : Fin cfg2.N) (o : Fin 80) (q : Fin 400) : iblk2 V c 11 t (ix3 (0 : Fin 1) o q) = V c main_v25_0 (ix3 (img2 t) o q) :=
  congrArg (V c main_v25_0) (image_at (moves2 t).2.1 (img2 t) rfl (ix3 0 o q) _ fun ax => win2_11.rect_emb_val t (ix3 (0 : Fin 1) o q) ax)
theorem carry2_12 (t : Fin cfg2.N) (o : Fin 4) (q : Fin 400) : iblk2 V c 12 t (ix3 (0 : Fin 1) o q) = V c main_v25_1 (ix3 (img2 t) o q) :=
  congrArg (V c main_v25_1) (image_at (moves2 t).2.2.1 (img2 t) rfl (ix3 0 o q) _ fun ax => win2_12.rect_emb_val t (ix3 (0 : Fin 1) o q) ax)
theorem carry2_13 (t : Fin cfg2.N) (o : Fin 80) (q : Fin 1600) : iblk2 V c 13 t (ix3 (0 : Fin 1) o q) = V c main_v51_0 (ix3 (img2 t) o q) :=
  congrArg (V c main_v51_0) (image_at (moves2 t).2.2.2.1 (img2 t) rfl (ix3 0 o q) _ fun ax => win2_13.rect_emb_val t (ix3 (0 : Fin 1) o q) ax)
theorem carry2_14 (t : Fin cfg2.N) (o : Fin 4) (q : Fin 1600) : iblk2 V c 14 t (ix3 (0 : Fin 1) o q) = V c main_v51_1 (ix3 (img2 t) o q) :=
  congrArg (V c main_v51_1) (image_at (moves2 t).2.2.2.2.1 (img2 t) rfl (ix3 0 o q) _ fun ax => win2_14.rect_emb_val t (ix3 (0 : Fin 1) o q) ax)

/-- Each weight's block is its array. -/
theorem wholes2 (t : Fin cfg2.N) : iblk2 V c 1 t = V c main_v57 ∧ iblk2 V c 2 t = V c main_v59 ∧ iblk2 V c 3 t = V c main_v66
    ∧ iblk2 V c 4 t = V c main_v68 ∧ iblk2 V c 5 t = V c main_v62 ∧ iblk2 V c 6 t = V c main_v64 ∧ iblk2 V c 7 t = V c main_v71
    ∧ iblk2 V c 8 t = V c main_v72 ∧ iblk2 V c 9 t = V c main_v75 ∧ iblk2 V c 10 t = V c main_v76 := by
  obtain ⟨e1, e2, e3, e4, e5, e6, e7, e8, e9, e10⟩ := stays2 t
  exact ⟨funext fun y => congrArg (V c main_v57) (funext fun a => Fin.ext (win2_1.rect_emb_val_of_index_zero t a (e1 a) y)),
    funext fun y => congrArg (V c main_v59) (funext fun a => Fin.ext (win2_2.rect_emb_val_of_index_zero t a (e2 a) y)),
    funext fun y => congrArg (V c main_v66) (funext fun a => Fin.ext (win2_3.rect_emb_val_of_index_zero t a (e3 a) y)),
    funext fun y => congrArg (V c main_v68) (funext fun a => Fin.ext (win2_4.rect_emb_val_of_index_zero t a (e4 a) y)),
    funext fun y => congrArg (V c main_v62) (funext fun a => Fin.ext (win2_5.rect_emb_val_of_index_zero t a (e5 a) y)),
    funext fun y => congrArg (V c main_v64) (funext fun a => Fin.ext (win2_6.rect_emb_val_of_index_zero t a (e6 a) y)),
    funext fun y => congrArg (V c main_v71) (funext fun a => Fin.ext (win2_7.rect_emb_val_of_index_zero t a (e7 a) y)),
    funext fun y => congrArg (V c main_v72) (funext fun a => Fin.ext (win2_8.rect_emb_val_of_index_zero t a (e8 a) y)),
    funext fun y => congrArg (V c main_v75) (funext fun a => Fin.ext (win2_9.rect_emb_val_of_index_zero t a (e9 a) y)),
    funext fun y => congrArg (V c main_v76) (funext fun a => Fin.ext (win2_10.rect_emb_val_of_index_zero t a (e10 a) y))⟩

variable {p : Par 256} (hp : p.Finite) {X : Fin 16 → Fin 256 → Fin 80 → Fin 80 → EReal} (hX : ∀ b k h w, Fin' (X b k h w))
  (hf : ∀ b k h w, V c main_v52 (ix3 b k (pt hw2 h w)) = X b k h w)
  (hW : Wts p (V c main_v57) (V c main_v59) (V c main_v66) (V c main_v68) (V c main_v62) (V c main_v64) (V c main_v71) (V c main_v72)
    (V c main_v75) (V c main_v76))

include hW in
/-- The weights' blocks are the parameters. -/
theorem wts2 (t : Fin cfg2.N) : Wts p (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) := by
  obtain ⟨w1, w2, w3, w4, w5, w6, w7, w8, w9, w10⟩ := wholes2 V c t
  rw [w1, w2, w3, w4, w5, w6, w7, w8, w9, w10]
  exact hW

include hp hX hf hW in
/-- What the body leaves in the first output's block at point `t`. -/
theorem outs2_15 (t : Fin cfg2.N) (o : Fin 80) (q : Fin 8400) : (outsAt2 V c t).1 (ix3 (0 : Fin 1) o q)
    = join3 (fun l => V c main_v25_0 (ix3 (img2 t) o l)) (fun l => V c main_v51_0 (ix3 (img2 t) o l)) (scoreAt hw2 inv2 p (X (img2 t)) o) q := by
  have h1 : (fun l => V c main_v25_0 (ix3 (img2 t) o l)) = fun l => iblk2 V c 11 t (ix3 (0 : Fin 1) o l) :=
    funext fun l => (carry2_11 V c t o l).symm
  have h2 : (fun l => V c main_v51_0 (ix3 (img2 t) o l)) = fun l => iblk2 V c 13 t (ix3 (0 : Fin 1) o l) :=
    funext fun l => (carry2_13 V c t o l).symm
  rw [h1, h2]
  have := out2_15_at c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) hp (hX (img2 t)) (fun k h w => (feats2 V c t k _).trans (hf _ k h w)) (wts2 V c hW t) o q
  unfold outsAt2
  dsimp only
  exact this

include hp hX hf hW in
/-- What the body leaves in the second output's block at point `t`. -/
theorem outs2_16 (t : Fin cfg2.N) (o : Fin 4) (q : Fin 8400) : (outsAt2 V c t).2 (ix3 (0 : Fin 1) o q)
    = join3 (fun l => V c main_v25_1 (ix3 (img2 t) o l)) (fun l => V c main_v51_1 (ix3 (img2 t) o l)) (distAt hw2 inv2 p (X (img2 t)) o) q := by
  have h1 : (fun l => V c main_v25_1 (ix3 (img2 t) o l)) = fun l => iblk2 V c 12 t (ix3 (0 : Fin 1) o l) :=
    funext fun l => (carry2_12 V c t o l).symm
  have h2 : (fun l => V c main_v51_1 (ix3 (img2 t) o l)) = fun l => iblk2 V c 14 t (ix3 (0 : Fin 1) o l) :=
    funext fun l => (carry2_14 V c t o l).symm
  rw [h1, h2]
  have := out2_16_at c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) hp (hX (img2 t)) (fun k h w => (feats2 V c t k _).trans (hf _ k h w)) (wts2 V c hW t) o q
  unfold outsAt2
  dsimp only
  exact this

include hp hX hf hW in
/-- The first array after the call: the scores of the three scales. -/
theorem arr2_15 (b : Fin 16) (o : Fin 80) (q : Fin 8400) : (dat2 V c).arrAt 15 cfg2.N (ix3 b o q)
    = join3 (fun l => V c main_v25_0 (ix3 b o l)) (fun l => V c main_v51_0 (ix3 b o l)) (scoreAt hw2 inv2 p (X b) o) q := by
  refine (dat2 V c).arrAt_forall_of_covers 15 (fun (i : (M3 16 80 8400).Idx) v => v = join3 (fun l => V c main_v25_0 (ix3 (i 0) (i 1) l))
      (fun l => V c main_v51_0 (ix3 (i 0) (i 1) l)) (scoreAt hw2 inv2 p (X (i 0)) (i 1)) (i 2))
    (by decide +kernel) (fun t _ (y : (M3 1 80 8400).Idx) => ?_) (ix3 b o q)
  have hy : (win2_15.blk t).view.emb y = ix3 (n0 := 16) (n1 := 80) (n2 := 8400) (img2 t) (y 1) (y 2) :=
    image_at (moves2 t).2.2.2.2.2.1 (img2 t) rfl y _ fun ax => win2_15.rect_emb_val t y ax
  have h0 : y = ix3 (0 : Fin 1) (y 1) (y 2) := (eq_ix3 y).trans (congrArg (fun u : Fin 1 => ix3 u (y 1) (y 2)) (Subsingleton.elim (α := Fin 1) _ _))
  show (dat2 V c).after 15 t y = (fun (i : (M3 16 80 8400).Idx) => join3 (fun l => V c main_v25_0 (ix3 (i 0) (i 1) l))
      (fun l => V c main_v51_0 (ix3 (i 0) (i 1) l)) (scoreAt hw2 inv2 p (X (i 0)) (i 1)) (i 2)) ((win2_15.blk t).view.emb y)
  rw [hy, after2_15]
  exact (congrArg (outsAt2 V c t).1 h0).trans (outs2_15 V c hp hX hf hW t (y 1) (y 2))

include hp hX hf hW in
/-- The second array after the call: the distances of the three scales. -/
theorem arr2_16 (b : Fin 16) (o : Fin 4) (q : Fin 8400) : (dat2 V c).arrAt 16 cfg2.N (ix3 b o q)
    = join3 (fun l => V c main_v25_1 (ix3 b o l)) (fun l => V c main_v51_1 (ix3 b o l)) (distAt hw2 inv2 p (X b) o) q := by
  refine (dat2 V c).arrAt_forall_of_covers 16 (fun (i : (M3 16 4 8400).Idx) v => v = join3 (fun l => V c main_v25_1 (ix3 (i 0) (i 1) l))
      (fun l => V c main_v51_1 (ix3 (i 0) (i 1) l)) (distAt hw2 inv2 p (X (i 0)) (i 1)) (i 2))
    (by decide +kernel) (fun t _ (y : (M3 1 4 8400).Idx) => ?_) (ix3 b o q)
  have hy : (win2_16.blk t).view.emb y = ix3 (n0 := 16) (n1 := 4) (n2 := 8400) (img2 t) (y 1) (y 2) :=
    image_at (moves2 t).2.2.2.2.2.2 (img2 t) rfl y _ fun ax => win2_16.rect_emb_val t y ax
  have h0 : y = ix3 (0 : Fin 1) (y 1) (y 2) := (eq_ix3 y).trans (congrArg (fun u : Fin 1 => ix3 u (y 1) (y 2)) (Subsingleton.elim (α := Fin 1) _ _))
  show (dat2 V c).after 16 t y = (fun (i : (M3 16 4 8400).Idx) => join3 (fun l => V c main_v25_1 (ix3 (i 0) (i 1) l))
      (fun l => V c main_v51_1 (ix3 (i 0) (i 1) l)) (distAt hw2 inv2 p (X (i 0)) (i 1)) (i 2)) ((win2_16.blk t).view.emb y)
  rw [hy, after2_16]
  exact (congrArg (outsAt2 V c t).2 h0).trans (outs2_16 V c hp hX hf hW t (y 1) (y 2))

end Cert.KernelIdeal.Gen

end
-- ==== Proof.Result.lean ====
/-
  What the kernel's two computed results hold at the end: at image `b`, channel `o` and lane `q`, the head on the scale
  that the lane belongs to, of the arguments as launched.
-/
module

public import proofs.«01_k».proof.Proof.Entry
public import proofs.«01_k».proof.Proof.Arr0
public import proofs.«01_k».proof.Proof.Arr1
public import proofs.«01_k».proof.Proof.Arr2

@[expose] public section

set_option maxRecDepth 65536

noncomputable section

namespace Cert.KernelIdeal.Gen

open Idealize.ShloMosaic Idealize.ShloMosaic.TcCoe Idealize.ShloMosaic.ValueIdx Idealize.SL.Sem Cert.Head

/-- The parameters and the images depend on the arguments alone. -/
theorem par0_congr {U U' : Valuation τ sig (Elt Ideal)} (h : ∀ a ∈ argRefs, U (Proc.devRef .tc a) = U' (Proc.devRef .tc a)) : par0 U = par0 U' := by
  unfold par0
  rw [h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide), h main_arg14 (by decide), h main_arg15 (by decide), h main_arg16 (by decide)]
theorem imga_congr {U U' : Valuation τ sig (Elt Ideal)} (h : ∀ a ∈ argRefs, U (Proc.devRef .tc a) = U' (Proc.devRef .tc a)) : imga U = imga U' := by
  unfold imga
  rw [h main_arg0 (by decide)]

/-- The parameters and the images depend on the arguments alone. -/
theorem par1_congr {U U' : Valuation τ sig (Elt Ideal)} (h : ∀ a ∈ argRefs, U (Proc.devRef .tc a) = U' (Proc.devRef .tc a)) : par1 U = par1 U' := by
  unfold par1
  rw [h main_arg17 (by decide), h main_arg18 (by decide), h main_arg19 (by decide), h main_arg20 (by decide), h main_arg21 (by decide), h main_arg22 (by decide), h main_arg23 (by decide), h main_arg24 (by decide), h main_arg25 (by decide), h main_arg26 (by decide), h main_arg27 (by decide), h main_arg28 (by decide), h main_arg29 (by decide), h main_arg30 (by decide)]
theorem imgb_congr {U U' : Valuation τ sig (Elt Ideal)} (h : ∀ a ∈ argRefs, U (Proc.devRef .tc a) = U' (Proc.devRef .tc a)) : imgb U = imgb U' := by
  unfold imgb
  rw [h main_arg1 (by decide)]

/-- The parameters and the images depend on the arguments alone. -/
theorem par2_congr {U U' : Valuation τ sig (Elt Ideal)} (h : ∀ a ∈ argRefs, U (Proc.devRef .tc a) = U' (Proc.devRef .tc a)) : par2 U = par2 U' := by
  unfold par2
  rw [h main_arg31 (by decide), h main_arg32 (by decide), h main_arg33 (by decide), h main_arg34 (by decide), h main_arg35 (by decide), h main_arg36 (by decide), h main_arg37 (by decide), h main_arg38 (by decide), h main_arg39 (by decide), h main_arg40 (by decide), h main_arg41 (by decide), h main_arg42 (by decide), h main_arg43 (by decide), h main_arg44 (by decide)]
theorem imgc_congr {U U' : Valuation τ sig (Elt Ideal)} (h : ∀ a ∈ argRefs, U (Proc.devRef .tc a) = U' (Proc.devRef .tc a)) : imgc U = imgc U' := by
  unfold imgc
  rw [h main_arg2 (by decide)]

variable (m : (ℓ : Loc nD τ sig) → Buf (Elt Ideal) ℓ) (ρ : Dev nD → PrngReg) (c : Dev nD)

/-- What the certificate asks of the arguments `U`: the images, the channel products and their scales finite. -/
structure FiniteArgs (U : Valuation τ sig (Elt Ideal)) : Prop where
  p0 : (par0 U).Finite
  p1 : (par1 U).Finite
  p2 : (par2 U).Finite
  x0 : ∀ b k h w, Fin' (imga U b k h w)
  x1 : ∀ b k h w, Fin' (imgb U b k h w)
  x2 : ∀ b k h w, Fin' (imgc U b k h w)

/-- The contents at launch. -/
abbrev U0 : Valuation τ sig (Elt Ideal) := W0 m ρ c

theorem args2 : ∀ a ∈ argRefs, W2 m ρ c (Proc.devRef .tc a) = W0 m ρ c (Proc.devRef .tc a) := fun a ha =>
  (W2_args m ρ c a ha).trans (W0_args m ρ c a ha).symm
theorem args4 : ∀ a ∈ argRefs, W4 m ρ c (Proc.devRef .tc a) = W0 m ρ c (Proc.devRef .tc a) := fun a ha =>
  (W4_args m ρ c a ha).trans (W0_args m ρ c a ha).symm

variable (hU : FiniteArgs (U0 m ρ c))

include hU in
/-- The first scale's lanes as the third call finds them. -/
theorem first_11 (b : Fin 16) (o : Fin 80) (q : Fin 400) :
    V5 m ρ c main_v25_0 (ix3 b o q) = scoreAt hw0 inv0 (par0 (U0 m ρ c)) (imga (U0 m ρ c) b) o q := by
  have e : V5 m ρ c main_v25_0 = (dat0 (V1 m ρ) c).arrAt 11 cfg0.N :=
    (W5_of m ρ c main_v25_0 (by decide)).trans ((W4_of m ρ c main_v25_0 (by decide +kernel)).trans
      ((W3_of m ρ c main_v25_0 (by decide)).trans (W2_arr m ρ c 11)))
  rw [e]
  exact arr0_11 (V1 m ρ) c hU.p0 hU.x0 (image0 (W0 m ρ c)) (pack0 (W0 m ρ c)) b o q

include hU in
/-- The second scale's lanes as the third call finds them. -/
theorem second_11 (b : Fin 16) (o : Fin 80) (q : Fin 1600) :
    V5 m ρ c main_v51_0 (ix3 b o q) = scoreAt hw1 inv1 (par1 (U0 m ρ c)) (imgb (U0 m ρ c) b) o q := by
  have e : V5 m ρ c main_v51_0 = (dat1 (V3 m ρ) c).arrAt 11 cfg1.N :=
    (W5_of m ρ c main_v51_0 (by decide)).trans (W4_arr m ρ c 11)
  have hp := par1_congr (args2 m ρ c)
  have hx := imgb_congr (args2 m ρ c)
  have p1 : (par1 (W2 m ρ c)).Finite := by rw [hp]; exact hU.p1
  have x1 : ∀ b k h w, Fin' (imgb (W2 m ρ c) b k h w) := by rw [hx]; exact hU.x1
  rw [e, ← hp, ← hx]
  exact arr1_11 (V3 m ρ) c p1 x1 (image1 (W2 m ρ c)) (pack1 (W2 m ρ c)) b o q

include hU in
/-- The result: the three scales' lanes side by side. -/
theorem result_11 (b : Fin 16) (o : Fin 80) (q : Fin 8400) : W7 m ρ c (Proc.devRef .tc main_v77_0) (ix3 b o q)
    = join3 (scoreAt hw0 inv0 (par0 (U0 m ρ c)) (imga (U0 m ρ c) b) o) (scoreAt hw1 inv1 (par1 (U0 m ρ c)) (imgb (U0 m ρ c) b) o)
        (scoreAt hw2 inv2 (par2 (U0 m ρ c)) (imgc (U0 m ρ c) b) o) q := by
  have e : W7 m ρ c (Proc.devRef .tc main_v77_0) = (dat2 (V5 m ρ) c).arrAt 15 cfg2.N :=
    (W7_of m ρ c main_v77_0 (by decide)).trans (W6_arr m ρ c 15)
  have hp := par2_congr (args4 m ρ c)
  have hx := imgc_congr (args4 m ρ c)
  have h1 : (fun l => V5 m ρ c main_v25_0 (ix3 b o l)) = scoreAt hw0 inv0 (par0 (U0 m ρ c)) (imga (U0 m ρ c) b) o := funext (first_11 m ρ c hU b o)
  have h2 : (fun l => V5 m ρ c main_v51_0 (ix3 b o l)) = scoreAt hw1 inv1 (par1 (U0 m ρ c)) (imgb (U0 m ρ c) b) o := funext (second_11 m ρ c hU b o)
  have p2 : (par2 (W4 m ρ c)).Finite := by rw [hp]; exact hU.p2
  have x2 : ∀ b k h w, Fin' (imgc (W4 m ρ c) b k h w) := by rw [hx]; exact hU.x2
  rw [e, ← h1, ← h2, ← hp, ← hx]
  exact arr2_15 (V5 m ρ) c p2 x2 (image2 (W4 m ρ c)) (pack2 (W4 m ρ c)) b o q

include hU in
/-- The first scale's lanes as the third call finds them. -/
theorem first_12 (b : Fin 16) (o : Fin 4) (q : Fin 400) :
    V5 m ρ c main_v25_1 (ix3 b o q) = distAt hw0 inv0 (par0 (U0 m ρ c)) (imga (U0 m ρ c) b) o q := by
  have e : V5 m ρ c main_v25_1 = (dat0 (V1 m ρ) c).arrAt 12 cfg0.N :=
    (W5_of m ρ c main_v25_1 (by decide)).trans ((W4_of m ρ c main_v25_1 (by decide +kernel)).trans
      ((W3_of m ρ c main_v25_1 (by decide)).trans (W2_arr m ρ c 12)))
  rw [e]
  exact arr0_12 (V1 m ρ) c hU.p0 hU.x0 (image0 (W0 m ρ c)) (pack0 (W0 m ρ c)) b o q

include hU in
/-- The second scale's lanes as the third call finds them. -/
theorem second_12 (b : Fin 16) (o : Fin 4) (q : Fin 1600) :
    V5 m ρ c main_v51_1 (ix3 b o q) = distAt hw1 inv1 (par1 (U0 m ρ c)) (imgb (U0 m ρ c) b) o q := by
  have e : V5 m ρ c main_v51_1 = (dat1 (V3 m ρ) c).arrAt 12 cfg1.N :=
    (W5_of m ρ c main_v51_1 (by decide)).trans (W4_arr m ρ c 12)
  have hp := par1_congr (args2 m ρ c)
  have hx := imgb_congr (args2 m ρ c)
  have p1 : (par1 (W2 m ρ c)).Finite := by rw [hp]; exact hU.p1
  have x1 : ∀ b k h w, Fin' (imgb (W2 m ρ c) b k h w) := by rw [hx]; exact hU.x1
  rw [e, ← hp, ← hx]
  exact arr1_12 (V3 m ρ) c p1 x1 (image1 (W2 m ρ c)) (pack1 (W2 m ρ c)) b o q

include hU in
/-- The result: the three scales' lanes side by side. -/
theorem result_12 (b : Fin 16) (o : Fin 4) (q : Fin 8400) : W7 m ρ c (Proc.devRef .tc main_v77_1) (ix3 b o q)
    = join3 (distAt hw0 inv0 (par0 (U0 m ρ c)) (imga (U0 m ρ c) b) o) (distAt hw1 inv1 (par1 (U0 m ρ c)) (imgb (U0 m ρ c) b) o)
        (distAt hw2 inv2 (par2 (U0 m ρ c)) (imgc (U0 m ρ c) b) o) q := by
  have e : W7 m ρ c (Proc.devRef .tc main_v77_1) = (dat2 (V5 m ρ) c).arrAt 16 cfg2.N :=
    (W7_of m ρ c main_v77_1 (by decide)).trans (W6_arr m ρ c 16)
  have hp := par2_congr (args4 m ρ c)
  have hx := imgc_congr (args4 m ρ c)
  have h1 : (fun l => V5 m ρ c main_v25_1 (ix3 b o l)) = distAt hw0 inv0 (par0 (U0 m ρ c)) (imga (U0 m ρ c) b) o := funext (first_12 m ρ c hU b o)
  have h2 : (fun l => V5 m ρ c main_v51_1 (ix3 b o l)) = distAt hw1 inv1 (par1 (U0 m ρ c)) (imgb (U0 m ρ c) b) o := funext (second_12 m ρ c hU b o)
  have p2 : (par2 (W4 m ρ c)).Finite := by rw [hp]; exact hU.p2
  have x2 : ∀ b k h w, Fin' (imgc (W4 m ρ c) b k h w) := by rw [hx]; exact hU.x2
  rw [e, ← h1, ← h2, ← hp, ← hx]
  exact arr2_16 (V5 m ρ) c p2 x2 (image2 (W4 m ρ c)) (pack2 (W4 m ρ c)) b o q

end Cert.KernelIdeal.Gen

end
-- ==== Proof.RefOps.lean ====
/-
  The reference's array operations read at an entry, at any extents: the two sums over an image, the products that
  contract the channels, the border of zeros, the vectors broadcast over the other axes.
-/
module

public import proofs.«01_k».proof.Proof.Host
public import Idealize.ShloMosaic.Lib.IdealHost

@[expose] public section

set_option maxRecDepth 16384

noncomputable section

namespace Cert.Head

open Idealize.ShloMosaic Idealize.ShloMosaic.ValueIdx

variable {α : Type} {B C H W M L K : ℕ}

/-! ## Vectors broadcast -/

/-- A vector of channels over the images and the points. -/
theorem chan4 (v : (M1 C).Idx → α) (h1 : (M1 C).BroadcastsInDim (M4 1 C 1 1) ![1]) (h2 : (M4 1 C 1 1).BroadcastsInDim (M4 B C H W) ![0, 1, 2, 3])
    (b : Fin B) (c : Fin C) (i : Fin H) (j : Fin W) :
    broadcastInDim (M4 B C H W) ![0, 1, 2, 3] h2 (broadcastInDim (M4 1 C 1 1) ![1] h1 v) (ix4 b c i j) = v (ix1 c) := by
  refine (broadcastInDim_apply _ h2 _ (ix4 b c i j) (ix4 0 c 0 0) fun ax => ?_).trans (broadcastInDim_apply _ h1 v (ix4 0 c 0 0) (ix1 c) fun ax => ?_)
  · match ax with
    | ⟨0, _⟩ => rfl
    | ⟨1, _⟩ =>
      show c.val = if C = 1 then 0 else c.val
      split
      · have := c.isLt; omega
      · rfl
    | ⟨2, _⟩ => rfl
    | ⟨3, _⟩ => rfl
  · match ax with
    | ⟨0, _⟩ =>
      show c.val = if C = 1 then 0 else c.val
      split
      · have := c.isLt; omega
      · rfl

/-- A vector of channels over the images. -/
theorem chan2 (v : (M1 C).Idx → α) (h1 : (M1 C).BroadcastsInDim (M2 1 C) ![1]) (h2 : (M2 1 C).BroadcastsInDim (M2 B C) ![0, 1]) (b : Fin B) (c : Fin C) :
    broadcastInDim (M2 B C) ![0, 1] h2 (broadcastInDim (M2 1 C) ![1] h1 v) (ix2 b c) = v (ix1 c) := by
  refine (broadcastInDim_apply _ h2 _ (ix2 b c) (ix2 0 c) fun ax => ?_).trans (broadcastInDim_apply _ h1 v (ix2 0 c) (ix1 c) fun ax => ?_)
  · match ax with
    | ⟨0, _⟩ => rfl
    | ⟨1, _⟩ =>
      show c.val = if C = 1 then 0 else c.val
      split
      · have := c.isLt; omega
      · rfl
  · match ax with
    | ⟨0, _⟩ =>
      show c.val = if C = 1 then 0 else c.val
      split
      · have := c.isLt; omega
      · rfl

/-- A channel's value over the points of its image. -/
theorem points4 (v : (M2 B C).Idx → α) (h1 : (M2 B C).BroadcastsInDim (M4 B C 1 1) ![0, 1]) (h2 : (M4 B C 1 1).BroadcastsInDim (M4 B C H W) ![0, 1, 2, 3])
    (b : Fin B) (c : Fin C) (i : Fin H) (j : Fin W) :
    broadcastInDim (M4 B C H W) ![0, 1, 2, 3] h2 (broadcastInDim (M4 B C 1 1) ![0, 1] h1 v) (ix4 b c i j) = v (ix2 b c) := by
  refine (broadcastInDim_apply _ h2 _ (ix4 b c i j) (ix4 b c 0 0) fun ax => ?_).trans (broadcastInDim_apply _ h1 v (ix4 b c 0 0) (ix2 b c) fun ax => ?_)
  · match ax with
    | ⟨0, _⟩ =>
      show b.val = if B = 1 then 0 else b.val
      split
      · have := b.isLt; omega
      · rfl
    | ⟨1, _⟩ =>
      show c.val = if C = 1 then 0 else c.val
      split
      · have := c.isLt; omega
      · rfl
    | ⟨2, _⟩ => rfl
    | ⟨3, _⟩ => rfl
  · match ax with
    | ⟨0, _⟩ =>
      show b.val = if B = 1 then 0 else b.val
      split
      · have := b.isLt; omega
      · rfl
    | ⟨1, _⟩ =>
      show c.val = if C = 1 then 0 else c.val
      split
      · have := c.isLt; omega
      · rfl

/-- A value of each image, side and point over the seventeen entries. -/
theorem entries4 (v : (M3 B M L).Idx → α) (h1 : (M3 B M L).BroadcastsInDim (M4 B 1 M L) ![0, 2, 3]) (h2 : (M4 B 1 M L).BroadcastsInDim (M4 B K M L) ![0, 1, 2, 3])
    (b : Fin B) (k : Fin K) (f : Fin M) (q : Fin L) :
    broadcastInDim (M4 B K M L) ![0, 1, 2, 3] h2 (broadcastInDim (M4 B 1 M L) ![0, 2, 3] h1 v) (ix4 b k f q) = v (ix3 b f q) := by
  refine (broadcastInDim_apply _ h2 _ (ix4 b k f q) (ix4 b 0 f q) fun ax => ?_).trans (broadcastInDim_apply _ h1 v (ix4 b 0 f q) (ix3 b f q) fun ax => ?_)
  · match ax with
    | ⟨0, _⟩ =>
      show b.val = if B = 1 then 0 else b.val
      split
      · have := b.isLt; omega
      · rfl
    | ⟨1, _⟩ => rfl
    | ⟨2, _⟩ =>
      show f.val = if M = 1 then 0 else f.val
      split
      · have := f.isLt; omega
      · rfl
    | ⟨3, _⟩ =>
      show q.val = if L = 1 then 0 else q.val
      split
      · have := q.isLt; omega
      · rfl
  · match ax with
    | ⟨0, _⟩ =>
      show b.val = if B = 1 then 0 else b.val
      split
      · have := b.isLt; omega
      · rfl
    | ⟨1, _⟩ =>
      show f.val = if M = 1 then 0 else f.val
      split
      · have := f.isLt; omega
      · rfl
    | ⟨2, _⟩ =>
      show q.val = if L = 1 then 0 else q.val
      split
      · have := q.isLt; omega
      · rfl

/-! ## Sums and products -/

/-- The sum of each channel of each image, from zero. -/
theorem sumHW (x : FVec Ideal (M4 B C H W) .f32) (h : (M4 B C H W).ReducesTo [2, 3] (M2 B C)) (hu : 0 < (⟨0, ![]⟩ : Shape).numel) (b : Fin B) (c : Fin C) :
    Host.reduceAdd x (constant (F := Ideal) ⟨0, ![]⟩ .f32 0x00000000#32) h hu (ix2 b c) = ∑ i : Fin H, ∑ j : Fin W, x (ix4 b c i j) := by
  rw [hostReduceAdd_apply]
  unfold Ideal.hostReduceAdd
  have hz : (constant (F := Ideal) ⟨0, ![]⟩ .f32 0x00000000#32) (Shape.Idx.first hu) = (0 : EReal) := Ideal.ofBits_zero_f32
  rw [hz, zero_add, ← Finset.sum_product']
  symm
  refine Finset.sum_bij (fun p _ => ix4 b c p.1 p.2) (fun p _ => ?_) (fun p _ q _ e => ?_) (fun y hy => ?_) (fun p _ => rfl)
  · refine Finset.mem_filter.2 ⟨Finset.mem_univ _, ?_⟩
    exact Shape.idx_ext₂ rfl rfl
  · exact Prod.ext (congrFun e 2) (congrFun e 3)
  · have e := (Finset.mem_filter.1 hy).2
    have e0 : b = y 0 := (Fin.ext (congrArg Fin.val (congrFun e 0).symm :))
    have e1 : c = y 1 := (Fin.ext (congrArg Fin.val (congrFun e 1).symm :))
    refine ⟨(y 2, y 3), Finset.mem_univ _, ?_⟩
    subst e0 e1
    funext ax
    match ax with
    | ⟨0, _⟩ => rfl
    | ⟨1, _⟩ => rfl
    | ⟨2, _⟩ => rfl
    | ⟨3, _⟩ => rfl

/-- The product of a matrix of images by channels with the rows of a matrix. -/
theorem dotRows (D : DotDims (M2 B C) (M2 K C) (M2 B K)) (h1 : D.lhsContracting = [1]) (h2 : D.rhsContracting = [1]) (h3 : D.lhsNonContracting = [0])
    (h4 : D.rhsNonContracting = [0]) (h5 : D.lhsBatch = []) (h6 : D.rhsBatch = []) (prec : Option ContractPrecision)
    (l : FVec Ideal (M2 B C) .f32) (r : FVec Ideal (M2 K C) .f32) (b : Fin B) (o : Fin K) :
    Host.dotGeneral D prec l r (ix2 b o) = ∑ k : Fin C, l (ix2 b k) * r (ix2 o k) := by
  cases D with | mk lc rc ln rn lb rb wf =>
  subst h1 h2 h3 h4 h5 h6
  refine (Ideal.dotGeneral_apply _ _ _ l r (ix2 b o)).trans ?_
  rw [← Equiv.sum_comp (contrEquiv1 (⟨[1], [1], [0], [0], [], [], wf⟩ : DotDims (M2 B C) (M2 K C) (M2 B K)) C rfl rfl).symm]
  refine Finset.sum_congr rfl fun k _ => ?_
  have hk := contrEquiv1_symm_val (⟨[1], [1], [0], [0], [], [], wf⟩ : DotDims (M2 B C) (M2 K C) (M2 B K)) C rfl rfl k
  refine congrArg₂ (· * ·) (congrArg l ?_) (congrArg r ?_)
  · funext ax; apply Fin.ext
    match ax with
    | ⟨0, _⟩ => rfl
    | ⟨1, _⟩ => exact hk
  · funext ax; apply Fin.ext
    match ax with
    | ⟨0, _⟩ => rfl
    | ⟨1, _⟩ => exact hk

/-- The product over the channels at every point of every image, the channels first again. -/
theorem dotChan (D : DotDims (M4 B C H W) (M2 K C) (M4 B H W K)) (h1 : D.lhsContracting = [1]) (h2 : D.rhsContracting = [1]) (h3 : D.lhsNonContracting = [0, 2, 3])
    (h4 : D.rhsNonContracting = [0]) (h5 : D.lhsBatch = []) (h6 : D.rhsBatch = []) (prec : Option ContractPrecision)
    (l : FVec Ideal (M4 B C H W) .f32) (r : FVec Ideal (M2 K C) .f32) (ht : (M4 B H W K).Transposes [0, 3, 1, 2] (M4 B K H W))
    (b : Fin B) (o : Fin K) (i : Fin H) (j : Fin W) :
    transpose (M4 B K H W) [0, 3, 1, 2] (Host.dotGeneral D prec l r) ht (ix4 b o i j) = ∑ k : Fin C, l (ix4 b k i j) * r (ix2 o k) := by
  refine (transpose_apply _ _ ht (ix4 b o i j) (ix4 b i j o) (fun ax => by
    match ax with
    | ⟨0, _⟩ => rfl
    | ⟨1, _⟩ => rfl
    | ⟨2, _⟩ => rfl
    | ⟨3, _⟩ => rfl)).trans ?_
  cases D with | mk lc rc ln rn lb rb wf =>
  subst h1 h2 h3 h4 h5 h6
  refine (Ideal.dotGeneral_apply _ _ _ l r (ix4 b i j o)).trans ?_
  rw [← Equiv.sum_comp (contrEquiv1 (⟨[1], [1], [0, 2, 3], [0], [], [], wf⟩ : DotDims (M4 B C H W) (M2 K C) (M4 B H W K)) C rfl rfl).symm]
  refine Finset.sum_congr rfl fun k _ => ?_
  have hk := contrEquiv1_symm_val (⟨[1], [1], [0, 2, 3], [0], [], [], wf⟩ : DotDims (M4 B C H W) (M2 K C) (M4 B H W K)) C rfl rfl k
  refine congrArg₂ (· * ·) (congrArg l ?_) (congrArg r ?_)
  · funext ax; apply Fin.ext
    match ax with
    | ⟨0, _⟩ => rfl
    | ⟨1, _⟩ => exact hk
    | ⟨2, _⟩ => rfl
    | ⟨3, _⟩ => rfl
  · funext ax; apply Fin.ext
    match ax with
    | ⟨0, _⟩ => rfl
    | ⟨1, _⟩ => exact hk

/-- The product of a vector with the second axis. -/
theorem dotEntries (D : DotDims (M1 K) (M4 B K M L) (M3 B M L)) (h1 : D.lhsContracting = [0]) (h2 : D.rhsContracting = [1]) (h3 : D.lhsNonContracting = [])
    (h4 : D.rhsNonContracting = [0, 2, 3]) (h5 : D.lhsBatch = []) (h6 : D.rhsBatch = []) (prec : Option ContractPrecision)
    (l : FVec Ideal (M1 K) .f32) (r : FVec Ideal (M4 B K M L) .f32) (b : Fin B) (f : Fin M) (q : Fin L) :
    Host.dotGeneral D prec l r (ix3 b f q) = ∑ k : Fin K, l (ix1 k) * r (ix4 b k f q) := by
  cases D with | mk lc rc ln rn lb rb wf =>
  subst h1 h2 h3 h4 h5 h6
  refine (Ideal.dotGeneral_apply _ _ _ l r (ix3 b f q)).trans ?_
  rw [← Equiv.sum_comp (contrEquiv1 (⟨[0], [1], [], [0, 2, 3], [], [], wf⟩ : DotDims (M1 K) (M4 B K M L) (M3 B M L)) K rfl rfl).symm]
  refine Finset.sum_congr rfl fun k _ => ?_
  have hk := contrEquiv1_symm_val (⟨[0], [1], [], [0, 2, 3], [], [], wf⟩ : DotDims (M1 K) (M4 B K M L) (M3 B M L)) K rfl rfl k
  refine congrArg₂ (· * ·) (congrArg l ?_) (congrArg r ?_)
  · funext ax; apply Fin.ext
    match ax with
    | ⟨0, _⟩ => exact hk
  · funext ax; apply Fin.ext
    match ax with
    | ⟨0, _⟩ => rfl
    | ⟨1, _⟩ => exact hk
    | ⟨2, _⟩ => rfl
    | ⟨3, _⟩ => rfl

/-- The sum over the second axis, from zero. -/
theorem sumEntries (x : FVec Ideal (M4 B K M L) .f32) (h : (M4 B K M L).ReducesTo [1] (M3 B M L)) (h' : (M4 B K M L).Reduces [1] (M3 B M L))
    (hu : 0 < (⟨0, ![]⟩ : Shape).numel) (b : Fin B) (f : Fin M) (q : Fin L) :
    Host.reduceAdd x (constant (F := Ideal) ⟨0, ![]⟩ .f32 0x00000000#32) h hu (ix3 b f q) = ∑ k : Fin K, x (ix4 b k f q) := by
  rw [hostReduceAdd_apply, Ideal.hostReduceAdd_single h h']
  have hz : (constant (F := Ideal) ⟨0, ![]⟩ .f32 0x00000000#32) (Shape.Idx.first hu) = (0 : EReal) := Ideal.ofBits_zero_f32
  rw [hz, zero_add]
  refine Finset.sum_congr rfl fun k _ => congrArg x (funext fun ax => ?_)
  match ax with
  | ⟨0, _⟩ => rfl
  | ⟨1, _⟩ => rfl
  | ⟨2, _⟩ => rfl
  | ⟨3, _⟩ => rfl

/-- The maximum over the second axis, from `⊥`. -/
theorem maxEntries (x : FVec Ideal (M4 B K M L) .f32) (h : (M4 B K M L).ReducesTo [1] (M3 B M L)) (h' : (M4 B K M L).Reduces [1] (M3 B M L))
    (hu : 0 < (⟨0, ![]⟩ : Shape).numel) (b : Fin B) (f : Fin M) (q : Fin L) :
    Host.reduce FloatOps.maximumf x (constant (F := Ideal) ⟨0, ![]⟩ .f32 0xFF800000#32) h hu (ix3 b f q)
      = (Finset.univ : Finset (Fin K)).fold max ⊥ fun k => x (ix4 b k f q) := by
  have hφ : FKind.Formats .f32 := by decide
  have hacc : (0xFF800000#32 : BitVec 32) = FKind.maximumf.neutral .f32 hφ := rfl
  refine (congrFun (hostReduce_maximumf_eq_multiReduction (F := Ideal) x 0xFF800000#32 h hu h' hφ hacc) (ix3 b f q)).trans ?_
  refine (Ideal.multiReduction_maximumf_single x 0xFF800000#32 h' hφ hacc (ix3 b f q)).trans ?_
  have hz : (FloatOps.ofBits .f32 0xFF800000#32 : Ideal .f32) = (⊥ : EReal) := by
    show Ideal.ofBits .f32 0xFF800000#32 = ⊥
    simp [Ideal.ofBits, Ideal.ieee]
  rw [hz]
  refine congrArg (fun f => Finset.fold max (⊥ : EReal) f Finset.univ) (funext fun k => congrArg x (funext fun ax => ?_))
  match ax with
  | ⟨0, _⟩ => rfl
  | ⟨1, _⟩ => rfl
  | ⟨2, _⟩ => rfl
  | ⟨3, _⟩ => rfl

/-! ## The border of zeros -/

/-- An image with a border of zeros, read through a window of the image's size. -/
theorem bordered {H2 W2 : ℕ} (hH : H2 = H + 2) (hW : W2 = W + 2) (x : FVec Ideal (M4 B C H W) .f32) (h : (M4 B C H W).Pads ![0, 0, 1, 1] ![0, 0, 1, 1] ![0, 0, 0, 0] (M4 B C H2 W2))
    (hu : 0 < (⟨0, ![]⟩ : Shape).numel) (ky kx : Fin 3) (off : Fin 4 → ℕ) (hoff : off = ![0, 0, ky.val, kx.val]) (hs : (M4 B C H2 W2).Slices off (M4 B C H W))
    (b : Fin B) (c : Fin C) (i : Fin H) (j : Fin W) :
    extractStridedSlice (M4 B C H W) off (pad (M4 B C H2 W2) ![0, 0, 1, 1] ![0, 0, 1, 1] ![0, 0, 0, 0] x (sitofp (F := Ideal) .f32 (constantI ⟨0, ![]⟩ 32 0#32)) h hu) hs (ix4 b c i j)
      = padded (fun i j => x (ix4 b c i j)) (i.val + ky.val) (j.val + kx.val) := by
  subst hH hW hoff
  have hi := i.isLt
  have hj := j.isLt
  have hy := ky.isLt
  have hx := kx.isLt
  refine (extractStridedSlice_apply _ _ hs (ix4 b c i j) (ix4 b c (⟨i.val + ky.val, by omega⟩ : Fin (H + 2)) (⟨j.val + kx.val, by omega⟩ : Fin (W + 2))) (fun ax => by
    match ax with
    | ⟨0, _⟩ => show b.val = 0 + b.val; omega
    | ⟨1, _⟩ => show c.val = 0 + c.val; omega
    | ⟨2, _⟩ => show i.val + ky.val = ky.val + i.val; omega
    | ⟨3, _⟩ => show j.val + kx.val = kx.val + j.val; omega)).trans ?_
  have hz : (sitofp (F := Ideal) .f32 (constantI ⟨0, ![]⟩ 32 0#32)) (Shape.Idx.first hu) = (0 : EReal) := by
    show (((0#32 : BitVec 32).toInt : ℝ) : EReal) = 0
    simp
  unfold padded
  by_cases hin : (1 ≤ i.val + ky.val ∧ i.val + ky.val - 1 < H) ∧ (1 ≤ j.val + kx.val ∧ j.val + kx.val - 1 < W)
  · rw [dif_pos hin]
    exact pad_apply_of_inside _ _ _ x _ h hu _ (ix4 b c ⟨i.val + ky.val - 1, hin.1.2⟩ ⟨j.val + kx.val - 1, hin.2.2⟩) (fun ax => by
      match ax with
      | ⟨0, _⟩ => show b.val = 0 + b.val * (0 + 1); omega
      | ⟨1, _⟩ => show c.val = 0 + c.val * (0 + 1); omega
      | ⟨2, _⟩ => show i.val + ky.val = 1 + (i.val + ky.val - 1) * (0 + 1); omega
      | ⟨3, _⟩ => show j.val + kx.val = 1 + (j.val + kx.val - 1) * (0 + 1); omega)
  · rw [dif_neg hin]
    by_cases h2 : 1 ≤ i.val + ky.val ∧ i.val + ky.val - 1 < H
    · refine (pad_apply_of_not_inside _ _ _ x _ h hu _ (3 : Fin 4) fun hp => hin ⟨h2, ?_⟩).trans hz
      have p1 : 1 ≤ j.val + kx.val := hp.1
      have p2 : (j.val + kx.val - 1) / (0 + 1) < W := hp.2.2
      exact ⟨p1, by simpa using p2⟩
    · refine (pad_apply_of_not_inside _ _ _ x _ h hu _ (2 : Fin 4) fun hp => h2 ?_).trans hz
      have p1 : 1 ≤ i.val + ky.val := hp.1
      have p2 : (i.val + ky.val - 1) / (0 + 1) < H := hp.2.2
      exact ⟨p1, by simpa using p2⟩

/-- One tap of a three-by-three kernel as a matrix. -/
theorem tapMat (w : (M4 K C 3 3).Idx → α) (ky kx : Fin 3) (off : Fin 4 → ℕ) (hoff : off = ![0, 0, ky.val, kx.val]) (hs : (M4 K C 3 3).Slices off (M4 K C 1 1))
    (hc : (M4 K C 1 1).ShapeCasts (M2 K C)) (o : Fin K) (c : Fin C) :
    shapeCast (M2 K C) (extractStridedSlice (M4 K C 1 1) off w hs) hc (ix2 o c) = w (ix4 o c ky kx) := by
  subst hoff
  refine (flat11 _ hc o c).trans (extractStridedSlice_apply _ w hs (ix4 o c 0 0) (ix4 o c ky kx) (fun ax => by
    match ax with
    | ⟨0, _⟩ => show o.val = 0 + o.val; omega
    | ⟨1, _⟩ => show c.val = 0 + c.val; omega
    | ⟨2, _⟩ => show ky.val = ky.val + 0; omega
    | ⟨3, _⟩ => show kx.val = kx.val + 0; omega))

end Cert.Head

end
-- ==== Proof.RefHead.lean ====
/-
  The reference's terms for one scale, at any extents: the averages, the gated product, the three-by-three product, the
  scores and the integrals, each read at an entry as the head's own function.
-/
module

public import proofs.«01_k».proof.Proof.RefOps

@[expose] public section

set_option maxRecDepth 16384

noncomputable section

namespace Cert.Head

open Idealize.ShloMosaic Idealize.ShloMosaic.ValueIdx

variable {B C H W M L : ℕ}

/-- The shape of a scalar. -/
abbrev M0 : Shape := ⟨0, ![]⟩

/-- One array's entries as an image of channels. -/
def imgOf (x : FVec Ideal (M4 B C H W) .f32) (b : Fin B) : Fin C → Fin H → Fin W → EReal := fun c i j => x (ix4 b c i j)

/-- One over one plus the exponential of the negation is the logistic. -/
theorem logisticTerm {s : Shape} (h1 h2 : M0.BroadcastsInDim s ![]) (y : FVec Ideal s .f32) (j : s.Idx) :
    Host.divf (broadcastInDim s ![] h1 (constant (F := Ideal) M0 .f32 0x3F800000#32))
      (addf (broadcastInDim s ![] h2 (constant (F := Ideal) M0 .f32 0x3F800000#32)) (Host.exp (Host.negf y))) j = Ideal.logistic (y j) := by
  rw [hostDivf_apply, addf_apply, broadcastInDim_scalar_apply]
  show Ideal.div (Ideal.ofBits .f32 0x3F800000#32) (Ideal.ofBits .f32 0x3F800000#32 + Ideal.exp (-(y j))) = _
  rw [Ideal.ofBits_one_f32]
  rfl

/-- The averages: the sum of a channel over the number of points. -/
theorem meanTerm (κ : EReal) (wd : BitVec 32) (hκ : ∀ t : EReal, Ideal.div t (Ideal.ofBits .f32 wd) = t * κ) (x : FVec Ideal (M4 B C H W) .f32)
    (h : (M4 B C H W).ReducesTo [2, 3] (M2 B C)) (hu : 0 < M0.numel) (hb : M0.BroadcastsInDim (M2 B C) ![]) (b : Fin B) (c : Fin C) :
    Host.divf (Host.reduceAdd x (constant (F := Ideal) M0 .f32 0x00000000#32) h hu) (broadcastInDim (M2 B C) ![] hb (constant (F := Ideal) M0 .f32 wd)) (ix2 b c)
      = avg κ (imgOf x b) c := by
  rw [hostDivf_apply, broadcastInDim_scalar_apply, sumHW]
  exact hκ _

/-- The gated product, scaled and shifted. -/
theorem zTerm (κ : EReal) (x : FVec Ideal (M4 B C H W) .f32) (mean : FVec Ideal (M2 B C) .f32) (hmean : ∀ b c, mean (ix2 b c) = avg κ (imgOf x b) c)
    (fw cw : FVec Ideal (M4 C C 1 1) .f32) (fb s t : FVec Ideal (M1 C) .f32)
    (D : DotDims (M4 B C H W) (M2 C C) (M4 B H W C)) (h1 : D.lhsContracting = [1]) (h2 : D.rhsContracting = [1]) (h3 : D.lhsNonContracting = [0, 2, 3])
    (h4 : D.rhsNonContracting = [0]) (h5 : D.lhsBatch = []) (h6 : D.rhsBatch = [])
    (E : DotDims (M2 B C) (M2 C C) (M2 B C)) (e1 : E.lhsContracting = [1]) (e2 : E.rhsContracting = [1]) (e3 : E.lhsNonContracting = [0])
    (e4 : E.rhsNonContracting = [0]) (e5 : E.lhsBatch = []) (e6 : E.rhsBatch = [])
    (ht : (M4 B H W C).Transposes [0, 3, 1, 2] (M4 B C H W)) (hg : (M2 B C).BroadcastsInDim (M4 B C 1 1) ![0, 1])
    (hg' : (M4 B C 1 1).BroadcastsInDim (M4 B C H W) ![0, 1, 2, 3]) (hs : M0.BroadcastsInDim (M2 B C) ![])
    (hc : (M4 C C 1 1).ShapeCasts (M2 C C)) (hf : (M1 C).BroadcastsInDim (M2 1 C) ![1]) (hf' : (M2 1 C).BroadcastsInDim (M2 B C) ![0, 1])
    (hv : (M1 C).BroadcastsInDim (M4 1 C 1 1) ![1]) (hv' : (M4 1 C 1 1).BroadcastsInDim (M4 B C H W) ![0, 1, 2, 3])
    (b : Fin B) (c : Fin C) (i : Fin H) (j : Fin W) :
    addf (mulf (transpose (M4 B C H W) [0, 3, 1, 2] (Host.dotGeneral D none (mulf x (broadcastInDim (M4 B C H W) ![0, 1, 2, 3] hg' (broadcastInDim (M4 B C 1 1) ![0, 1] hg
      (Host.divf (broadcastInDim (M2 B C) ![] hs (constant (F := Ideal) M0 .f32 0x3F800000#32)) (addf (broadcastInDim (M2 B C) ![] hs (constant (F := Ideal) M0 .f32 0x3F800000#32))
        (Host.exp (Host.negf (addf (Host.dotGeneral E none mean (shapeCast (M2 C C) fw hc)) (broadcastInDim (M2 B C) ![0, 1] hf' (broadcastInDim (M2 1 C) ![1] hf fb)))))))))) (shapeCast (M2 C C) cw hc)) ht)
      (broadcastInDim (M4 B C H W) ![0, 1, 2, 3] hv' (broadcastInDim (M4 1 C 1 1) ![1] hv s))) (broadcastInDim (M4 B C H W) ![0, 1, 2, 3] hv' (broadcastInDim (M4 1 C 1 1) ![1] hv t)) (ix4 b c i j)
      = zval (imgOf x b) (gate (avg κ (imgOf x b)) (fun o k => fw (ix4 o k 0 0)) (fun o => fb (ix1 o))) (fun o k => cw (ix4 o k 0 0)) (fun o => s (ix1 o)) (fun o => t (ix1 o)) c i j := by
  rw [addf_apply, mulf_apply, chan4, chan4, dotChan D h1 h2 h3 h4 h5 h6]
  unfold zval
  refine congrArg (fun y => y * s (ix1 c) + t (ix1 c)) (Finset.sum_congr rfl fun k _ => ?_)
  rw [mulf_apply, points4, flat11, logisticTerm, addf_apply, dotRows E e1 e2 e3 e4 e5 e6, chan2]
  refine congrArg (fun y => x (ix4 b k i j) * Ideal.logistic (y + fb (ix1 k)) * cw (ix4 c k 0 0)) (Finset.sum_congr rfl fun n _ => ?_)
  rw [hmean, flat11]

/-- An array times its logistic. -/
def swished {s : Shape} (h1 : M0.BroadcastsInDim s ![]) (y : FVec Ideal s .f32) : FVec Ideal s .f32 :=
  mulf y (Host.divf (broadcastInDim s ![] h1 (constant (F := Ideal) M0 .f32 0x3F800000#32))
    (addf (broadcastInDim s ![] h1 (constant (F := Ideal) M0 .f32 0x3F800000#32)) (Host.exp (Host.negf y))))

theorem swishTerm {s : Shape} (h1 : M0.BroadcastsInDim s ![]) (y : FVec Ideal s .f32) (j : s.Idx) : swished h1 y j = swish (y j) := by
  unfold swished
  rw [mulf_apply, logisticTerm]
  rfl

/-- What the scores' product is taken of. -/
theorem clsInTerm (κ : EReal) (p : Par C) (x z : FVec Ideal (M4 B C H W) .f32) (h1 : M0.BroadcastsInDim (M4 B C H W) ![])
    (hz : ∀ b c i j, z (ix4 b c i j) = zval (imgOf x b) (gate (avg κ (imgOf x b)) p.cfw p.cfb) p.ccw p.cbs p.cbb c i j)
    (b : Fin B) (c : Fin C) (i : Fin H) (j : Fin W) : addf (swished h1 z) x (ix4 b c i j) = clsIn κ p (imgOf x b) c i j := by
  rw [addf_apply, swishTerm, hz]
  rfl

/-- What the distributions' product is taken of. -/
theorem regInTerm (κ : EReal) (p : Par C) (x z : FVec Ideal (M4 B C H W) .f32) (h1 : M0.BroadcastsInDim (M4 B C H W) ![])
    (hz : ∀ b c i j, z (ix4 b c i j) = zval (imgOf x b) (gate (avg κ (imgOf x b)) p.rfw p.rfb) p.rcw p.rbs p.rbb c i j)
    (b : Fin B) (c : Fin C) (i : Fin H) (j : Fin W) : swished h1 z (ix4 b c i j) = regIn κ p (imgOf x b) c i j := by
  rw [swishTerm, hz]
  rfl

/-- One tap: the shifted image's product with the tap's matrix. -/
theorem tapTerm {H2 W2 : ℕ} (hH : H2 = H + 2) (hW : W2 = W + 2) (f : Fin B → Fin C → Fin H → Fin W → EReal) (x : FVec Ideal (M4 B C H W) .f32)
    (hx : ∀ b c i j, x (ix4 b c i j) = f b c i j) (h : (M4 B C H W).Pads ![0, 0, 1, 1] ![0, 0, 1, 1] ![0, 0, 0, 0] (M4 B C H2 W2))
    (hu : 0 < M0.numel) (P : FVec Ideal (M4 B C H2 W2) .f32)
    (hP : P = pad (M4 B C H2 W2) ![0, 0, 1, 1] ![0, 0, 1, 1] ![0, 0, 0, 0] x (sitofp (F := Ideal) .f32 (constantI M0 32 0#32)) h hu)
    (w : FVec Ideal (M4 M C 3 3) .f32)
    (D : DotDims (M4 B C H W) (M2 M C) (M4 B H W M)) (h1 : D.lhsContracting = [1]) (h2 : D.rhsContracting = [1]) (h3 : D.lhsNonContracting = [0, 2, 3])
    (h4 : D.rhsNonContracting = [0]) (h5 : D.lhsBatch = []) (h6 : D.rhsBatch = [])
    (ht : (M4 B H W M).Transposes [0, 3, 1, 2] (M4 B M H W)) (hc : (M4 M C 1 1).ShapeCasts (M2 M C))
    (b : Fin B) (o : Fin M) (i : Fin H) (j : Fin W) (ky kx : Fin 3) (off : Fin 4 → ℕ) (hoff : off = ![0, 0, ky.val, kx.val]) (hs : (M4 B C H2 W2).Slices off (M4 B C H W))
    (hs' : (M4 M C 3 3).Slices off (M4 M C 1 1)) :
    transpose (M4 B M H W) [0, 3, 1, 2] (Host.dotGeneral D none (extractStridedSlice (M4 B C H W) off P hs) (shapeCast (M2 M C) (extractStridedSlice (M4 M C 1 1) off w hs') hc)) ht (ix4 b o i j)
      = tap (f b) (fun c ky kx => w (ix4 o c ky kx)) i j ky kx := by
  subst hP
  rw [dotChan D h1 h2 h3 h4 h5 h6]
  refine Finset.sum_congr rfl fun c _ => ?_
  rw [bordered hH hW x h hu ky kx off hoff hs, tapMat w ky kx off hoff]
  have e : (fun i j => x (ix4 b c i j)) = f b c := funext fun i => funext fun j => hx b c i j
  rw [e]

/-- Nine taps and the shift. -/
theorem conv9Term {s : Shape} (f : Fin C → Fin H → Fin W → EReal) (w : Fin M → Fin C → Fin 3 → Fin 3 → EReal) (bias : Fin M → EReal) (o : Fin M) (i : Fin H) (j : Fin W) (y : s.Idx)
    (t0 t1 t2 t3 t4 t5 t6 t7 t8 v : FVec Ideal s .f32) (h0 : t0 y = tap f (w o) i j 0 0) (h1 : t1 y = tap f (w o) i j 0 1) (h2 : t2 y = tap f (w o) i j 0 2)
    (h3 : t3 y = tap f (w o) i j 1 0) (h4 : t4 y = tap f (w o) i j 1 1) (h5 : t5 y = tap f (w o) i j 1 2) (h6 : t6 y = tap f (w o) i j 2 0)
    (h7 : t7 y = tap f (w o) i j 2 1) (h8 : t8 y = tap f (w o) i j 2 2) (hv : v y = bias o) :
    addf (addf (addf (addf (addf (addf (addf (addf (addf t0 t1) t2) t3) t4) t5) t6) t7) t8) v y = conv9 f w bias o i j := by
  simp only [addf_apply]
  rw [h0, h1, h2, h3, h4, h5, h6, h7, h8, hv]
  rfl

/-- The scores as a row of lanes. -/
theorem scoresTerm (hw : H * W = L) (y : FVec Ideal (M4 B M H W) .f32) (h1 : M0.BroadcastsInDim (M4 B M H W) ![]) (hc : (M4 B M H W).ShapeCasts (M3 B M L))
    (b : Fin B) (o : Fin M) (q : Fin L) :
    shapeCast (M3 B M L) (Host.divf (broadcastInDim (M4 B M H W) ![] h1 (constant (F := Ideal) M0 .f32 0x3F800000#32))
      (addf (broadcastInDim (M4 B M H W) ![] h1 (constant (F := Ideal) M0 .f32 0x3F800000#32)) (Host.exp (Host.negf y)))) hc (ix3 b o q)
      = Ideal.logistic (y (ix4 b o (rowq hw q) (colq hw q))) := by
  conv_lhs => rw [← pt_rowq_colq hw q]
  rw [flatHW hw, logisticTerm]

/-- The logits of the distributions: entry `k` of side `f` is channel `17 f + k`. -/
theorem logitsTerm (hw : H * W = L) (y : FVec Ideal (M4 B 68 H W) .f32) (hc : (M4 B 68 H W).ShapeCasts (M4 B 4 17 L)) (ht : (M4 B 4 17 L).Transposes [0, 2, 1, 3] (M4 B 17 4 L))
    (b : Fin B) (k : Fin 17) (f : Fin 4) (q : Fin L) :
    transpose (M4 B 17 4 L) [0, 2, 1, 3] (shapeCast (M4 B 4 17 L) y hc) ht (ix4 b k f q) = y (ix4 b (⟨17 * f.val + k.val, by omega⟩ : Fin 68) (rowq hw q) (colq hw q)) := by
  refine (transpose_apply _ _ ht (ix4 b k f q) (ix4 b f k q) (fun ax => by
    match ax with
    | ⟨0, _⟩ => rfl
    | ⟨1, _⟩ => rfl
    | ⟨2, _⟩ => rfl
    | ⟨3, _⟩ => rfl)).trans (shapeCast_apply y hc (ix4 b f k q) _ ?_)
  rw [Shape.rowMajor_val_four, Shape.rowMajor_val_four]
  have e : (rowq hw q).val * W + (colq hw q).val = q.val := congrArg Fin.val (pt_rowq_colq hw q)
  show ((b.val * 68 + (17 * f.val + k.val)) * H + (rowq hw q).val) * W + (colq hw q).val = ((b.val * 4 + f.val) * 17 + k.val) * L + q.val
  have e2 : (b.val * 4 + f.val) * 17 + k.val = b.val * 68 + (17 * f.val + k.val) := by omega
  rw [e2, Nat.add_mul _ (rowq hw q).val W, Nat.mul_assoc _ H W, hw, Nat.add_assoc, e]

/-- The exponentials of the logits less their maximum. -/
theorem expTerm (y : FVec Ideal (M4 B 17 M L) .f32) (h1 : (M3 B M L).BroadcastsInDim (M4 B 1 M L) ![0, 2, 3]) (h2 : (M4 B 1 M L).BroadcastsInDim (M4 B 17 M L) ![0, 1, 2, 3])
    (hs : M0.BroadcastsInDim (M3 B M L) ![]) (h : (M4 B 17 M L).ReducesTo [1] (M3 B M L)) (h' : (M4 B 17 M L).Reduces [1] (M3 B M L)) (hu : 0 < M0.numel)
    (b : Fin B) (k : Fin 17) (f : Fin M) (q : Fin L) :
    Host.exp (subf y (broadcastInDim (M4 B 17 M L) ![0, 1, 2, 3] h2 (broadcastInDim (M4 B 1 M L) ![0, 2, 3] h1 (maximumf (broadcastInDim (M3 B M L) ![] hs (constant (F := Ideal) M0 .f32 0xFF800000#32))
      (Host.reduce FloatOps.maximumf y (constant (F := Ideal) M0 .f32 0xFF800000#32) h hu))))) (ix4 b k f q) = ex (fun k => y (ix4 b k f q)) k := by
  have e0 : ∀ (u v : FVec Ideal (M4 B 17 M L) .f32) j, Host.exp (subf u v) j = Ideal.exp (u j - v j) := fun _ _ _ => rfl
  have e1 : ∀ (u v : FVec Ideal (M3 B M L) .f32) j, maximumf u v j = max (u j) (v j) := fun _ _ _ => rfl
  rw [e0, entries4, e1, broadcastInDim_scalar_apply, maxEntries y h h' hu]
  have hz : constant (F := Ideal) M0 .f32 0xFF800000#32 ix0 = (⊥ : EReal) := by
    show Ideal.ofBits .f32 0xFF800000#32 = ⊥
    simp [Ideal.ofBits, Ideal.ieee]
  rw [hz]
  have hm : ∀ t : EReal, max ⊥ t = t := fun t => max_eq_right bot_le
  rw [hm]
  rfl

/-- The integral of the distributions: each entry's number times its exponential over their sum. -/
theorem integralTerm (r : Fin B → Fin M → Fin L → Fin 17 → EReal) (e : FVec Ideal (M4 B 17 M L) .f32) (he : ∀ b k f q, e (ix4 b k f q) = ex (r b f q) k)
    (h1 : (M3 B M L).BroadcastsInDim (M4 B 1 M L) ![0, 2, 3]) (h2 : (M4 B 1 M L).BroadcastsInDim (M4 B 17 M L) ![0, 1, 2, 3])
    (h : (M4 B 17 M L).ReducesTo [1] (M3 B M L)) (h' : (M4 B 17 M L).Reduces [1] (M3 B M L)) (hu : 0 < M0.numel)
    (D : DotDims (M1 17) (M4 B 17 M L) (M3 B M L)) (d1 : D.lhsContracting = [0]) (d2 : D.rhsContracting = [1]) (d3 : D.lhsNonContracting = [])
    (d4 : D.rhsNonContracting = [0, 2, 3]) (d5 : D.lhsBatch = []) (d6 : D.rhsBatch = []) (n : FVec Ideal (M1 17) .f32) (hn : ∀ k, n (ix1 k) = ((k.val : ℝ) : EReal))
    (b : Fin B) (f : Fin M) (q : Fin L) :
    Host.dotGeneral D none n (Host.divf e (broadcastInDim (M4 B 17 M L) ![0, 1, 2, 3] h2 (broadcastInDim (M4 B 1 M L) ![0, 2, 3] h1
      (Host.reduceAdd e (constant (F := Ideal) M0 .f32 0x00000000#32) h hu)))) (ix3 b f q) = integral (r b f q) := by
  rw [dotEntries D d1 d2 d3 d4 d5 d6]
  refine Finset.sum_congr rfl fun k _ => ?_
  rw [hostDivf_apply, entries4, sumEntries e h h' hu, hn, he]
  simp only [he]

/-- The numbers of the entries. -/
theorem numberTerm (k : Fin 17) : (sitofp (F := Ideal) .f32 (iotaInDim (M1 17) 32 0) : FVec Ideal (M1 17) .f32) (ix1 k) = ((k.val : ℝ) : EReal) := by
  show (((BitVec.ofNat 32 k.val).toInt : ℝ) : EReal) = _
  revert k
  have : ∀ k : Fin 17, (BitVec.ofNat 32 k.val).toInt = (k.val : ℤ) := by decide
  intro k
  rw [this k]
  simp

/-- Three rows of lanes side by side. -/
theorem joined (x : (M3 B M 400).Idx → EReal) (y : (M3 B M 1600).Idx → EReal) (z : (M3 B M 6400).Idx → EReal)
    (h : Shape.Concatenates [M3 B M 400, M3 B M 1600, M3 B M 6400] (M3 B M 8400) 2) (b : Fin B) (o : Fin M)
    (f : Fin 400 → EReal) (g : Fin 1600 → EReal) (k : Fin 6400 → EReal) (hx : ∀ q, x (ix3 b o q) = f q) (hy : ∀ q, y (ix3 b o q) = g q) (hz : ∀ q, z (ix3 b o q) = k q) (q : Fin 8400) :
    concatenate (M3 B M 8400) 2 [⟨M3 B M 400, x⟩, ⟨M3 B M 1600, y⟩, ⟨M3 B M 6400, z⟩] h (ix3 b o q) = join3 f g k q := by
  have hq := q.isLt
  by_cases c0 : q.val < 400
  · exact (beside3N [⟨M3 B M 400, x⟩, ⟨M3 B M 1600, y⟩, ⟨M3 B M 6400, z⟩] h 0 (by simp) x rfl 0 rfl b o q ⟨q.val, c0⟩ (by simp)).trans ((hx _).trans (join3_0 f g k ⟨q.val, c0⟩ q rfl).symm)
  · by_cases c1 : q.val < 2000
    · exact (beside3N [⟨M3 B M 400, x⟩, ⟨M3 B M 1600, y⟩, ⟨M3 B M 6400, z⟩] h 1 (by simp) y rfl 400 (by simp) b o q ⟨q.val - 400, by omega⟩ (by show 400 + (q.val - 400) = q.val; omega)).trans
        ((hy _).trans (join3_1 f g k ⟨q.val - 400, by omega⟩ q (by show q.val = 400 + (q.val - 400); omega)).symm)
    · exact (beside3N [⟨M3 B M 400, x⟩, ⟨M3 B M 1600, y⟩, ⟨M3 B M 6400, z⟩] h 2 (by simp) z rfl 2000 (by simp) b o q ⟨q.val - 2000, by omega⟩ (by show 2000 + (q.val - 2000) = q.val; omega)).trans
        ((hz _).trans (join3_2 f g k ⟨q.val - 2000, by omega⟩ q (by show q.val = 2000 + (q.val - 2000); omega)).symm)

end Cert.Head

end
-- ==== Proof.Ref0.lean ====
/-
  The reference at scale 0: its terms read at an entry.
-/
module

public import proofs.«01_k».proof.Proof.RefHead
public import proofs.«01_k».proof.Proof.Gen.ReferenceIdeal.Run

@[expose] public section

set_option maxRecDepth 65536

noncomputable section

namespace Cert.ReferenceIdeal.Value

open Cert.ReferenceIdeal Cert.ReferenceIdeal.Gen Idealize.ShloMosaic Idealize.ShloMosaic.TcCoe Idealize.ShloMosaic.ValueIdx Idealize.SL.Sem Cert.Head

/-- One over the number of points of scale 0. -/
abbrev κ0 : EReal := ((1 / 400 : ℝ) : EReal)

/-- Dividing by the number of points is multiplying by one over it. -/
theorem div_points0 (t : EReal) : Ideal.div t (Ideal.ofBits .f32 0x43C80000#32) = t * κ0 := by
  have h : Ideal.ofBits .f32 0x43C80000#32 = ((400 : ℝ) : EReal) := by
    simp [Ideal.ofBits, Ideal.ieee, -EReal.coe_mul]; norm_num
  rw [h, Ideal.div_coe (by norm_num)]

theorem hw0 : 20 * 20 = 400 := rfl

variable (V : Valuation τ sig (Elt Ideal))

/-- The parameters of scale 0. -/
def par0 : Par 1024 :=
  parOf (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
/-- The images of scale 0. -/
abbrev imga (b : Fin 16) : Fin 1024 → Fin 20 → Fin 20 → EReal := imgOf (B := 16) (C := 1024) (H := 20) (W := 20) (V (Proc.devRef .tc main_arg0)) b

theorem mean0 (b : Fin 16) (c : Fin 1024) : res_main_v3 V (ix2 b c) = avg κ0 (imga V b) c := by
  unfold res_main_v3
  exact meanTerm κ0 0x43C80000#32 div_points0 (V (Proc.devRef .tc main_arg0)) _ _ _ b c

theorem zc0 (b : Fin 16) (c : Fin 1024) (i j : Fin 20) : res_main_v26 V (ix4 b c i j)
    = zval (imga V b) (gate (avg κ0 (imga V b)) (par0 V).cfw (par0 V).cfb) (par0 V).ccw (par0 V).cbs (par0 V).cbb c i j := by
  unfold res_main_v26
  exact zTerm κ0 (V (Proc.devRef .tc main_arg0)) (res_main_v3 V) (mean0 V) (V (Proc.devRef .tc main_arg3)) (V (Proc.devRef .tc main_arg5)) (V (Proc.devRef .tc main_arg4)) (V (Proc.devRef .tc main_arg6)) (V (Proc.devRef .tc main_arg7))
    dot_S16x1024x20x20_S1024x1024_S16x20x20x1024_1_1_023_0_n_n rfl rfl rfl rfl rfl rfl dot_S16x1024_S1024x1024_S16x1024_1_1_0_0_n_n rfl rfl rfl rfl rfl rfl _ _ _ _ _ _ _ _ _ b c i j

theorem zr0 (b : Fin 16) (c : Fin 1024) (i j : Fin 20) : res_main_v121 V (ix4 b c i j)
    = zval (imga V b) (gate (avg κ0 (imga V b)) (par0 V).rfw (par0 V).rfb) (par0 V).rcw (par0 V).rbs (par0 V).rbb c i j := by
  unfold res_main_v121
  exact zTerm κ0 (V (Proc.devRef .tc main_arg0)) (res_main_v3 V) (mean0 V) (V (Proc.devRef .tc main_arg8)) (V (Proc.devRef .tc main_arg10)) (V (Proc.devRef .tc main_arg9)) (V (Proc.devRef .tc main_arg11)) (V (Proc.devRef .tc main_arg12))
    dot_S16x1024x20x20_S1024x1024_S16x20x20x1024_1_1_023_0_n_n rfl rfl rfl rfl rfl rfl dot_S16x1024_S1024x1024_S16x1024_1_1_0_0_n_n rfl rfl rfl rfl rfl rfl _ _ _ _ _ _ _ _ _ b c i j

theorem clsLogit0 (b : Fin 16) (o : Fin 80) (i j : Fin 20) :
    (addf (res_main_v88 V) (broadcastInDim S16x80x20x20 ![0, 1, 2, 3] bcast_S1x80x1x1_S16x80x20x20_0_1_2_3 (broadcastInDim S1x80x1x1 ![1] bcast_S80_S1x80x1x1_1 (V (Proc.devRef .tc main_arg14)))) : FVec Ideal S16x80x20x20 .f32) (ix4 b o i j) = conv9 (clsIn κ0 (par0 V) (imga V b)) (par0 V).pcw (par0 V).pcb o i j := by
  unfold res_main_v88
  have T := fun ky kx off hoff hs hs' => tapTerm rfl rfl (fun b => clsIn κ0 (par0 V) (imga V b)) (addf (swished bcast_S_S16x1024x20x20 (res_main_v26 V)) (V (Proc.devRef .tc main_arg0))) (clsInTerm κ0 (par0 V) (V (Proc.devRef .tc main_arg0)) _ _ (zc0 V))
    pads_S16x1024x20x20_S16x1024x22x22_000_000_110_110 h_S_ (res_main_v35 V) rfl (V (Proc.devRef .tc main_arg13)) dot_S16x1024x20x20_S80x1024_S16x20x20x80_1_1_023_0_n_n rfl rfl rfl rfl rfl rfl
    transposes_S16x20x20x80_S16x80x20x20_0_3_1_2 shapeCasts_S80x1024x1x1_S80x1024 b o i j ky kx off hoff hs hs'
  exact conv9Term (clsIn κ0 (par0 V) (imga V b)) (par0 V).pcw (par0 V).pcb o i j _ _ _ _ _ _ _ _ _ _ _ (T 0 0 _ rfl _ _) (T 0 1 _ rfl _ _) (T 0 2 _ rfl _ _)
    (T 1 0 _ rfl _ _) (T 1 1 _ rfl _ _) (T 1 2 _ rfl _ _) (T 2 0 _ rfl _ _) (T 2 1 _ rfl _ _) (T 2 2 _ rfl _ _) (chan4 (V (Proc.devRef .tc main_arg14)) _ _ b o i j)

theorem regLogit0 (b : Fin 16) (o : Fin 68) (i j : Fin 20) :
    (addf (res_main_v182 V) (broadcastInDim S16x68x20x20 ![0, 1, 2, 3] bcast_S1x68x1x1_S16x68x20x20_0_1_2_3 (broadcastInDim S1x68x1x1 ![1] bcast_S68_S1x68x1x1_1 (V (Proc.devRef .tc main_arg16)))) : FVec Ideal S16x68x20x20 .f32) (ix4 b o i j) = conv9 (regIn κ0 (par0 V) (imga V b)) (par0 V).prw (par0 V).prb o i j := by
  unfold res_main_v182
  have T := fun ky kx off hoff hs hs' => tapTerm rfl rfl (fun b => regIn κ0 (par0 V) (imga V b)) (swished bcast_S_S16x1024x20x20 (res_main_v121 V)) (regInTerm κ0 (par0 V) (V (Proc.devRef .tc main_arg0)) _ _ (zr0 V))
    pads_S16x1024x20x20_S16x1024x22x22_000_000_110_110 h_S_ (res_main_v129 V) rfl (V (Proc.devRef .tc main_arg15)) dot_S16x1024x20x20_S68x1024_S16x20x20x68_1_1_023_0_n_n rfl rfl rfl rfl rfl rfl
    transposes_S16x20x20x68_S16x68x20x20_0_3_1_2 shapeCasts_S68x1024x1x1_S68x1024 b o i j ky kx off hoff hs hs'
  exact conv9Term (regIn κ0 (par0 V) (imga V b)) (par0 V).prw (par0 V).prb o i j _ _ _ _ _ _ _ _ _ _ _ (T 0 0 _ rfl _ _) (T 0 1 _ rfl _ _) (T 0 2 _ rfl _ _)
    (T 1 0 _ rfl _ _) (T 1 1 _ rfl _ _) (T 1 2 _ rfl _ _) (T 2 0 _ rfl _ _) (T 2 1 _ rfl _ _) (T 2 2 _ rfl _ _) (chan4 (V (Proc.devRef .tc main_arg16)) _ _ b o i j)

/-- The scores of scale 0. -/
theorem scores0 (b : Fin 16) (o : Fin 80) (q : Fin 400) :
    (shapeCast S16x80x400 (Host.divf (broadcastInDim S16x80x20x20 ![] bcast_S_S16x80x20x20 (constant (F := Ideal) S_ .f32 0x3F800000#32))
      (addf (broadcastInDim S16x80x20x20 ![] bcast_S_S16x80x20x20 (constant (F := Ideal) S_ .f32 0x3F800000#32)) (Host.exp (Host.negf (addf (s := S16x80x20x20) (φ := .f32) (res_main_v88 V) (broadcastInDim S16x80x20x20 ![0, 1, 2, 3] bcast_S1x80x1x1_S16x80x20x20_0_1_2_3 (broadcastInDim S1x80x1x1 ![1] bcast_S80_S1x80x1x1_1 (V (Proc.devRef .tc main_arg14)))))))))
      shapeCasts_S16x80x20x20_S16x80x400 : FVec Ideal S16x80x400 .f32) (ix3 b o q) = scoreAt hw0 κ0 (par0 V) (imga V b) o q := by
  unfold scoreAt score
  rw [← clsLogit0 V b o (rowq hw0 q) (colq hw0 q)]
  exact scoresTerm hw0 _ _ _ b o q

/-- The logits of the distributions of scale 0, as they are integrated. -/
def row0 (b : Fin 16) (f : Fin 4) (q : Fin 400) (k : Fin 17) : EReal := res_main_v187 V (ix4 b k f q)

theorem row0_eq (b : Fin 16) (f : Fin 4) (q : Fin 400) (k : Fin 17) :
    row0 V b f q k = conv9 (regIn κ0 (par0 V) (imga V b)) (par0 V).prw (par0 V).prb ⟨17 * f.val + k.val, by omega⟩ (rowq hw0 q) (colq hw0 q) := by
  unfold row0 res_main_v187
  exact (logitsTerm hw0 _ _ _ b k f q).trans (regLogit0 V b _ _ _)

/-- The distances of scale 0. -/
theorem dists0 (b : Fin 16) (f : Fin 4) (q : Fin 400) :
    (Host.dotGeneral (φ₁ := .f32) (φ₂ := .f32) dot_S17_S16x17x4x400_S16x4x400_0_1_n_023_n_n none (res_main_v0 V : FVec Ideal S17 .f32) (Host.divf (res_main_v194 V : FVec Ideal S16x17x4x400 .f32) (broadcastInDim S16x17x4x400 ![0, 1, 2, 3] bcast_S16x1x4x400_S16x17x4x400_0_1_2_3
      (broadcastInDim S16x1x4x400 ![0, 2, 3] bcast_S16x4x400_S16x1x4x400_0_2_3 (Host.reduceAdd (res_main_v194 V) (constant (F := Ideal) S_ .f32 0x00000000#32) reducesTo_S16x17x4x400_S16x4x400_d1 h_S_))))
      : FVec Ideal S16x4x400 .f32) (ix3 b f q) = distAt hw0 κ0 (par0 V) (imga V b) f q := by
  have he : ∀ b k f q, res_main_v194 V (ix4 b k f q) = ex (row0 V b f q) k := fun b k f q => by
    unfold res_main_v194
    exact expTerm (res_main_v187 V) _ _ _ _ (by decide) _ b k f q
  refine (integralTerm (row0 V) (res_main_v194 V) he _ _ _ (by decide) _ dot_S17_S16x17x4x400_S16x4x400_0_1_n_023_n_n rfl rfl rfl rfl rfl rfl (res_main_v0 V) numberTerm b f q).trans ?_
  exact congrArg integral (funext fun k => row0_eq V b f q k)

end Cert.ReferenceIdeal.Value

end
-- ==== Proof.Ref1.lean ====
/-
  The reference at scale 1: its terms read at an entry.
-/
module

public import proofs.«01_k».proof.Proof.RefHead
public import proofs.«01_k».proof.Proof.Gen.ReferenceIdeal.Run

@[expose] public section

set_option maxRecDepth 65536

noncomputable section

namespace Cert.ReferenceIdeal.Value

open Cert.ReferenceIdeal Cert.ReferenceIdeal.Gen Idealize.ShloMosaic Idealize.ShloMosaic.TcCoe Idealize.ShloMosaic.ValueIdx Idealize.SL.Sem Cert.Head

/-- One over the number of points of scale 1. -/
abbrev κ1 : EReal := ((1 / 1600 : ℝ) : EReal)

/-- Dividing by the number of points is multiplying by one over it. -/
theorem div_points1 (t : EReal) : Ideal.div t (Ideal.ofBits .f32 0x44C80000#32) = t * κ1 := by
  have h : Ideal.ofBits .f32 0x44C80000#32 = ((1600 : ℝ) : EReal) := by
    simp [Ideal.ofBits, Ideal.ieee, -EReal.coe_mul]; norm_num
  rw [h, Ideal.div_coe (by norm_num)]

theorem hw1 : 40 * 40 = 1600 := rfl

variable (V : Valuation τ sig (Elt Ideal))

/-- The parameters of scale 1. -/
def par1 : Par 512 :=
  parOf (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30))
/-- The images of scale 1. -/
abbrev imgb (b : Fin 16) : Fin 512 → Fin 40 → Fin 40 → EReal := imgOf (B := 16) (C := 512) (H := 40) (W := 40) (V (Proc.devRef .tc main_arg1)) b

theorem mean1 (b : Fin 16) (c : Fin 512) : res_main_v202 V (ix2 b c) = avg κ1 (imgb V b) c := by
  unfold res_main_v202
  exact meanTerm κ1 0x44C80000#32 div_points1 (V (Proc.devRef .tc main_arg1)) _ _ _ b c

theorem zc1 (b : Fin 16) (c : Fin 512) (i j : Fin 40) : res_main_v225 V (ix4 b c i j)
    = zval (imgb V b) (gate (avg κ1 (imgb V b)) (par1 V).cfw (par1 V).cfb) (par1 V).ccw (par1 V).cbs (par1 V).cbb c i j := by
  unfold res_main_v225
  exact zTerm κ1 (V (Proc.devRef .tc main_arg1)) (res_main_v202 V) (mean1 V) (V (Proc.devRef .tc main_arg17)) (V (Proc.devRef .tc main_arg19)) (V (Proc.devRef .tc main_arg18)) (V (Proc.devRef .tc main_arg20)) (V (Proc.devRef .tc main_arg21))
    dot_S16x512x40x40_S512x512_S16x40x40x512_1_1_023_0_n_n rfl rfl rfl rfl rfl rfl dot_S16x512_S512x512_S16x512_1_1_0_0_n_n rfl rfl rfl rfl rfl rfl _ _ _ _ _ _ _ _ _ b c i j

theorem zr1 (b : Fin 16) (c : Fin 512) (i j : Fin 40) : res_main_v320 V (ix4 b c i j)
    = zval (imgb V b) (gate (avg κ1 (imgb V b)) (par1 V).rfw (par1 V).rfb) (par1 V).rcw (par1 V).rbs (par1 V).rbb c i j := by
  unfold res_main_v320
  exact zTerm κ1 (V (Proc.devRef .tc main_arg1)) (res_main_v202 V) (mean1 V) (V (Proc.devRef .tc main_arg22)) (V (Proc.devRef .tc main_arg24)) (V (Proc.devRef .tc main_arg23)) (V (Proc.devRef .tc main_arg25)) (V (Proc.devRef .tc main_arg26))
    dot_S16x512x40x40_S512x512_S16x40x40x512_1_1_023_0_n_n rfl rfl rfl rfl rfl rfl dot_S16x512_S512x512_S16x512_1_1_0_0_n_n rfl rfl rfl rfl rfl rfl _ _ _ _ _ _ _ _ _ b c i j

theorem clsLogit1 (b : Fin 16) (o : Fin 80) (i j : Fin 40) :
    (res_main_v290 V : FVec Ideal S16x80x40x40 .f32) (ix4 b o i j) = conv9 (clsIn κ1 (par1 V) (imgb V b)) (par1 V).pcw (par1 V).pcb o i j := by
  unfold res_main_v290
  have T := fun ky kx off hoff hs hs' => tapTerm rfl rfl (fun b => clsIn κ1 (par1 V) (imgb V b)) (addf (swished bcast_S_S16x512x40x40 (res_main_v225 V)) (V (Proc.devRef .tc main_arg1))) (clsInTerm κ1 (par1 V) (V (Proc.devRef .tc main_arg1)) _ _ (zc1 V))
    pads_S16x512x40x40_S16x512x42x42_000_000_110_110 h_S_ (res_main_v234 V) rfl (V (Proc.devRef .tc main_arg27)) dot_S16x512x40x40_S80x512_S16x40x40x80_1_1_023_0_n_n rfl rfl rfl rfl rfl rfl
    transposes_S16x40x40x80_S16x80x40x40_0_3_1_2 shapeCasts_S80x512x1x1_S80x512 b o i j ky kx off hoff hs hs'
  exact conv9Term (clsIn κ1 (par1 V) (imgb V b)) (par1 V).pcw (par1 V).pcb o i j _ _ _ _ _ _ _ _ _ _ _ (T 0 0 _ rfl _ _) (T 0 1 _ rfl _ _) (T 0 2 _ rfl _ _)
    (T 1 0 _ rfl _ _) (T 1 1 _ rfl _ _) (T 1 2 _ rfl _ _) (T 2 0 _ rfl _ _) (T 2 1 _ rfl _ _) (T 2 2 _ rfl _ _) (chan4 (V (Proc.devRef .tc main_arg28)) _ _ b o i j)

theorem regLogit1 (b : Fin 16) (o : Fin 68) (i j : Fin 40) :
    (res_main_v384 V : FVec Ideal S16x68x40x40 .f32) (ix4 b o i j) = conv9 (regIn κ1 (par1 V) (imgb V b)) (par1 V).prw (par1 V).prb o i j := by
  unfold res_main_v384
  have T := fun ky kx off hoff hs hs' => tapTerm rfl rfl (fun b => regIn κ1 (par1 V) (imgb V b)) (swished bcast_S_S16x512x40x40 (res_main_v320 V)) (regInTerm κ1 (par1 V) (V (Proc.devRef .tc main_arg1)) _ _ (zr1 V))
    pads_S16x512x40x40_S16x512x42x42_000_000_110_110 h_S_ (res_main_v328 V) rfl (V (Proc.devRef .tc main_arg29)) dot_S16x512x40x40_S68x512_S16x40x40x68_1_1_023_0_n_n rfl rfl rfl rfl rfl rfl
    transposes_S16x40x40x68_S16x68x40x40_0_3_1_2 shapeCasts_S68x512x1x1_S68x512 b o i j ky kx off hoff hs hs'
  exact conv9Term (regIn κ1 (par1 V) (imgb V b)) (par1 V).prw (par1 V).prb o i j _ _ _ _ _ _ _ _ _ _ _ (T 0 0 _ rfl _ _) (T 0 1 _ rfl _ _) (T 0 2 _ rfl _ _)
    (T 1 0 _ rfl _ _) (T 1 1 _ rfl _ _) (T 1 2 _ rfl _ _) (T 2 0 _ rfl _ _) (T 2 1 _ rfl _ _) (T 2 2 _ rfl _ _) (chan4 (V (Proc.devRef .tc main_arg30)) _ _ b o i j)

/-- The scores of scale 1. -/
theorem scores1 (b : Fin 16) (o : Fin 80) (q : Fin 1600) :
    (shapeCast S16x80x1600 (Host.divf (broadcastInDim S16x80x40x40 ![] bcast_S_S16x80x40x40 (constant (F := Ideal) S_ .f32 0x3F800000#32))
      (addf (broadcastInDim S16x80x40x40 ![] bcast_S_S16x80x40x40 (constant (F := Ideal) S_ .f32 0x3F800000#32)) (Host.exp (Host.negf (res_main_v290 V)))))
      shapeCasts_S16x80x40x40_S16x80x1600 : FVec Ideal S16x80x1600 .f32) (ix3 b o q) = scoreAt hw1 κ1 (par1 V) (imgb V b) o q := by
  unfold scoreAt score
  rw [← clsLogit1 V b o (rowq hw1 q) (colq hw1 q)]
  exact scoresTerm hw1 _ _ _ b o q

/-- The logits of the distributions of scale 1, as they are integrated. -/
def row1 (b : Fin 16) (f : Fin 4) (q : Fin 1600) (k : Fin 17) : EReal := res_main_v386 V (ix4 b k f q)

theorem row1_eq (b : Fin 16) (f : Fin 4) (q : Fin 1600) (k : Fin 17) :
    row1 V b f q k = conv9 (regIn κ1 (par1 V) (imgb V b)) (par1 V).prw (par1 V).prb ⟨17 * f.val + k.val, by omega⟩ (rowq hw1 q) (colq hw1 q) := by
  unfold row1 res_main_v386
  exact (logitsTerm hw1 _ _ _ b k f q).trans (regLogit1 V b _ _ _)

/-- The distances of scale 1. -/
theorem dists1 (b : Fin 16) (f : Fin 4) (q : Fin 1600) :
    (Host.dotGeneral (φ₁ := .f32) (φ₂ := .f32) dot_S17_S16x17x4x1600_S16x4x1600_0_1_n_023_n_n none (res_main_v0 V : FVec Ideal S17 .f32) (Host.divf (res_main_v393 V : FVec Ideal S16x17x4x1600 .f32) (broadcastInDim S16x17x4x1600 ![0, 1, 2, 3] bcast_S16x1x4x1600_S16x17x4x1600_0_1_2_3
      (broadcastInDim S16x1x4x1600 ![0, 2, 3] bcast_S16x4x1600_S16x1x4x1600_0_2_3 (Host.reduceAdd (res_main_v393 V) (constant (F := Ideal) S_ .f32 0x00000000#32) reducesTo_S16x17x4x1600_S16x4x1600_d1 h_S_))))
      : FVec Ideal S16x4x1600 .f32) (ix3 b f q) = distAt hw1 κ1 (par1 V) (imgb V b) f q := by
  have he : ∀ b k f q, res_main_v393 V (ix4 b k f q) = ex (row1 V b f q) k := fun b k f q => by
    unfold res_main_v393
    exact expTerm (res_main_v386 V) _ _ _ _ (by decide) _ b k f q
  refine (integralTerm (row1 V) (res_main_v393 V) he _ _ _ (by decide) _ dot_S17_S16x17x4x1600_S16x4x1600_0_1_n_023_n_n rfl rfl rfl rfl rfl rfl (res_main_v0 V) numberTerm b f q).trans ?_
  exact congrArg integral (funext fun k => row1_eq V b f q k)

end Cert.ReferenceIdeal.Value

end
-- ==== Proof.Ref2.lean ====
/-
  The reference at scale 2: its terms read at an entry.
-/
module

public import proofs.«01_k».proof.Proof.RefHead
public import proofs.«01_k».proof.Proof.Gen.ReferenceIdeal.Run

@[expose] public section

set_option maxRecDepth 65536

noncomputable section

namespace Cert.ReferenceIdeal.Value

open Cert.ReferenceIdeal Cert.ReferenceIdeal.Gen Idealize.ShloMosaic Idealize.ShloMosaic.TcCoe Idealize.ShloMosaic.ValueIdx Idealize.SL.Sem Cert.Head

/-- One over the number of points of scale 2. -/
abbrev κ2 : EReal := ((1 / 6400 : ℝ) : EReal)

/-- Dividing by the number of points is multiplying by one over it. -/
theorem div_points2 (t : EReal) : Ideal.div t (Ideal.ofBits .f32 0x45C80000#32) = t * κ2 := by
  have h : Ideal.ofBits .f32 0x45C80000#32 = ((6400 : ℝ) : EReal) := by
    simp [Ideal.ofBits, Ideal.ieee, -EReal.coe_mul]; norm_num
  rw [h, Ideal.div_coe (by norm_num)]

theorem hw2 : 80 * 80 = 6400 := rfl

variable (V : Valuation τ sig (Elt Ideal))

/-- The parameters of scale 2. -/
def par2 : Par 256 :=
  parOf (V (Proc.devRef .tc main_arg31)) (V (Proc.devRef .tc main_arg32)) (V (Proc.devRef .tc main_arg33)) (V (Proc.devRef .tc main_arg34)) (V (Proc.devRef .tc main_arg35)) (V (Proc.devRef .tc main_arg36)) (V (Proc.devRef .tc main_arg37)) (V (Proc.devRef .tc main_arg38)) (V (Proc.devRef .tc main_arg39)) (V (Proc.devRef .tc main_arg40)) (V (Proc.devRef .tc main_arg41)) (V (Proc.devRef .tc main_arg42)) (V (Proc.devRef .tc main_arg43)) (V (Proc.devRef .tc main_arg44))
/-- The images of scale 2. -/
abbrev imgc (b : Fin 16) : Fin 256 → Fin 80 → Fin 80 → EReal := imgOf (B := 16) (C := 256) (H := 80) (W := 80) (V (Proc.devRef .tc main_arg2)) b

theorem mean2 (b : Fin 16) (c : Fin 256) : res_main_v401 V (ix2 b c) = avg κ2 (imgc V b) c := by
  unfold res_main_v401
  exact meanTerm κ2 0x45C80000#32 div_points2 (V (Proc.devRef .tc main_arg2)) _ _ _ b c

theorem zc2 (b : Fin 16) (c : Fin 256) (i j : Fin 80) : res_main_v424 V (ix4 b c i j)
    = zval (imgc V b) (gate (avg κ2 (imgc V b)) (par2 V).cfw (par2 V).cfb) (par2 V).ccw (par2 V).cbs (par2 V).cbb c i j := by
  unfold res_main_v424
  exact zTerm κ2 (V (Proc.devRef .tc main_arg2)) (res_main_v401 V) (mean2 V) (V (Proc.devRef .tc main_arg31)) (V (Proc.devRef .tc main_arg33)) (V (Proc.devRef .tc main_arg32)) (V (Proc.devRef .tc main_arg34)) (V (Proc.devRef .tc main_arg35))
    dot_S16x256x80x80_S256x256_S16x80x80x256_1_1_023_0_n_n rfl rfl rfl rfl rfl rfl dot_S16x256_S256x256_S16x256_1_1_0_0_n_n rfl rfl rfl rfl rfl rfl _ _ _ _ _ _ _ _ _ b c i j

theorem zr2 (b : Fin 16) (c : Fin 256) (i j : Fin 80) : res_main_v519 V (ix4 b c i j)
    = zval (imgc V b) (gate (avg κ2 (imgc V b)) (par2 V).rfw (par2 V).rfb) (par2 V).rcw (par2 V).rbs (par2 V).rbb c i j := by
  unfold res_main_v519
  exact zTerm κ2 (V (Proc.devRef .tc main_arg2)) (res_main_v401 V) (mean2 V) (V (Proc.devRef .tc main_arg36)) (V (Proc.devRef .tc main_arg38)) (V (Proc.devRef .tc main_arg37)) (V (Proc.devRef .tc main_arg39)) (V (Proc.devRef .tc main_arg40))
    dot_S16x256x80x80_S256x256_S16x80x80x256_1_1_023_0_n_n rfl rfl rfl rfl rfl rfl dot_S16x256_S256x256_S16x256_1_1_0_0_n_n rfl rfl rfl rfl rfl rfl _ _ _ _ _ _ _ _ _ b c i j

theorem clsLogit2 (b : Fin 16) (o : Fin 80) (i j : Fin 80) :
    (res_main_v489 V : FVec Ideal S16x80x80x80 .f32) (ix4 b o i j) = conv9 (clsIn κ2 (par2 V) (imgc V b)) (par2 V).pcw (par2 V).pcb o i j := by
  unfold res_main_v489
  have T := fun ky kx off hoff hs hs' => tapTerm rfl rfl (fun b => clsIn κ2 (par2 V) (imgc V b)) (addf (swished bcast_S_S16x256x80x80 (res_main_v424 V)) (V (Proc.devRef .tc main_arg2))) (clsInTerm κ2 (par2 V) (V (Proc.devRef .tc main_arg2)) _ _ (zc2 V))
    pads_S16x256x80x80_S16x256x82x82_000_000_110_110 h_S_ (res_main_v433 V) rfl (V (Proc.devRef .tc main_arg41)) dot_S16x256x80x80_S80x256_S16x80x80x80_1_1_023_0_n_n rfl rfl rfl rfl rfl rfl
    transposes_S16x80x80x80_S16x80x80x80_0_3_1_2 shapeCasts_S80x256x1x1_S80x256 b o i j ky kx off hoff hs hs'
  exact conv9Term (clsIn κ2 (par2 V) (imgc V b)) (par2 V).pcw (par2 V).pcb o i j _ _ _ _ _ _ _ _ _ _ _ (T 0 0 _ rfl _ _) (T 0 1 _ rfl _ _) (T 0 2 _ rfl _ _)
    (T 1 0 _ rfl _ _) (T 1 1 _ rfl _ _) (T 1 2 _ rfl _ _) (T 2 0 _ rfl _ _) (T 2 1 _ rfl _ _) (T 2 2 _ rfl _ _) (chan4 (V (Proc.devRef .tc main_arg42)) _ _ b o i j)

theorem regLogit2 (b : Fin 16) (o : Fin 68) (i j : Fin 80) :
    (res_main_v583 V : FVec Ideal S16x68x80x80 .f32) (ix4 b o i j) = conv9 (regIn κ2 (par2 V) (imgc V b)) (par2 V).prw (par2 V).prb o i j := by
  unfold res_main_v583
  have T := fun ky kx off hoff hs hs' => tapTerm rfl rfl (fun b => regIn κ2 (par2 V) (imgc V b)) (swished bcast_S_S16x256x80x80 (res_main_v519 V)) (regInTerm κ2 (par2 V) (V (Proc.devRef .tc main_arg2)) _ _ (zr2 V))
    pads_S16x256x80x80_S16x256x82x82_000_000_110_110 h_S_ (res_main_v527 V) rfl (V (Proc.devRef .tc main_arg43)) dot_S16x256x80x80_S68x256_S16x80x80x68_1_1_023_0_n_n rfl rfl rfl rfl rfl rfl
    transposes_S16x80x80x68_S16x68x80x80_0_3_1_2 shapeCasts_S68x256x1x1_S68x256 b o i j ky kx off hoff hs hs'
  exact conv9Term (regIn κ2 (par2 V) (imgc V b)) (par2 V).prw (par2 V).prb o i j _ _ _ _ _ _ _ _ _ _ _ (T 0 0 _ rfl _ _) (T 0 1 _ rfl _ _) (T 0 2 _ rfl _ _)
    (T 1 0 _ rfl _ _) (T 1 1 _ rfl _ _) (T 1 2 _ rfl _ _) (T 2 0 _ rfl _ _) (T 2 1 _ rfl _ _) (T 2 2 _ rfl _ _) (chan4 (V (Proc.devRef .tc main_arg44)) _ _ b o i j)

/-- The scores of scale 2. -/
theorem scores2 (b : Fin 16) (o : Fin 80) (q : Fin 6400) :
    (shapeCast S16x80x6400 (Host.divf (broadcastInDim S16x80x80x80 ![] bcast_S_S16x80x80x80 (constant (F := Ideal) S_ .f32 0x3F800000#32))
      (addf (broadcastInDim S16x80x80x80 ![] bcast_S_S16x80x80x80 (constant (F := Ideal) S_ .f32 0x3F800000#32)) (Host.exp (Host.negf (res_main_v489 V)))))
      shapeCasts_S16x80x80x80_S16x80x6400 : FVec Ideal S16x80x6400 .f32) (ix3 b o q) = scoreAt hw2 κ2 (par2 V) (imgc V b) o q := by
  unfold scoreAt score
  rw [← clsLogit2 V b o (rowq hw2 q) (colq hw2 q)]
  exact scoresTerm hw2 _ _ _ b o q

/-- The logits of the distributions of scale 2, as they are integrated. -/
def row2 (b : Fin 16) (f : Fin 4) (q : Fin 6400) (k : Fin 17) : EReal := res_main_v585 V (ix4 b k f q)

theorem row2_eq (b : Fin 16) (f : Fin 4) (q : Fin 6400) (k : Fin 17) :
    row2 V b f q k = conv9 (regIn κ2 (par2 V) (imgc V b)) (par2 V).prw (par2 V).prb ⟨17 * f.val + k.val, by omega⟩ (rowq hw2 q) (colq hw2 q) := by
  unfold row2 res_main_v585
  exact (logitsTerm hw2 _ _ _ b k f q).trans (regLogit2 V b _ _ _)

/-- The distances of scale 2. -/
theorem dists2 (b : Fin 16) (f : Fin 4) (q : Fin 6400) :
    (Host.dotGeneral (φ₁ := .f32) (φ₂ := .f32) dot_S17_S16x17x4x6400_S16x4x6400_0_1_n_023_n_n none (res_main_v0 V : FVec Ideal S17 .f32) (Host.divf (res_main_v592 V : FVec Ideal S16x17x4x6400 .f32) (broadcastInDim S16x17x4x6400 ![0, 1, 2, 3] bcast_S16x1x4x6400_S16x17x4x6400_0_1_2_3
      (broadcastInDim S16x1x4x6400 ![0, 2, 3] bcast_S16x4x6400_S16x1x4x6400_0_2_3 (Host.reduceAdd (res_main_v592 V) (constant (F := Ideal) S_ .f32 0x00000000#32) reducesTo_S16x17x4x6400_S16x4x6400_d1 h_S_))))
      : FVec Ideal S16x4x6400 .f32) (ix3 b f q) = distAt hw2 κ2 (par2 V) (imgc V b) f q := by
  have he : ∀ b k f q, res_main_v592 V (ix4 b k f q) = ex (row2 V b f q) k := fun b k f q => by
    unfold res_main_v592
    exact expTerm (res_main_v585 V) _ _ _ _ (by decide) _ b k f q
  refine (integralTerm (row2 V) (res_main_v592 V) he _ _ _ (by decide) _ dot_S17_S16x17x4x6400_S16x4x6400_0_1_n_023_n_n rfl rfl rfl rfl rfl rfl (res_main_v0 V) numberTerm b f q).trans ?_
  exact congrArg integral (funext fun k => row2_eq V b f q k)

end Cert.ReferenceIdeal.Value

end
-- ==== Proof.RefResult.lean ====
/-
  What the reference's two computed results hold: at image `b`, channel `o` and lane `q`, the head on the scale that the
  lane belongs to.
-/
module

public import proofs.«01_k».proof.Proof.Ref0
public import proofs.«01_k».proof.Proof.Ref1
public import proofs.«01_k».proof.Proof.Ref2

@[expose] public section

set_option maxRecDepth 65536

noncomputable section

namespace Cert.ReferenceIdeal.Value

open Cert.ReferenceIdeal Cert.ReferenceIdeal.Gen Idealize.ShloMosaic Idealize.ShloMosaic.TcCoe Idealize.ShloMosaic.ValueIdx Idealize.SL.Sem Cert.Head

variable (V : Valuation τ sig (Elt Ideal))

/-- The scores: the three scales' lanes side by side. -/
theorem scores (b : Fin 16) (o : Fin 80) (q : Fin 8400) : (val12 V (Proc.devRef .tc main_v598)) (ix3 b o q)
    = join3 (scoreAt hw0 κ0 (par0 V) (imga V b) o) (scoreAt hw1 κ1 (par1 V) (imgb V b) o) (scoreAt hw2 κ2 (par2 V) (imgc V b) o) q := by
  refine (congrFun (val12_main_v598 V) _).trans ?_
  exact joined _ _ _ concatenates_S16x80x400_S16x80x1600_S16x80x6400_S16x80x8400_d2 b o _ _ _ (scores0 V b o) (scores1 V b o) (scores2 V b o) q

/-- The distances: the three scales' lanes side by side. -/
theorem dists (b : Fin 16) (o : Fin 4) (q : Fin 8400) : (val12 V (Proc.devRef .tc main_v599)) (ix3 b o q)
    = join3 (distAt hw0 κ0 (par0 V) (imga V b) o) (distAt hw1 κ1 (par1 V) (imgb V b) o) (distAt hw2 κ2 (par2 V) (imgc V b) o) q := by
  refine (congrFun (val12_main_v599 V) _).trans ?_
  exact joined _ _ _ concatenates_S16x4x400_S16x4x1600_S16x4x6400_S16x4x8400_d2 b o _ _ _ (dists0 V b o) (dists1 V b o) (dists2 V b o) q

end Cert.ReferenceIdeal.Value

end
-- ==== Proof.Finite.lean ====
/-
  What the precondition says of the arguments: every entry of the images, of the channel products and of their scales is
  a real number.
-/
module

public import proofs.«01_k».proof.Pre_finite_operands
public import proofs.«01_k».proof.Proof.Spec
public import Idealize.ShloMosaic.Lib.ReduceAll
public import Idealize.ShloMosaic.Lib.IdealHost
public import Idealize.ShloMosaic.Lib.Affine
public import Idealize.ShloMosaic.Lib.Pipeline.ValueKit.Geometry

@[expose] public section

set_option maxRecDepth 65536

noncomputable section

namespace Cert.Head

open Idealize.ShloMosaic Idealize.ShloMosaic.ValueIdx

/-- A value whose absolute value is below infinity is a real number. -/
theorem fin_of_olt (x : EReal) (h : Ideal.cmp .olt (max x (-x)) ⊤ = 1#1) : Fin' x := by
  have hx : max x (-x) < ⊤ := by
    by_contra hn
    simp [Ideal.cmp, hn] at h
  rw [max_lt_iff] at hx
  induction x with
  | bot => simp at hx
  | top => simp at hx
  | coe r => exact ⟨r, rfl⟩

/-- An array whose entries all pass the test of the precondition holds real numbers only. -/
theorem fin_of_all {s : Shape} {axes : List (Fin s.rank)} (x : FVec Ideal s .f32) (hb : (⟨0, ![]⟩ : Shape).BroadcastsInDim s ![])
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) (⟨0, ![]⟩ : Shape) .f32 0x7F800000#32)))
      (constantI (⟨0, ![]⟩ : Shape) 1 1#1) h hu j = 1#1) (i : s.Idx) : Fin' (x i) := by
  haveI : Subsingleton (⟨0, ![]⟩ : Shape).Idx := ⟨fun a b => funext fun k => k.elim0⟩
  have ht : Ideal.ofBits .f32 0x7F800000#32 = ⊤ := by simp [Ideal.ofBits, Ideal.ieee]
  have e1 := Host.reduce_andi_all _ _ h hu j e i
  have e2 : Ideal.cmp .olt (max (x i : EReal) (-(x i : EReal))) (Ideal.ofBits .f32 0x7F800000#32) = 1#1 := e1
  rw [ht] at e2
  exact fin_of_olt _ e2

open Cert.Pre_finite_operands in
/-- The precondition, read off argument by argument. -/
theorem finite_of_pre [Cert.Pre_finite_operands.Facts]
    (a0 : FVec Ideal S16x1024x20x20 .f32) (a1 : FVec Ideal S16x512x40x40 .f32) (a2 : FVec Ideal S16x256x80x80 .f32)
    (a3 : FVec Ideal S1024x1024x1x1 .f32) (a4 : FVec Ideal S1024 .f32) (a5 : FVec Ideal S1024x1024x1x1 .f32) (a6 a7 : FVec Ideal S1024 .f32)
    (a8 : FVec Ideal S1024x1024x1x1 .f32) (a9 : FVec Ideal S1024 .f32) (a10 : FVec Ideal S1024x1024x1x1 .f32) (a11 a12 : FVec Ideal S1024 .f32)
    (a13 : FVec Ideal S80x1024x3x3 .f32) (a14 : FVec Ideal S80 .f32) (a15 : FVec Ideal S68x1024x3x3 .f32) (a16 : FVec Ideal S68 .f32)
    (a17 : FVec Ideal S512x512x1x1 .f32) (a18 : FVec Ideal S512 .f32) (a19 : FVec Ideal S512x512x1x1 .f32) (a20 a21 : FVec Ideal S512 .f32)
    (a22 : FVec Ideal S512x512x1x1 .f32) (a23 : FVec Ideal S512 .f32) (a24 : FVec Ideal S512x512x1x1 .f32) (a25 a26 : FVec Ideal S512 .f32)
    (a27 : FVec Ideal S80x512x3x3 .f32) (a28 : FVec Ideal S80 .f32) (a29 : FVec Ideal S68x512x3x3 .f32) (a30 : FVec Ideal S68 .f32)
    (a31 : FVec Ideal S256x256x1x1 .f32) (a32 : FVec Ideal S256 .f32) (a33 : FVec Ideal S256x256x1x1 .f32) (a34 a35 : FVec Ideal S256 .f32)
    (a36 : FVec Ideal S256x256x1x1 .f32) (a37 : FVec Ideal S256 .f32) (a38 : FVec Ideal S256x256x1x1 .f32) (a39 a40 : FVec Ideal S256 .f32)
    (a41 : FVec Ideal S80x256x3x3 .f32) (a42 : FVec Ideal S80 .f32) (a43 : FVec Ideal S68x256x3x3 .f32) (a44 : FVec Ideal S68 .f32)
    (e : Cert.Pre_finite_operands.fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 = fun _ => 1#1) :
    (∀ i, Fin' (a0 i)) ∧ (∀ i, Fin' (a1 i)) ∧ (∀ i, Fin' (a2 i)) ∧ (∀ i, Fin' (a5 i)) ∧ (∀ i, Fin' (a6 i)) ∧ (∀ i, Fin' (a10 i)) ∧ (∀ i, Fin' (a11 i)) ∧ (∀ i, Fin' (a19 i)) ∧ (∀ i, Fin' (a20 i)) ∧ (∀ i, Fin' (a24 i)) ∧ (∀ i, Fin' (a25 i)) ∧ (∀ i, Fin' (a33 i)) ∧ (∀ i, Fin' (a34 i)) ∧ (∀ i, Fin' (a38 i)) ∧ (∀ i, Fin' (a39 i)) := by
  have e0 := congrFun e ix0
  have ha : ∀ (x y : IVec S_ 1) i, andi x y i = 1#1 ↔ x i = 1#1 ∧ y i = 1#1 := fun _ _ _ => IntOp.andi_eq_one
  dsimp only [fn, fn_part1, fn_part2, fn_part3, fn_part4] at e0
  simp only [ha] at e0
  obtain ⟨⟨⟨⟨⟨⟨⟨⟨⟨⟨⟨⟨⟨⟨c0, c1⟩, c2⟩, c3⟩, c4⟩, c5⟩, c6⟩, c7⟩, c8⟩, c9⟩, c10⟩, c11⟩, c12⟩, c13⟩, c14⟩ := e0
  exact ⟨fin_of_all _ _ _ _ _ c0, fin_of_all _ _ _ _ _ c1, fin_of_all _ _ _ _ _ c2, fin_of_all _ _ _ _ _ c3, fin_of_all _ _ _ _ _ c4, fin_of_all _ _ _ _ _ c5, fin_of_all _ _ _ _ _ c6, fin_of_all _ _ _ _ _ c7, fin_of_all _ _ _ _ _ c8, fin_of_all _ _ _ _ _ c9, fin_of_all _ _ _ _ _ c10, fin_of_all _ _ _ _ _ c11, fin_of_all _ _ _ _ _ c12, fin_of_all _ _ _ _ _ c13, fin_of_all _ _ _ _ _ c14⟩

end Cert.Head

end
-- ==== Proof.Equation.lean ====
/-
  The equation: on equal arguments, the finite ones finite, the kernel's results are the reference's.
-/
module

public import proofs.«01_k».proof.Proof.Result
public import proofs.«01_k».proof.Proof.RefResult
public import proofs.«01_k».proof.Proof.Finite

@[expose] public section

set_option maxRecDepth 65536

noncomputable section

namespace Cert.Head

open Idealize.ShloMosaic Idealize.ShloMosaic.TcCoe Idealize.ShloMosaic.ValueIdx Idealize.SL.Sem

/-- The two programs' arguments are the same arrays. -/
def SameArgs (U : Valuation Cert.KernelIdeal.τ Cert.KernelIdeal.sig (Elt Ideal))
    (V : Valuation Cert.ReferenceIdeal.τ Cert.ReferenceIdeal.sig (Elt Ideal)) : Prop :=
  V (Proc.devRef .tc Cert.ReferenceIdeal.main_arg0) = U (Proc.devRef .tc Cert.KernelIdeal.main_arg0)
    ∧ V (Proc.devRef .tc Cert.ReferenceIdeal.main_arg1) = U (Proc.devRef .tc Cert.KernelIdeal.main_arg1)
    ∧ V (Proc.devRef .tc Cert.ReferenceIdeal.main_arg2) = U (Proc.devRef .tc Cert.KernelIdeal.main_arg2)
    ∧ V (Proc.devRef .tc Cert.ReferenceIdeal.main_arg3) = U (Proc.devRef .tc Cert.KernelIdeal.main_arg3)
    ∧ V (Proc.devRef .tc Cert.ReferenceIdeal.main_arg4) = U (Proc.devRef .tc Cert.KernelIdeal.main_arg4)
    ∧ V (Proc.devRef .tc Cert.ReferenceIdeal.main_arg5) = U (Proc.devRef .tc Cert.KernelIdeal.main_arg5)
    ∧ V (Proc.devRef .tc Cert.ReferenceIdeal.main_arg6) = U (Proc.devRef .tc Cert.KernelIdeal.main_arg6)
    ∧ V (Proc.devRef .tc Cert.ReferenceIdeal.main_arg7) = U (Proc.devRef .tc Cert.KernelIdeal.main_arg7)
    ∧ V (Proc.devRef .tc Cert.ReferenceIdeal.main_arg8) = U (Proc.devRef .tc Cert.KernelIdeal.main_arg8)
    ∧ V (Proc.devRef .tc Cert.ReferenceIdeal.main_arg9) = U (Proc.devRef .tc Cert.KernelIdeal.main_arg9)
    ∧ V (Proc.devRef .tc Cert.ReferenceIdeal.main_arg10) = U (Proc.devRef .tc Cert.KernelIdeal.main_arg10)
    ∧ V (Proc.devRef .tc Cert.ReferenceIdeal.main_arg11) = U (Proc.devRef .tc Cert.KernelIdeal.main_arg11)
    ∧ V (Proc.devRef .tc Cert.ReferenceIdeal.main_arg12) = U (Proc.devRef .tc Cert.KernelIdeal.main_arg12)
    ∧ V (Proc.devRef .tc Cert.ReferenceIdeal.main_arg13) = U (Proc.devRef .tc Cert.KernelIdeal.main_arg13)
    ∧ V (Proc.devRef .tc Cert.ReferenceIdeal.main_arg14) = U (Proc.devRef .tc Cert.KernelIdeal.main_arg14)
    ∧ V (Proc.devRef .tc Cert.ReferenceIdeal.main_arg15) = U (Proc.devRef .tc Cert.KernelIdeal.main_arg15)
    ∧ V (Proc.devRef .tc Cert.ReferenceIdeal.main_arg16) = U (Proc.devRef .tc Cert.KernelIdeal.main_arg16)
    ∧ V (Proc.devRef .tc Cert.ReferenceIdeal.main_arg17) = U (Proc.devRef .tc Cert.KernelIdeal.main_arg17)
    ∧ V (Proc.devRef .tc Cert.ReferenceIdeal.main_arg18) = U (Proc.devRef .tc Cert.KernelIdeal.main_arg18)
    ∧ V (Proc.devRef .tc Cert.ReferenceIdeal.main_arg19) = U (Proc.devRef .tc Cert.KernelIdeal.main_arg19)
    ∧ V (Proc.devRef .tc Cert.ReferenceIdeal.main_arg20) = U (Proc.devRef .tc Cert.KernelIdeal.main_arg20)
    ∧ V (Proc.devRef .tc Cert.ReferenceIdeal.main_arg21) = U (Proc.devRef .tc Cert.KernelIdeal.main_arg21)
    ∧ V (Proc.devRef .tc Cert.ReferenceIdeal.main_arg22) = U (Proc.devRef .tc Cert.KernelIdeal.main_arg22)
    ∧ V (Proc.devRef .tc Cert.ReferenceIdeal.main_arg23) = U (Proc.devRef .tc Cert.KernelIdeal.main_arg23)
    ∧ V (Proc.devRef .tc Cert.ReferenceIdeal.main_arg24) = U (Proc.devRef .tc Cert.KernelIdeal.main_arg24)
    ∧ V (Proc.devRef .tc Cert.ReferenceIdeal.main_arg25) = U (Proc.devRef .tc Cert.KernelIdeal.main_arg25)
    ∧ V (Proc.devRef .tc Cert.ReferenceIdeal.main_arg26) = U (Proc.devRef .tc Cert.KernelIdeal.main_arg26)
    ∧ V (Proc.devRef .tc Cert.ReferenceIdeal.main_arg27) = U (Proc.devRef .tc Cert.KernelIdeal.main_arg27)
    ∧ V (Proc.devRef .tc Cert.ReferenceIdeal.main_arg28) = U (Proc.devRef .tc Cert.KernelIdeal.main_arg28)
    ∧ V (Proc.devRef .tc Cert.ReferenceIdeal.main_arg29) = U (Proc.devRef .tc Cert.KernelIdeal.main_arg29)
    ∧ V (Proc.devRef .tc Cert.ReferenceIdeal.main_arg30) = U (Proc.devRef .tc Cert.KernelIdeal.main_arg30)
    ∧ V (Proc.devRef .tc Cert.ReferenceIdeal.main_arg31) = U (Proc.devRef .tc Cert.KernelIdeal.main_arg31)
    ∧ V (Proc.devRef .tc Cert.ReferenceIdeal.main_arg32) = U (Proc.devRef .tc Cert.KernelIdeal.main_arg32)
    ∧ V (Proc.devRef .tc Cert.ReferenceIdeal.main_arg33) = U (Proc.devRef .tc Cert.KernelIdeal.main_arg33)
    ∧ V (Proc.devRef .tc Cert.ReferenceIdeal.main_arg34) = U (Proc.devRef .tc Cert.KernelIdeal.main_arg34)
    ∧ V (Proc.devRef .tc Cert.ReferenceIdeal.main_arg35) = U (Proc.devRef .tc Cert.KernelIdeal.main_arg35)
    ∧ V (Proc.devRef .tc Cert.ReferenceIdeal.main_arg36) = U (Proc.devRef .tc Cert.KernelIdeal.main_arg36)
    ∧ V (Proc.devRef .tc Cert.ReferenceIdeal.main_arg37) = U (Proc.devRef .tc Cert.KernelIdeal.main_arg37)
    ∧ V (Proc.devRef .tc Cert.ReferenceIdeal.main_arg38) = U (Proc.devRef .tc Cert.KernelIdeal.main_arg38)
    ∧ V (Proc.devRef .tc Cert.ReferenceIdeal.main_arg39) = U (Proc.devRef .tc Cert.KernelIdeal.main_arg39)
    ∧ V (Proc.devRef .tc Cert.ReferenceIdeal.main_arg40) = U (Proc.devRef .tc Cert.KernelIdeal.main_arg40)
    ∧ V (Proc.devRef .tc Cert.ReferenceIdeal.main_arg41) = U (Proc.devRef .tc Cert.KernelIdeal.main_arg41)
    ∧ V (Proc.devRef .tc Cert.ReferenceIdeal.main_arg42) = U (Proc.devRef .tc Cert.KernelIdeal.main_arg42)
    ∧ V (Proc.devRef .tc Cert.ReferenceIdeal.main_arg43) = U (Proc.devRef .tc Cert.KernelIdeal.main_arg43)
    ∧ V (Proc.devRef .tc Cert.ReferenceIdeal.main_arg44) = U (Proc.devRef .tc Cert.KernelIdeal.main_arg44)

section

variable {U : Valuation Cert.KernelIdeal.τ Cert.KernelIdeal.sig (Elt Ideal)} {V : Valuation Cert.ReferenceIdeal.τ Cert.ReferenceIdeal.sig (Elt Ideal)}

/-- Equal arguments give equal parameters and equal images, on each of the three scales. -/
theorem same (h : SameArgs U V) :
    Cert.ReferenceIdeal.Value.par0 V = Cert.KernelIdeal.Gen.par0 U
    ∧ Cert.ReferenceIdeal.Value.par1 V = Cert.KernelIdeal.Gen.par1 U
    ∧ Cert.ReferenceIdeal.Value.par2 V = Cert.KernelIdeal.Gen.par2 U
    ∧ (∀ b : Fin 16, Cert.ReferenceIdeal.Value.imga V b = Cert.KernelIdeal.Gen.imga U b)
    ∧ (∀ b : Fin 16, Cert.ReferenceIdeal.Value.imgb V b = Cert.KernelIdeal.Gen.imgb U b)
    ∧ (∀ b : Fin 16, Cert.ReferenceIdeal.Value.imgc V b = Cert.KernelIdeal.Gen.imgc U b) := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44⟩ := h
  exact ⟨by unfold Cert.ReferenceIdeal.Value.par0 Cert.KernelIdeal.Gen.par0; rw [h3, h4, h5, h6, h7, h8, h9, h10, h11, h12, h13, h14, h15, h16],
    by unfold Cert.ReferenceIdeal.Value.par1 Cert.KernelIdeal.Gen.par1; rw [h17, h18, h19, h20, h21, h22, h23, h24, h25, h26, h27, h28, h29, h30],
    by unfold Cert.ReferenceIdeal.Value.par2 Cert.KernelIdeal.Gen.par2; rw [h31, h32, h33, h34, h35, h36, h37, h38, h39, h40, h41, h42, h43, h44],
    fun b => by funext k y x; exact congrFun h0 (ix4 b k y x),
    fun b => by funext k y x; exact congrFun h1 (ix4 b k y x),
    fun b => by funext k y x; exact congrFun h2 (ix4 b k y x)⟩

/-- The constants by which the kernel multiplies where the reference divides. -/
theorem inv0_eq : Cert.KernelIdeal.Gen.inv0 = Cert.ReferenceIdeal.Value.κ0 := rfl
theorem inv1_eq : Cert.KernelIdeal.Gen.inv1 = Cert.ReferenceIdeal.Value.κ1 := rfl
theorem inv2_eq : Cert.KernelIdeal.Gen.inv2 = Cert.ReferenceIdeal.Value.κ2 := rfl

end

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V : Valuation Cert.ReferenceIdeal.τ Cert.ReferenceIdeal.sig (Elt Ideal))

/-- The scores of the two programs are equal. -/
theorem scores_eq (hU : Cert.KernelIdeal.Gen.FiniteArgs (Cert.KernelIdeal.Gen.U0 m ρ c)) (h : SameArgs (Cert.KernelIdeal.Gen.U0 m ρ c) V) :
    Cert.KernelIdeal.Gen.W7 m ρ c (Proc.devRef .tc Cert.KernelIdeal.main_v77_0)
      = Cert.ReferenceIdeal.Value.val12 V (Proc.devRef .tc Cert.ReferenceIdeal.main_v598) := by
  funext i
  obtain ⟨b, o, q, rfl⟩ : ∃ (b : Fin 16) (o : Fin 80) (q : Fin 8400), i = ix3 b o q := ⟨i 0, i 1, i 2, eq_ix3 i⟩
  refine (Cert.KernelIdeal.Gen.result_11 m ρ c hU b o q).trans (Eq.trans ?_ (Cert.ReferenceIdeal.Value.scores V b o q).symm)
  obtain ⟨p0, p1, p2, x0, x1, x2⟩ := same h
  rw [p0, p1, p2, x0, x1, x2, inv0_eq, inv1_eq, inv2_eq]

/-- The distances of the two programs are equal. -/
theorem dists_eq (hU : Cert.KernelIdeal.Gen.FiniteArgs (Cert.KernelIdeal.Gen.U0 m ρ c)) (h : SameArgs (Cert.KernelIdeal.Gen.U0 m ρ c) V) :
    Cert.KernelIdeal.Gen.W7 m ρ c (Proc.devRef .tc Cert.KernelIdeal.main_v77_1)
      = Cert.ReferenceIdeal.Value.val12 V (Proc.devRef .tc Cert.ReferenceIdeal.main_v599) := by
  funext i
  obtain ⟨b, o, q, rfl⟩ : ∃ (b : Fin 16) (o : Fin 4) (q : Fin 8400), i = ix3 b o q := ⟨i 0, i 1, i 2, eq_ix3 i⟩
  refine (Cert.KernelIdeal.Gen.result_12 m ρ c hU b o q).trans (Eq.trans ?_ (Cert.ReferenceIdeal.Value.dists V b o q).symm)
  obtain ⟨p0, p1, p2, x0, x1, x2⟩ := same h
  rw [p0, p1, p2, x0, x1, x2, inv0_eq, inv1_eq, inv2_eq]

end Cert.Head

end
-- ==== Proof.Values.lean ====
/-
  The value claim: from equal arguments that satisfy the precondition, both programs end with the same four results, and
  with their arguments as launched.
-/
module

public import proofs.«01_k».proof.Defs
public import proofs.«01_k».proof.Proof.Run
public import proofs.«01_k».proof.Proof.Grid
public import proofs.«01_k».proof.Proof.Equation

@[expose] public section

set_option maxRecDepth 65536

noncomputable section

namespace Cert.KernelIdeal.Gen

open Idealize.ShloMosaic Idealize.ShloMosaic.TcCoe Idealize.SL.Sem Cert.Head

/-- The precondition of the certificate is what the kernel's values ask of the arguments. -/
theorem finiteArgs [Cert.Pre_finite_operands.Facts] (m : (ℓ : Loc nD τ sig) → Buf (Elt Ideal) ℓ) (ρ : Dev nD → PrngReg) (c : Dev nD)
    (h : Cert.Pre_KernelIdeal_finite_operands m) : FiniteArgs (U0 m ρ c) := by
  obtain ⟨h0, h1, h2, h5, h6, h10, h11, h19, h20, h24, h25, h33, h34, h38, h39⟩ := finite_of_pre _ _ _ _ _ _ _ _ _ _ _ _ _ _ _ _ _ _ _ _ _ _ _ _ _ _ _ _ _ _ _ _ _ _ _ _ _ _ _ _ _ _ _ _ _ (h c)
  exact
    { p0 := ⟨fun _ _ => h5 _, fun _ => h6 _, fun _ _ => h10 _, fun _ => h11 _⟩
      p1 := ⟨fun _ _ => h19 _, fun _ => h20 _, fun _ _ => h24 _, fun _ => h25 _⟩
      p2 := ⟨fun _ _ => h33 _, fun _ => h34 _, fun _ _ => h38 _, fun _ => h39 _⟩
      x0 := fun _ _ _ _ => h0 _
      x1 := fun _ _ _ _ => h1 _
      x2 := fun _ _ _ _ => h2 _ }

/-- The value claim. -/
theorem values [Cert.Pre_finite_operands.Facts] : Cert.algebraic_KernelIdeal_ReferenceIdeal_pre_finite_operands := by
  intro m g m' g' hpre hargs
  refine ⟨fun c => W7 m g c (Proc.devRef .tc main_v77_0), fun c => W7 m g c (Proc.devRef .tc main_v77_1),
    fun c => W7 m g c (Proc.devRef .tc main_v117), fun c => W7 m g c (Proc.devRef .tc main_v118), ?_, ?_⟩
  · refine (θ_run defs _ _).mono (fun r h c => ?_) (ends m g)
    have k : ∀ a : Ref sig .tc, a ∈ argRefs → ¬ (Proc.devRef .tc a : DevRef τ sig).isScoped →
        r.2.mem ((c.tc : Thread nD τ).loc a) = m ((c.tc : Thread nD τ).loc a) :=
      fun a ha hs => (h c _ (mem_uc a hs)).trans (W7_args m g c a ha)
    exact ⟨h c _ (mem_uc main_v77_0 (by decide)), h c _ (mem_uc main_v77_1 (by decide)), h c _ (mem_uc main_v117 (by decide)), h c _ (mem_uc main_v118 (by decide)),
      k main_arg0 (by decide) (by decide),
      k main_arg1 (by decide) (by decide),
      k main_arg2 (by decide) (by decide),
      k main_arg3 (by decide) (by decide),
      k main_arg4 (by decide) (by decide),
      k main_arg5 (by decide) (by decide),
      k main_arg6 (by decide) (by decide),
      k main_arg7 (by decide) (by decide),
      k main_arg8 (by decide) (by decide),
      k main_arg9 (by decide) (by decide),
      k main_arg10 (by decide) (by decide),
      k main_arg11 (by decide) (by decide),
      k main_arg12 (by decide) (by decide),
      k main_arg13 (by decide) (by decide),
      k main_arg14 (by decide) (by decide),
      k main_arg15 (by decide) (by decide),
      k main_arg16 (by decide) (by decide),
      k main_arg17 (by decide) (by decide),
      k main_arg18 (by decide) (by decide),
      k main_arg19 (by decide) (by decide),
      k main_arg20 (by decide) (by decide),
      k main_arg21 (by decide) (by decide),
      k main_arg22 (by decide) (by decide),
      k main_arg23 (by decide) (by decide),
      k main_arg24 (by decide) (by decide),
      k main_arg25 (by decide) (by decide),
      k main_arg26 (by decide) (by decide),
      k main_arg27 (by decide) (by decide),
      k main_arg28 (by decide) (by decide),
      k main_arg29 (by decide) (by decide),
      k main_arg30 (by decide) (by decide),
      k main_arg31 (by decide) (by decide),
      k main_arg32 (by decide) (by decide),
      k main_arg33 (by decide) (by decide),
      k main_arg34 (by decide) (by decide),
      k main_arg35 (by decide) (by decide),
      k main_arg36 (by decide) (by decide),
      k main_arg37 (by decide) (by decide),
      k main_arg38 (by decide) (by decide),
      k main_arg39 (by decide) (by decide),
      k main_arg40 (by decide) (by decide),
      k main_arg41 (by decide) (by decide),
      k main_arg42 (by decide) (by decide),
      k main_arg43 (by decide) (by decide),
      k main_arg44 (by decide) (by decide)⟩
  · refine (θ_run Cert.ReferenceIdeal.defs _ _).mono (fun r h c => ?_) (Cert.ReferenceIdeal.Value.run m' g')
    have hU : FiniteArgs (U0 m g c) := finiteArgs m g c hpre
    have hs : SameArgs (U0 m g c) (StableHlo.launchContents m' c) := hargs c
    obtain ⟨e0, e1, e2, e3, e4⟩ := h c
    exact ⟨e0.trans ((Cert.ReferenceIdeal.Value.val12_main_v598 _).symm.trans (scores_eq m g c _ hU hs).symm),
      e1.trans ((Cert.ReferenceIdeal.Value.val12_main_v599 _).symm.trans (dists_eq m g c _ hU hs).symm),
      e2.trans ((Cert.ReferenceIdeal.Value.val12_main_v639 _).symm.trans (anchors_eq (W6 m g c) (StableHlo.launchContents m' c)).symm),
      e3.trans ((Cert.ReferenceIdeal.Value.val12_main_v640 _).symm.trans (strides_eq (W6 m g c) (StableHlo.launchContents m' c)).symm), e4⟩

end Cert.KernelIdeal.Gen

end
-- ==== Proof.lean ====
/-
  The certificate: the frames of the three programs, the named constants of the idealized kernel, and the equality of the
  kernel's four results with the reference's. Each part is proved in a module under Proof/; here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_operands
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.SL.Sem Cert.Kernel

/-- The three programs' frames, with and without the precondition, the three named constants, and the value claim. -/
theorem claim : Cert.Claim :=
  have ref := fun m g => (θ_run Cert.ReferenceIdeal.defs _ _).mono (fun r h => ⟨fun c => (h c).2.2.2.2, sem_eq_zero_of_no_sems (by decide) r.2⟩)
    (Cert.ReferenceIdeal.Value.run m g)
  ⟨Cert.Kernel.Gen.facts, Cert.KernelIdeal.Gen.facts, Cert.ReferenceIdeal.Gen.facts, Cert.Pre_finite_operands.Gen.facts,
    fun m g _ => Cert.Kernel.Gen.frame m g,
    fun m g _ => Cert.KernelIdeal.Gen.frame m g,
    fun m g _ => Cert.KernelIdeal.Gen.frame m g,
    fun m g _ => ref m g,
    fun m g _ => ref m g,
    ⟨IdealRules.named_const.statement Cert.KernelIdeal.κ "inv_400" .f32 0x3B23D70A#32 _ rfl,
      IdealRules.named_const.statement Cert.KernelIdeal.κ "inv_1600" .f32 0x3A23D70A#32 _ rfl,
      IdealRules.named_const.statement Cert.KernelIdeal.κ "inv_6400" .f32 0x3923D70A#32 _ rfl⟩,
    Cert.KernelIdeal.Gen.values⟩

end Cert.Proof

end
